-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def preserves_Kernel_KernelIdeal : Prop :=
  IdealRules.named_const.Statement Cert.KernelIdeal.κ "inv_log_two" .f32 0x3FB8AA3B#32 (((Real.log 2)⁻¹ : ℝ) : EReal)
  ∧ IdealRules.named_const.Statement Cert.KernelIdeal.κ "pow2_underflow" .f32 0x43172C00#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_v33) = v4 c
          ∧ r.2.mem ((c.tc : Thread Cert.ReferenceIdeal.nD Cert.ReferenceIdeal.τ).loc Cert.ReferenceIdeal.main_v34) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v71) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v23) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4))

def preserves_InProj_InProjIdeal : Prop :=
  IdealRules.named_const.Statement Cert.InProjIdeal.κ "q_scale" .f32 0x3E0293EE#32 ((((Real.sqrt 128) * (Real.log 2))⁻¹ : ℝ) : EReal)

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v22) = v0 c
          ∧ r.2.mem ((c.tc : Thread Cert.InProjReferenceIdeal.nD Cert.InProjReferenceIdeal.τ).loc Cert.InProjReferenceIdeal.main_v23) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hPle : Cert.Ple.Facts) (hPleIdeal : Cert.PleIdeal.Facts) (hPleReferenceIdeal : Cert.PleReferenceIdeal.Facts) (hInProj : Cert.InProj.Facts) (hInProjIdeal : Cert.InProjIdeal.Facts) (hInProjReferenceIdeal : Cert.InProjReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Ple (hPle := hPle)
    ∧ quiescent_PleIdeal (hPleIdeal := hPleIdeal)
    ∧ quiescent_PleReferenceIdeal (hPleReferenceIdeal := hPleReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Ple_PleIdeal
    ∧ algebraic_PleIdeal_PleReferenceIdeal (hPleIdeal := hPleIdeal) (hPleReferenceIdeal := hPleReferenceIdeal)
    ∧ preserves_InProj_InProjIdeal
    ∧ algebraic_InProjIdeal_InProjReferenceIdeal (hInProjIdeal := hInProjIdeal) (hInProjReferenceIdeal := hInProjReferenceIdeal)
-- ==== Pre_finite.lean ====
abbrev S16384x8192 : Shape := ⟨2, ![16384, 8192]⟩
abbrev S1024x2048 : Shape := ⟨2, ![1024, 2048]⟩
abbrev S1024x256 : Shape := ⟨2, ![1024, 256]⟩
abbrev S2048x2048 : Shape := ⟨2, ![2048, 2048]⟩
abbrev S5632x2048 : Shape := ⟨2, ![5632, 2048]⟩
abbrev S_ : Shape := ⟨0, ![]⟩

class Facts : Prop where
  bitsLt_bf16_f32 : FTy.bits .bf16 < FTy.bits .f32
  bcast_S_S16384x8192 : S_.BroadcastsInDim S16384x8192 (![] : Fin 0 → Fin S16384x8192.rank)

variable [Facts]

def fn {F : FTy → Type} [FloatOps F] (main_arg0 : FVec F S16384x8192 .bf16) (main_arg1 : FVec F S1024x2048 .f32) (main_arg2 : FVec F S1024x256 .f32) (main_arg3 : FVec F S1024x2048 .f32) (main_arg4 : FVec F S2048x2048 .f32) (main_arg5 : FVec F S5632x2048 .f32) : IVec S16384x8192 1 :=
  let main_v0 : FVec F S16384x8192 .f32 := (extf .f32 · bitsLt_bf16_f32) main_arg0
  let main_v1 : FVec F S16384x8192 .f32 := Host.absf main_v0
  let main_cst : FVec F S_ .f32 := constant S_ .f32 0x7F800000#32
  let main_v2 : FVec F S16384x8192 .f32 := broadcastInDim S16384x8192 ![] bcast_S_S16384x8192 main_cst
  let main_v3 : IVec S16384x8192 1 := cmpf .olt main_v1 main_v2
  main_v3
-- ==== Kernel.lean ====
abbrev S16384x8192 : Shape := ⟨2, ![16384, 8192]⟩
abbrev S1024x2048 : Shape := ⟨2, ![1024, 2048]⟩
abbrev S1024x256 : Shape := ⟨2, ![1024, 256]⟩
abbrev S2048x2048 : Shape := ⟨2, ![2048, 2048]⟩
abbrev S5632x2048 : Shape := ⟨2, ![5632, 2048]⟩
abbrev S16384x1024 : Shape := ⟨2, ![16384, 1024]⟩
abbrev S256x1024 : Shape := ⟨2, ![256, 1024]⟩
abbrev S4096x1024 : Shape := ⟨2, ![4096, 1024]⟩
abbrev S16x2048 : Shape := ⟨2, ![16, 2048]⟩
abbrev S16x256 : Shape := ⟨2, ![16, 256]⟩
abbrev S32x2048 : Shape := ⟨2, ![32, 2048]⟩
abbrev S176x2048 : Shape := ⟨2, ![176, 2048]⟩
abbrev S128x256 : Shape := ⟨2, ![128, 256]⟩
abbrev S256x128 : Shape := ⟨2, ![256, 128]⟩
abbrev S128x128 : Shape := ⟨2, ![128, 128]⟩
abbrev S256x256 : Shape := ⟨2, ![256, 256]⟩
abbrev S256x512 : Shape := ⟨2, ![256, 512]⟩
abbrev S64x128 : Shape := ⟨2, ![64, 128]⟩
abbrev S32x128 : Shape := ⟨2, ![32, 128]⟩
abbrev S16x128 : Shape := ⟨2, ![16, 128]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 12
  | .vmem => 30
  | .smem => 0
  | _ => 0

abbrev bufTy : (tb : Table) → Fin (tcTables nBuf tb) → BufTy
  | .hbm, ⟨0, _⟩ => ⟨S16384x8192, .bf16⟩
  | .hbm, ⟨1, _⟩ => ⟨S1024x2048, .f32⟩
  | .hbm, ⟨2, _⟩ => ⟨S1024x256, .f32⟩
  | .hbm, ⟨3, _⟩ => ⟨S1024x2048, .f32⟩
  | .hbm, ⟨4, _⟩ => ⟨S2048x2048, .f32⟩
  | .hbm, ⟨5, _⟩ => ⟨S5632x2048, .f32⟩
  | .hbm, ⟨6, _⟩ => ⟨S16384x1024, .bf16⟩
  | .hbm, ⟨7, _⟩ => ⟨S1024x2048, .bf16⟩
  | .hbm, ⟨8, _⟩ => ⟨S1024x256, .bf16⟩
  | .hbm, ⟨9, _⟩ => ⟨S1024x2048, .bf16⟩
  | .hbm, ⟨10, _⟩ => ⟨S2048x2048, .bf16⟩
  | .hbm, ⟨11, _⟩ => ⟨S5632x2048, .bf16⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S4096x1024, .bf16⟩
  | .local _ .vmem, ⟨6, _⟩ => ⟨S16x2048, .f32⟩
  | .local _ .vmem, ⟨7, _⟩ => ⟨S16x2048, .f32⟩
  | .local _ .vmem, ⟨8, _⟩ => ⟨S16x256, .f32⟩
  | .local _ .vmem, ⟨9, _⟩ => ⟨S16x256, .f32⟩
  | .local _ .vmem, ⟨10, _⟩ => ⟨S16x2048, .f32⟩
  | .local _ .vmem, ⟨11, _⟩ => ⟨S16x2048, .f32⟩
  | .local _ .vmem, ⟨12, _⟩ => ⟨S32x2048, .f32⟩
  | .local _ .vmem, ⟨13, _⟩ => ⟨S32x2048, .f32⟩
  | .local _ .vmem, ⟨14, _⟩ => ⟨S176x2048, .f32⟩
  | .local _ .vmem, ⟨15, _⟩ => ⟨S176x2048, .f32⟩
  | .local _ .vmem, ⟨16, _⟩ => ⟨S256x1024, .bf16⟩
  | .local _ .vmem, ⟨17, _⟩ => ⟨S256x1024, .bf16⟩
  | .local _ .vmem, ⟨18, _⟩ => ⟨S16x2048, .bf16⟩
  | .local _ .vmem, ⟨19, _⟩ => ⟨S16x2048, .bf16⟩
  | .local _ .vmem, ⟨20, _⟩ => ⟨S16x256, .bf16⟩
  | .local _ .vmem, ⟨21, _⟩ => ⟨S16x256, .bf16⟩
  | .local _ .vmem, ⟨22, _⟩ => ⟨S16x2048, .bf16⟩
  | .local _ .vmem, ⟨23, _⟩ => ⟨S16x2048, .bf16⟩
  | .local _ .vmem, ⟨24, _⟩ => ⟨S32x2048, .bf16⟩
  | .local _ .vmem, ⟨25, _⟩ => ⟨S32x2048, .bf16⟩
  | .local _ .vmem, ⟨26, _⟩ => ⟨S176x2048, .bf16⟩
  | .local _ .vmem, ⟨27, _⟩ => ⟨S176x2048, .bf16⟩
  | .local _ .vmem, ⟨28, _⟩ => ⟨S256x1024, .f32⟩
  | .local _ .vmem, ⟨29, _⟩ => ⟨S256x1024, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![4, 1, 16], ![false, false, false]⟩

def k0_cond1 (i : grid0.Coords) : BitVec 1 :=
  let arg2 : BitVec 32 := BitVec.ofNat 32 (i 2).val
  let c0_i32 : BitVec 32 := 0#32
  let v28 : BitVec 1 := Scalar.cmpi .eq arg2 c0_i32
  let v29 : BitVec 32 := Scalar.extui v28
  let c0_i32_21 : BitVec 32 := 0#32
  let v30 : BitVec 1 := Scalar.cmpi .ne v29 c0_i32_21
  v30

def k0_mult1 (i : grid0.Coords) : BitVec 32 :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  v71
def k0_off1 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let v78 : Index := Scalar.indexCast v72
  let c0_36 : Index := 0#32
  ![v78.toNat, 0]
def k0_off2 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let c128_i32_43 : BitVec 32 := 128#32
  let v95 : BitVec 32 := Scalar.addi v72 c128_i32_43
  let v96 : Index := Scalar.indexCast v95
  let c0_44 : Index := 0#32
  ![v96.toNat, 0]
def k0_off3 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let v158 : Index := Scalar.indexCast v72
  let c128_70 : Index := 128#32
  ![v158.toNat, 128]
def k0_off4 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let c128_i32_78 : BitVec 32 := 128#32
  let v175 : BitVec 32 := Scalar.addi v72 c128_i32_78
  let v176 : Index := Scalar.indexCast v175
  let c128_79 : Index := 128#32
  ![v176.toNat, 128]
def k0_off5 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let v238 : Index := Scalar.indexCast v72
  let c256_104 : Index := 256#32
  ![v238.toNat, 256]
def k0_off6 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let c128_i32_112 : BitVec 32 := 128#32
  let v255 : BitVec 32 := Scalar.addi v72 c128_i32_112
  let v256 : Index := Scalar.indexCast v255
  let c256_113 : Index := 256#32
  ![v256.toNat, 256]
def k0_off7 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let v318 : Index := Scalar.indexCast v72
  let c384_138 : Index := 384#32
  ![v318.toNat, 384]
def k0_off8 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let c128_i32_146 : BitVec 32 := 128#32
  let v335 : BitVec 32 := Scalar.addi v72 c128_i32_146
  let v336 : Index := Scalar.indexCast v335
  let c384_147 : Index := 384#32
  ![v336.toNat, 384]
def k0_off9 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let v398 : Index := Scalar.indexCast v72
  let c512_172 : Index := 512#32
  ![v398.toNat, 512]
def k0_off10 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let c128_i32_180 : BitVec 32 := 128#32
  let v415 : BitVec 32 := Scalar.addi v72 c128_i32_180
  let v416 : Index := Scalar.indexCast v415
  let c512_181 : Index := 512#32
  ![v416.toNat, 512]
def k0_off11 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let v478 : Index := Scalar.indexCast v72
  let c640_206 : Index := 640#32
  ![v478.toNat, 640]
def k0_off12 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let c128_i32_214 : BitVec 32 := 128#32
  let v495 : BitVec 32 := Scalar.addi v72 c128_i32_214
  let v496 : Index := Scalar.indexCast v495
  let c640_215 : Index := 640#32
  ![v496.toNat, 640]
def k0_off13 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let v558 : Index := Scalar.indexCast v72
  let c768_240 : Index := 768#32
  ![v558.toNat, 768]
def k0_off14 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let c128_i32_248 : BitVec 32 := 128#32
  let v575 : BitVec 32 := Scalar.addi v72 c128_i32_248
  let v576 : Index := Scalar.indexCast v575
  let c768_249 : Index := 768#32
  ![v576.toNat, 768]
def k0_off15 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let v638 : Index := Scalar.indexCast v72
  let c896_274 : Index := 896#32
  ![v638.toNat, 896]
def k0_off16 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let c128_i32_282 : BitVec 32 := 128#32
  let v655 : BitVec 32 := Scalar.addi v72 c128_i32_282
  let v656 : Index := Scalar.indexCast v655
  let c896_283 : Index := 896#32
  ![v656.toNat, 896]
def k0_cond2 (i : grid0.Coords) : BitVec 1 :=
  let arg2 : BitVec 32 := BitVec.ofNat 32 (i 2).val
  let c0_i32_22 : BitVec 32 := 0#32
  let v31 : BitVec 1 := Scalar.cmpi .sgt arg2 c0_i32_22
  let v32 : BitVec 32 := Scalar.extui v31
  let c0_i32_23 : BitVec 32 := 0#32
  let v33 : BitVec 1 := Scalar.cmpi .ne v32 c0_i32_23
  v33

def k0_mult2 (i : grid0.Coords) : BitVec 32 :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  v71
def k0_off17 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let v78 : Index := Scalar.indexCast v72
  let c0_36 : Index := 0#32
  ![v78.toNat, 0]
def k0_off18 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let c128_i32_43 : BitVec 32 := 128#32
  let v95 : BitVec 32 := Scalar.addi v72 c128_i32_43
  let v96 : Index := Scalar.indexCast v95
  let c0_44 : Index := 0#32
  ![v96.toNat, 0]
def k0_off19 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let v158 : Index := Scalar.indexCast v72
  let c128_70 : Index := 128#32
  ![v158.toNat, 128]
def k0_off20 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let c128_i32_78 : BitVec 32 := 128#32
  let v175 : BitVec 32 := Scalar.addi v72 c128_i32_78
  let v176 : Index := Scalar.indexCast v175
  let c128_79 : Index := 128#32
  ![v176.toNat, 128]
def k0_off21 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let v238 : Index := Scalar.indexCast v72
  let c256_104 : Index := 256#32
  ![v238.toNat, 256]
def k0_off22 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let c128_i32_112 : BitVec 32 := 128#32
  let v255 : BitVec 32 := Scalar.addi v72 c128_i32_112
  let v256 : Index := Scalar.indexCast v255
  let c256_113 : Index := 256#32
  ![v256.toNat, 256]
def k0_off23 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let v318 : Index := Scalar.indexCast v72
  let c384_138 : Index := 384#32
  ![v318.toNat, 384]
def k0_off24 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let c128_i32_146 : BitVec 32 := 128#32
  let v335 : BitVec 32 := Scalar.addi v72 c128_i32_146
  let v336 : Index := Scalar.indexCast v335
  let c384_147 : Index := 384#32
  ![v336.toNat, 384]
def k0_off25 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let v398 : Index := Scalar.indexCast v72
  let c512_172 : Index := 512#32
  ![v398.toNat, 512]
def k0_off26 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let c128_i32_180 : BitVec 32 := 128#32
  let v415 : BitVec 32 := Scalar.addi v72 c128_i32_180
  let v416 : Index := Scalar.indexCast v415
  let c512_181 : Index := 512#32
  ![v416.toNat, 512]
def k0_off27 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let v478 : Index := Scalar.indexCast v72
  let c640_206 : Index := 640#32
  ![v478.toNat, 640]
def k0_off28 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let c128_i32_214 : BitVec 32 := 128#32
  let v495 : BitVec 32 := Scalar.addi v72 c128_i32_214
  let v496 : Index := Scalar.indexCast v495
  let c640_215 : Index := 640#32
  ![v496.toNat, 640]
def k0_off29 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let v558 : Index := Scalar.indexCast v72
  let c768_240 : Index := 768#32
  ![v558.toNat, 768]
def k0_off30 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let c128_i32_248 : BitVec 32 := 128#32
  let v575 : BitVec 32 := Scalar.addi v72 c128_i32_248
  let v576 : Index := Scalar.indexCast v575
  let c768_249 : Index := 768#32
  ![v576.toNat, 768]
def k0_off31 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let v638 : Index := Scalar.indexCast v72
  let c896_274 : Index := 896#32
  ![v638.toNat, 896]
def k0_off32 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c1_i32_32 : BitVec 32 := 1#32
  let v70 : BitVec 32 := Scalar.subi v27 c1_i32_32
  let c128_i32_33 : BitVec 32 := 128#32
  let v71 : BitVec 32 := Scalar.muli v70 c128_i32_33
  let v72 : BitVec 32 := v71
  let c128_i32_282 : BitVec 32 := 128#32
  let v655 : BitVec 32 := Scalar.addi v72 c128_i32_282
  let v656 : Index := Scalar.indexCast v655
  let c896_283 : Index := 896#32
  ![v656.toNat, 896]
def k0_mult3 (i : grid0.Coords) : BitVec 32 :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c2_i32_307 : BitVec 32 := 2#32
  let v717 : BitVec 32 := Scalar.subi v27 c2_i32_307
  let c1_i32_308 : BitVec 32 := 1#32
  let v718 : BitVec 32 := Scalar.subi v717 c1_i32_308
  let c128_i32_309 : BitVec 32 := 128#32
  let v719 : BitVec 32 := Scalar.muli v718 c128_i32_309
  v719
def k0_off33 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c2_i32_307 : BitVec 32 := 2#32
  let v717 : BitVec 32 := Scalar.subi v27 c2_i32_307
  let c1_i32_308 : BitVec 32 := 1#32
  let v718 : BitVec 32 := Scalar.subi v717 c1_i32_308
  let c128_i32_309 : BitVec 32 := 128#32
  let v719 : BitVec 32 := Scalar.muli v718 c128_i32_309
  let v720 : BitVec 32 := v719
  let v722 : Index := Scalar.indexCast v720
  let c0_312 : Index := 0#32
  ![v722.toNat, 0]
def k0_off34 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c2_i32_307 : BitVec 32 := 2#32
  let v717 : BitVec 32 := Scalar.subi v27 c2_i32_307
  let c1_i32_308 : BitVec 32 := 1#32
  let v718 : BitVec 32 := Scalar.subi v717 c1_i32_308
  let c128_i32_309 : BitVec 32 := 128#32
  let v719 : BitVec 32 := Scalar.muli v718 c128_i32_309
  let v720 : BitVec 32 := v719
  let v769 : Index := Scalar.indexCast v720
  let c128_332 : Index := 128#32
  ![v769.toNat, 128]
def k0_off35 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c2_i32_307 : BitVec 32 := 2#32
  let v717 : BitVec 32 := Scalar.subi v27 c2_i32_307
  let c1_i32_308 : BitVec 32 := 1#32
  let v718 : BitVec 32 := Scalar.subi v717 c1_i32_308
  let c128_i32_309 : BitVec 32 := 128#32
  let v719 : BitVec 32 := Scalar.muli v718 c128_i32_309
  let v720 : BitVec 32 := v719
  let v816 : Index := Scalar.indexCast v720
  let c256_352 : Index := 256#32
  ![v816.toNat, 256]
def k0_off36 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c2_i32_307 : BitVec 32 := 2#32
  let v717 : BitVec 32 := Scalar.subi v27 c2_i32_307
  let c1_i32_308 : BitVec 32 := 1#32
  let v718 : BitVec 32 := Scalar.subi v717 c1_i32_308
  let c128_i32_309 : BitVec 32 := 128#32
  let v719 : BitVec 32 := Scalar.muli v718 c128_i32_309
  let v720 : BitVec 32 := v719
  let v863 : Index := Scalar.indexCast v720
  let c384_372 : Index := 384#32
  ![v863.toNat, 384]
def k0_off37 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c2_i32_307 : BitVec 32 := 2#32
  let v717 : BitVec 32 := Scalar.subi v27 c2_i32_307
  let c1_i32_308 : BitVec 32 := 1#32
  let v718 : BitVec 32 := Scalar.subi v717 c1_i32_308
  let c128_i32_309 : BitVec 32 := 128#32
  let v719 : BitVec 32 := Scalar.muli v718 c128_i32_309
  let v720 : BitVec 32 := v719
  let v910 : Index := Scalar.indexCast v720
  let c512_392 : Index := 512#32
  ![v910.toNat, 512]
def k0_off38 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c2_i32_307 : BitVec 32 := 2#32
  let v717 : BitVec 32 := Scalar.subi v27 c2_i32_307
  let c1_i32_308 : BitVec 32 := 1#32
  let v718 : BitVec 32 := Scalar.subi v717 c1_i32_308
  let c128_i32_309 : BitVec 32 := 128#32
  let v719 : BitVec 32 := Scalar.muli v718 c128_i32_309
  let v720 : BitVec 32 := v719
  let v957 : Index := Scalar.indexCast v720
  let c640_412 : Index := 640#32
  ![v957.toNat, 640]
def k0_off39 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c2_i32_307 : BitVec 32 := 2#32
  let v717 : BitVec 32 := Scalar.subi v27 c2_i32_307
  let c1_i32_308 : BitVec 32 := 1#32
  let v718 : BitVec 32 := Scalar.subi v717 c1_i32_308
  let c128_i32_309 : BitVec 32 := 128#32
  let v719 : BitVec 32 := Scalar.muli v718 c128_i32_309
  let v720 : BitVec 32 := v719
  let v1004 : Index := Scalar.indexCast v720
  let c768_432 : Index := 768#32
  ![v1004.toNat, 768]
def k0_off40 (i : grid0.Coords) : Fin 2 → Nat :=
  let c2_i32 : BitVec 32 := 2#32
  let arg2 : BitVec 32 := BitVec.ofNat 32 (i 2).val
  let v26 : BitVec 32 := Scalar.muli c2_i32 arg2
  let c1_i32 : BitVec 32 := 1#32
  let v27 : BitVec 32 := Scalar.addi v26 c1_i32
  let c2_i32_307 : BitVec 32 := 2#32
  let v717 : BitVec 32 := Scalar.subi v27 c2_i32_307
  let c1_i32_308 : BitVec 32 := 1#32
  let v718 : BitVec 32 := Scalar.subi v717 c1_i32_308
  let c128_i32_309 : BitVec 32 := 128#32
  let v719 : BitVec 32 := Scalar.muli v718 c128_i32_309
  let v720 : BitVec 32 := v719
  let v1051 : Index := Scalar.indexCast v720
  let c896_452 : Index := 896#32
  ![v1051.toNat, 896]
def k0_mult4 (arg19 : BitVec 32) : BitVec 32 :=
  let c1_i32_32 : BitVec 32 := 1#32
  let v70 : BitVec 32 := Scalar.subi arg19 c1_i32_32
  let c128_i32_33 : BitVec 32 := 128#32
  let v71 : BitVec 32 := Scalar.muli v70 c128_i32_33
  v71

def k0_off41 (arg19 : BitVec 32) : Fin 2 → Nat :=
  let c1_i32_32 : BitVec 32 := 1#32
  let v70 : BitVec 32 := Scalar.subi arg19 c1_i32_32
  let c128_i32_33 : BitVec 32 := 128#32
  let v71 : BitVec 32 := Scalar.muli v70 c128_i32_33
  let v72 : BitVec 32 := v71
  let v74 : Index := Scalar.indexCast v72
  let c0_36 : Index := 0#32
  ![v74.toNat, 0]
def k0_off42 (arg19 : BitVec 32) : Fin 2 → Nat :=
  let c1_i32_32 : BitVec 32 := 1#32
  let v70 : BitVec 32 := Scalar.subi arg19 c1_i32_32
  let c128_i32_33 : BitVec 32 := 128#32
  let v71 : BitVec 32 := Scalar.muli v70 c128_i32_33
  let v72 : BitVec 32 := v71
  let v121 : Index := Scalar.indexCast v72
  let c128_55 : Index := 128#32
  ![v121.toNat, 128]
def k0_off43 (arg19 : BitVec 32) : Fin 2 → Nat :=
  let c1_i32_32 : BitVec 32 := 1#32
  let v70 : BitVec 32 := Scalar.subi arg19 c1_i32_32
  let c128_i32_33 : BitVec 32 := 128#32
  let v71 : BitVec 32 := Scalar.muli v70 c128_i32_33
  let v72 : BitVec 32 := v71
  let v168 : Index := Scalar.indexCast v72
  let c256_74 : Index := 256#32
  ![v168.toNat, 256]
def k0_off44 (arg19 : BitVec 32) : Fin 2 → Nat :=
  let c1_i32_32 : BitVec 32 := 1#32
  let v70 : BitVec 32 := Scalar.subi arg19 c1_i32_32
  let c128_i32_33 : BitVec 32 := 128#32
  let v71 : BitVec 32 := Scalar.muli v70 c128_i32_33
  let v72 : BitVec 32 := v71
  let v215 : Index := Scalar.indexCast v72
  let c384_93 : Index := 384#32
  ![v215.toNat, 384]
def k0_off45 (arg19 : BitVec 32) : Fin 2 → Nat :=
  let c1_i32_32 : BitVec 32 := 1#32
  let v70 : BitVec 32 := Scalar.subi arg19 c1_i32_32
  let c128_i32_33 : BitVec 32 := 128#32
  let v71 : BitVec 32 := Scalar.muli v70 c128_i32_33
  let v72 : BitVec 32 := v71
  let v262 : Index := Scalar.indexCast v72
  let c512_112 : Index := 512#32
  ![v262.toNat, 512]
def k0_off46 (arg19 : BitVec 32) : Fin 2 → Nat :=
  let c1_i32_32 : BitVec 32 := 1#32
  let v70 : BitVec 32 := Scalar.subi arg19 c1_i32_32
  let c128_i32_33 : BitVec 32 := 128#32
  let v71 : BitVec 32 := Scalar.muli v70 c128_i32_33
  let v72 : BitVec 32 := v71
  let v309 : Index := Scalar.indexCast v72
  let c640_131 : Index := 640#32
  ![v309.toNat, 640]
def k0_off47 (arg19 : BitVec 32) : Fin 2 → Nat :=
  let c1_i32_32 : BitVec 32 := 1#32
  let v70 : BitVec 32 := Scalar.subi arg19 c1_i32_32
  let c128_i32_33 : BitVec 32 := 128#32
  let v71 : BitVec 32 := Scalar.muli v70 c128_i32_33
  let v72 : BitVec 32 := v71
  let v356 : Index := Scalar.indexCast v72
  let c768_150 : Index := 768#32
  ![v356.toNat, 768]
def k0_off48 (arg19 : BitVec 32) : Fin 2 → Nat :=
  let c1_i32_32 : BitVec 32 := 1#32
  let v70 : BitVec 32 := Scalar.subi arg19 c1_i32_32
  let c128_i32_33 : BitVec 32 := 128#32
  let v71 : BitVec 32 := Scalar.muli v70 c128_i32_33
  let v72 : BitVec 32 := v71
  let v403 : Index := Scalar.indexCast v72
  let c896_169 : Index := 896#32
  ![v403.toNat, 896]

def k0_chk1 (arg19 : BitVec 32) : Prop :=
  (128 ∣ (k0_mult4 arg19).toNat) ∧
  (∀ a, (k0_off41 arg19) a + S256x128.size a ≤ S4096x1024.size a) ∧
  (∀ a, (k0_off42 arg19) a + S256x128.size a ≤ S4096x1024.size a) ∧
  (∀ a, (k0_off43 arg19) a + S256x128.size a ≤ S4096x1024.size a) ∧
  (∀ a, (k0_off44 arg19) a + S256x128.size a ≤ S4096x1024.size a) ∧
  (∀ a, (k0_off45 arg19) a + S256x128.size a ≤ S4096x1024.size a) ∧
  (∀ a, (k0_off46 arg19) a + S256x128.size a ≤ S4096x1024.size a) ∧
  (∀ a, (k0_off47 arg19) a + S256x128.size a ≤ S4096x1024.size a) ∧
  (∀ a, (k0_off48 arg19) a + S256x128.size a ≤ S4096x1024.size a)
theorem k0_mult4_dvd : ∀ (arg19 : BitVec 32) (k0_hw1 : k0_chk1 arg19), 128 ∣ (k0_mult4 arg19).toNat := fun arg19 k0_hw1 => k0_hw1.1
theorem k0_off41_inb : ∀ (arg19 : BitVec 32) (k0_hw1 : k0_chk1 arg19), ∀ a, (k0_off41 arg19) a + S256x128.size a ≤ S4096x1024.size a := fun arg19 k0_hw1 => k0_hw1.2.1
theorem k0_off42_inb : ∀ (arg19 : BitVec 32) (k0_hw1 : k0_chk1 arg19), ∀ a, (k0_off42 arg19) a + S256x128.size a ≤ S4096x1024.size a := fun arg19 k0_hw1 => k0_hw1.2.2.1
theorem k0_off43_inb : ∀ (arg19 : BitVec 32) (k0_hw1 : k0_chk1 arg19), ∀ a, (k0_off43 arg19) a + S256x128.size a ≤ S4096x1024.size a := fun arg19 k0_hw1 => k0_hw1.2.2.2.1
theorem k0_off44_inb : ∀ (arg19 : BitVec 32) (k0_hw1 : k0_chk1 arg19), ∀ a, (k0_off44 arg19) a + S256x128.size a ≤ S4096x1024.size a := fun arg19 k0_hw1 => k0_hw1.2.2.2.2.1
theorem k0_off45_inb : ∀ (arg19 : BitVec 32) (k0_hw1 : k0_chk1 arg19), ∀ a, (k0_off45 arg19) a + S256x128.size a ≤ S4096x1024.size a := fun arg19 k0_hw1 => k0_hw1.2.2.2.2.2.1
theorem k0_off46_inb : ∀ (arg19 : BitVec 32) (k0_hw1 : k0_chk1 arg19), ∀ a, (k0_off46 arg19) a + S256x128.size a ≤ S4096x1024.size a := fun arg19 k0_hw1 => k0_hw1.2.2.2.2.2.2.1
theorem k0_off47_inb : ∀ (arg19 : BitVec 32) (k0_hw1 : k0_chk1 arg19), ∀ a, (k0_off47 arg19) a + S256x128.size a ≤ S4096x1024.size a := fun arg19 k0_hw1 => k0_hw1.2.2.2.2.2.2.2.1
theorem k0_off48_inb : ∀ (arg19 : BitVec 32) (k0_hw1 : k0_chk1 arg19), ∀ a, (k0_off48 arg19) a + S256x128.size a ≤ S4096x1024.size a := fun arg19 k0_hw1 => k0_hw1.2.2.2.2.2.2.2.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c2_i32 : BitVec 32 := 2#32
  let v4 : BitVec 32 := Scalar.divsi v3 c2_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c1_i32_0 : BitVec 32 := 1#32
  let v4 : BitVec 32 := Scalar.divsi v3 c1_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1_i32_0 c0_i32_2
  let v11 : BitVec 32 := Scalar.extui v10
  let c0_i32_3 : BitVec 32 := 0#32
  let v12 : BitVec 1 := Scalar.cmpi .slt c1_i32_0 c0_i32_3
  let v13 : BitVec 32 := Scalar.extui v12
  let v14 : BitVec 32 := Scalar.subi v11 v13
  let v15 : BitVec 1 := Scalar.cmpi .ne v9 v14
  let v16 : BitVec 32 := Scalar.remsi v3 c1_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c16_i32 : BitVec 32 := 16#32
  let v2 : BitVec 32 := Scalar.muli v1 c16_i32
  let v3 : BitVec 32 := Scalar.addi v2 arg2
  let c2_i32 : BitVec 32 := 2#32
  let v4 : BitVec 32 := Scalar.divsi v3 c2_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  ![v20.toNat, c0_i32_5.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S16x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S16x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S16x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S176x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== KernelIdeal.lean ====
variable {F : FTy → Type} [FloatOps F] [Named F]
def κ : String → Option EReal := fun
  | "inv_log_two" => some (((Real.log 2)⁻¹ : ℝ) : EReal)
  | "pow2_underflow" => some ⊤
  | _ => none
-- ==== ReferenceIdeal.lean ====
abbrev S16384x8192 : Shape := ⟨2, ![16384, 8192]⟩
abbrev S1024x2048 : Shape := ⟨2, ![1024, 2048]⟩
abbrev S1024x256 : Shape := ⟨2, ![1024, 256]⟩
abbrev S2048x2048 : Shape := ⟨2, ![2048, 2048]⟩
abbrev S5632x2048 : Shape := ⟨2, ![5632, 2048]⟩
abbrev S16384x1024 : Shape := ⟨2, ![16384, 1024]⟩
abbrev S4x4096x8x128 : Shape := ⟨4, ![4, 4096, 8, 128]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x128x4096 : Shape := ⟨4, ![4, 8, 128, 4096]⟩

abbrev nBuf : Space → Nat
  | .hbm => 82
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S1024x2048, .f32⟩
  | .hbm, ⟨2, _⟩ => ⟨S1024x256, .f32⟩
  | .hbm, ⟨3, _⟩ => ⟨S1024x2048, .f32⟩
  | .hbm, ⟨4, _⟩ => ⟨S2048x2048, .f32⟩
  | .hbm, ⟨5, _⟩ => ⟨S5632x2048, .f32⟩
  | .hbm, ⟨6, _⟩ => ⟨S16384x8192, .f32⟩
  | .hbm, ⟨7, _⟩ => ⟨S16384x1024, .f32⟩
  | .hbm, ⟨8, _⟩ => ⟨S4x4096x8x128, .f32⟩
  | .hbm, ⟨9, _⟩ => ⟨S16384x1024, .f32⟩
  | .hbm, ⟨10, _⟩ => ⟨S4x4096x8x128, .f32⟩
  | .hbm, ⟨11, _⟩ => ⟨S16384x1024, .f32⟩
  | .hbm, ⟨12, _⟩ => ⟨S4x4096x8x128, .f32⟩
  | .hbm, ⟨13, _⟩ => ⟨S4x8x4096x4096, .f32⟩
  | .hbm, ⟨14, _⟩ => ⟨S_, .f32⟩
  | .hbm, ⟨15, _⟩ => ⟨S_, .f32⟩
  | .hbm, ⟨16, _⟩ => ⟨S4x8x4096x4096, .f32⟩
  | .hbm, ⟨17, _⟩ => ⟨S4x8x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S4x8x4096x4096, .f32⟩
  | .hbm, ⟨25, _⟩ => ⟨S4x8x4096x4096, .f32⟩
  | .hbm, ⟨26, _⟩ => ⟨S_, .f32⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .i1⟩
  | .hbm, ⟨32, _⟩ => ⟨S4x8x4096x4096, .f32⟩
  | .hbm, ⟨33, _⟩ => ⟨S4x8x4096x4096, .f32⟩
  | .hbm, ⟨34, _⟩ => ⟨S4x8x4096x4096, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S4x8x4096x4096, .f32⟩
  | .hbm, ⟨41, _⟩ => ⟨S_, .f32⟩
  | .hbm, ⟨42, _⟩ => ⟨S_, .f32⟩
  | .hbm, ⟨43, _⟩ => ⟨S4x8x4096x4096, .i1⟩
  | .hbm, ⟨44, _⟩ => ⟨S4x8x4096x4096, .f32⟩
  | .hbm, ⟨45, _⟩ => ⟨S4x8x4096x4096, .f32⟩
  | .hbm, ⟨46, _⟩ => ⟨S_, .f32⟩
  | .hbm, ⟨47, _⟩ => ⟨S_, .f32⟩
  | .hbm, ⟨48, _⟩ => ⟨S4x8x4096x4096, .f32⟩
  | .hbm, ⟨49, _⟩ => ⟨S4x8x4096x4096, .f32⟩
  | .hbm, ⟨50, _⟩ => ⟨S4x8x4096x4096, .f32⟩
  | .hbm, ⟨51, _⟩ => ⟨S_, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .f32⟩
  | .hbm, ⟨55, _⟩ => ⟨S4x8x4096x4096, .f32⟩
  | .hbm, ⟨56, _⟩ => ⟨S4x8x4096x4096, .i1⟩
  | .hbm, ⟨57, _⟩ => ⟨S4x8x4096x4096, .f32⟩
  | .hbm, ⟨58, _⟩ => ⟨S4x8x4096x4096, .f32⟩
  | .hbm, ⟨59, _⟩ => ⟨S4x8x4096x4096, .f32⟩
  | .hbm, ⟨60, _⟩ => ⟨S4x8x4096x4096, .f32⟩
  | .hbm, ⟨61, _⟩ => ⟨S4x8x4096x4096, .f32⟩
  | .hbm, ⟨62, _⟩ => ⟨S4x8x4096x4096, .f32⟩
  | .hbm, ⟨63, _⟩ => ⟨S4x8x4096x4096, .f32⟩
  | .hbm, ⟨64, _⟩ => ⟨S4x8x4096x4096, .f32⟩
  | .hbm, ⟨65, _⟩ => ⟨S4x8x4096x4096, .f32⟩
  | .hbm, ⟨66, _⟩ => ⟨S4x8x4096x4096, .f32⟩
  | .hbm, ⟨67, _⟩ => ⟨S4x8x4096x4096, .f32⟩
  | .hbm, ⟨68, _⟩ => ⟨S_, .f32⟩
  | .hbm, ⟨69, _⟩ => ⟨S_, .f32⟩
  | .hbm, ⟨70, _⟩ => ⟨S4x8x4096x4096, .i1⟩
  | .hbm, ⟨71, _⟩ => ⟨S4x8x4096x4096, .f32⟩
  | .hbm, ⟨72, _⟩ => ⟨S4x8x4096x4096, .f32⟩
  | .hbm, ⟨73, _⟩ => ⟨S4x8x128x4096, .f32⟩
  | .hbm, ⟨74, _⟩ => ⟨S4x4096x8x128, .f32⟩
  | .hbm, ⟨75, _⟩ => ⟨S16384x1024, .f32⟩
  | .hbm, ⟨76, _⟩ => ⟨S16384x1024, .bf16⟩
  | .hbm, ⟨77, _⟩ => ⟨S1024x2048, .bf16⟩
  | .hbm, ⟨78, _⟩ => ⟨S1024x256, .bf16⟩
  | .hbm, ⟨79, _⟩ => ⟨S1024x2048, .bf16⟩
  | .hbm, ⟨80, _⟩ => ⟨S2048x2048, .bf16⟩
  | .hbm, ⟨81, _⟩ => ⟨S5632x2048, .bf16⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v18 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v19 : Ref sig .tc := ⟨.hbm, 45, rfl⟩
abbrev main_call2_cst : Ref sig .tc := ⟨.hbm, 46, rfl⟩
abbrev main_call2_v0 : Ref sig .tc := ⟨.hbm, 47, rfl⟩
abbrev main_v20 : Ref sig .tc := ⟨.hbm, 48, rfl⟩
abbrev main_v21 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩

abbrev nD : Nat := 1
abbrev τ : Topo := Topo.v7x

variable {F : FTy → Type} [FloatOps F]
-- ==== Ffn.lean ====
abbrev S16384x2048 : Shape := ⟨2, ![16384, 2048]⟩
abbrev S1x2048 : Shape := ⟨2, ![1, 2048]⟩
abbrev S2048x11264 : Shape := ⟨2, ![2048, 11264]⟩
abbrev S3x11264 : Shape := ⟨2, ![3, 11264]⟩
abbrev S1x11264 : Shape := ⟨2, ![1, 11264]⟩
abbrev S5632x2048 : Shape := ⟨2, ![5632, 2048]⟩
abbrev S4x11264 : Shape := ⟨2, ![4, 11264]⟩
abbrev S4x22x512 : Shape := ⟨3, ![4, 22, 512]⟩
abbrev S22x4x512 : Shape := ⟨3, ![22, 4, 512]⟩
abbrev S512x2048 : Shape := ⟨2, ![512, 2048]⟩
abbrev S16x2048 : Shape := ⟨2, ![16, 2048]⟩
abbrev S2048x512 : Shape := ⟨2, ![2048, 512]⟩
abbrev S528x2048 : Shape := ⟨2, ![528, 2048]⟩
abbrev S2x528x512 : Shape := ⟨3, ![2, 528, 512]⟩
abbrev S512x128 : Shape := ⟨2, ![512, 128]⟩
abbrev S16 : Shape := ⟨1, ![16]⟩
abbrev S16x1 : Shape := ⟨2, ![16, 1]⟩
abbrev S512 : Shape := ⟨1, ![512]⟩
abbrev S512x1 : Shape := ⟨2, ![512, 1]⟩
abbrev S528x512 : Shape := ⟨2, ![528, 512]⟩
abbrev S1x528x512 : Shape := ⟨3, ![1, 528, 512]⟩
abbrev S1x4x512 : Shape := ⟨3, ![1, 4, 512]⟩
abbrev S4x512 : Shape := ⟨2, ![4, 512]⟩
abbrev S1x512 : Shape := ⟨2, ![1, 512]⟩
abbrev S1x512x512 : Shape := ⟨3, ![1, 512, 512]⟩
abbrev S512x512 : Shape := ⟨2, ![512, 512]⟩
abbrev S512x256 : Shape := ⟨2, ![512, 256]⟩
abbrev S256x2048 : Shape := ⟨2, ![256, 2048]⟩

abbrev nBuf : Space → Nat
  | .hbm => 11
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x11264, .bf16⟩
  | .hbm, ⟨3, _⟩ => ⟨S3x11264, .f32⟩
  | .hbm, ⟨4, _⟩ => ⟨S1x11264, .f32⟩
  | .hbm, ⟨5, _⟩ => ⟨S5632x2048, .bf16⟩
  | .hbm, ⟨6, _⟩ => ⟨S1x2048, .f32⟩
  | .hbm, ⟨7, _⟩ => ⟨S4x11264, .f32⟩
  | .hbm, ⟨8, _⟩ => ⟨S4x22x512, .f32⟩
  | .hbm, ⟨9, _⟩ => ⟨S22x4x512, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S22x4x512, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S528x2048, .bf16⟩
  | .local _ .vmem, ⟨16, _⟩ => ⟨S2x528x512, .f32⟩
  | .local _ .vmem, ⟨17, _⟩ => ⟨S512x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![32, 11], ![false, false]⟩

def k0_off1 (i : grid0.Coords) : Fin 3 → Nat :=
  let arg1 : BitVec 32 := BitVec.ofNat 32 (i 1).val
  let v9 : Index := Scalar.indexCast arg1
  let c0_7 : Index := 0#32
  let c0_8 : Index := 0#32
  ![v9.toNat, 0, 0]
def k0_off2 (i : grid0.Coords) : Fin 3 → Nat :=
  let c11_i32 : BitVec 32 := 11#32
  let arg1 : BitVec 32 := BitVec.ofNat 32 (i 1).val
  let v32 : BitVec 32 := Scalar.addi c11_i32 arg1
  let v38 : Index := Scalar.indexCast v32
  let c0_20 : Index := 0#32
  let c0_21 : Index := 0#32
  ![v38.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S22x4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnReferenceIdeal.lean ====
abbrev S16384x2048 : Shape := ⟨2, ![16384, 2048]⟩
abbrev S1x2048 : Shape := ⟨2, ![1, 2048]⟩
abbrev S2048x11264 : Shape := ⟨2, ![2048, 11264]⟩
abbrev S3x11264 : Shape := ⟨2, ![3, 11264]⟩
abbrev S1x11264 : Shape := ⟨2, ![1, 11264]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S16384x11264 : Shape := ⟨2, ![16384, 11264]⟩
abbrev S4x4096x11264 : Shape := ⟨3, ![4, 4096, 11264]⟩
abbrev S4x4098x11264 : Shape := ⟨3, ![4, 4098, 11264]⟩
abbrev S11264 : Shape := ⟨1, ![11264]⟩
abbrev S1x1x11264 : Shape := ⟨3, ![1, 1, 11264]⟩
abbrev S4x4096x5632 : Shape := ⟨3, ![4, 4096, 5632]⟩
abbrev S16384x5632 : Shape := ⟨2, ![16384, 5632]⟩

abbrev nBuf : Space → Nat
  | .hbm => 91
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x11264, .bf16⟩
  | .hbm, ⟨3, _⟩ => ⟨S3x11264, .f32⟩
  | .hbm, ⟨4, _⟩ => ⟨S1x11264, .f32⟩
  | .hbm, ⟨5, _⟩ => ⟨S5632x2048, .bf16⟩
  | .hbm, ⟨6, _⟩ => ⟨S1x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S2048x11264, .f32⟩
  | .hbm, ⟨23, _⟩ => ⟨S16384x11264, .f32⟩
  | .hbm, ⟨24, _⟩ => ⟨S4x4096x11264, .f32⟩
  | .hbm, ⟨25, _⟩ => ⟨S_, .i32⟩
  | .hbm, ⟨26, _⟩ => ⟨S_, .f32⟩
  | .hbm, ⟨27, _⟩ => ⟨S4x4098x11264, .f32⟩
  | .hbm, ⟨28, _⟩ => ⟨S11264, .f32⟩
  | .hbm, ⟨29, _⟩ => ⟨S4x4096x11264, .f32⟩
  | .hbm, ⟨30, _⟩ => ⟨S1x11264, .f32⟩
  | .hbm, ⟨31, _⟩ => ⟨S11264, .f32⟩
  | .hbm, ⟨32, _⟩ => ⟨S1x1x11264, .f32⟩
  | .hbm, ⟨33, _⟩ => ⟨S4x4096x11264, .f32⟩
  | .hbm, ⟨34, _⟩ => ⟨S4x4096x11264, .f32⟩
  | .hbm, ⟨35, _⟩ => ⟨S1x1x11264, .f32⟩
  | .hbm, ⟨36, _⟩ => ⟨S4x4096x11264, .f32⟩
  | .hbm, ⟨37, _⟩ => ⟨S4x4096x11264, .f32⟩
  | .hbm, ⟨38, _⟩ => ⟨S4x4096x11264, .f32⟩
  | .hbm, ⟨39, _⟩ => ⟨S1x11264, .f32⟩
  | .hbm, ⟨40, _⟩ => ⟨S11264, .f32⟩
  | .hbm, ⟨41, _⟩ => ⟨S1x1x11264, .f32⟩
  | .hbm, ⟨42, _⟩ => ⟨S4x4096x11264, .f32⟩
  | .hbm, ⟨43, _⟩ => ⟨S4x4096x11264, .f32⟩
  | .hbm, ⟨44, _⟩ => ⟨S4x4096x11264, .f32⟩
  | .hbm, ⟨45, _⟩ => ⟨S4x4096x11264, .f32⟩
  | .hbm, ⟨46, _⟩ => ⟨S1x11264, .f32⟩
  | .hbm, ⟨47, _⟩ => ⟨S11264, .f32⟩
  | .hbm, ⟨48, _⟩ => ⟨S1x1x11264, .f32⟩
  | .hbm, ⟨49, _⟩ => ⟨S4x4096x11264, .f32⟩
  | .hbm, ⟨50, _⟩ => ⟨S4x4096x11264, .f32⟩
  | .hbm, ⟨51, _⟩ => ⟨S4x4096x11264, .f32⟩
  | .hbm, ⟨52, _⟩ => ⟨S4x4096x5632, .f32⟩
  | .hbm, ⟨53, _⟩ => ⟨S4x4096x5632, .f32⟩
  | .hbm, ⟨54, _⟩ => ⟨S4x4096x5632, .f32⟩
  | .hbm, ⟨55, _⟩ => ⟨S4x4096x5632, .f32⟩
  | .hbm, ⟨56, _⟩ => ⟨S_, .f32⟩
  | .hbm, ⟨57, _⟩ => ⟨S4x4096x5632, .f32⟩
  | .hbm, ⟨58, _⟩ => ⟨S4x4096x5632, .f32⟩
  | .hbm, ⟨59, _⟩ => ⟨S4x4096x5632, .f32⟩
  | .hbm, ⟨60, _⟩ => ⟨S_, .f32⟩
  | .hbm, ⟨61, _⟩ => ⟨S4x4096x5632, .f32⟩
  | .hbm, ⟨62, _⟩ => ⟨S4x4096x5632, .f32⟩
  | .hbm, ⟨63, _⟩ => ⟨S4x4096x5632, .f32⟩
  | .hbm, ⟨64, _⟩ => ⟨S_, .f32⟩
  | .hbm, ⟨65, _⟩ => ⟨S4x4096x5632, .f32⟩
  | .hbm, ⟨66, _⟩ => ⟨S4x4096x5632, .f32⟩
  | .hbm, ⟨67, _⟩ => ⟨S_, .f32⟩
  | .hbm, ⟨68, _⟩ => ⟨S4x4096x5632, .f32⟩
  | .hbm, ⟨69, _⟩ => ⟨S4x4096x5632, .f32⟩
  | .hbm, ⟨70, _⟩ => ⟨S4x4096x5632, .f32⟩
  | .hbm, ⟨71, _⟩ => ⟨S4x4096x5632, .f32⟩
  | .hbm, ⟨72, _⟩ => ⟨S16384x5632, .f32⟩
  | .hbm, ⟨73, _⟩ => ⟨S5632x2048, .f32⟩
  | .hbm, ⟨74, _⟩ => ⟨S16384x2048, .f32⟩
  | .hbm, ⟨75, _⟩ => ⟨S16384x2048, .f32⟩
  | .hbm, ⟨76, _⟩ => ⟨S_, .f32⟩
  | .hbm, ⟨77, _⟩ => ⟨S16384, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384x1, .f32⟩
  | .hbm, ⟨84, _⟩ => ⟨S16384x1, .f32⟩
  | .hbm, ⟨85, _⟩ => ⟨S16384x1, .f32⟩
  | .hbm, ⟨86, _⟩ => ⟨S16384x2048, .f32⟩
  | .hbm, ⟨87, _⟩ => ⟨S16384x2048, .f32⟩
  | .hbm, ⟨88, _⟩ => ⟨S16384x2048, .f32⟩
  | .hbm, ⟨89, _⟩ => ⟨S16384x2048, .f32⟩
  | .hbm, ⟨90, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_4 : Ref sig .tc := ⟨.hbm, 64, rfl⟩
abbrev main_v50 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_cst_7 : Ref sig .tc := ⟨.hbm, 79, rfl⟩
abbrev main_v62 : Ref sig .tc := ⟨.hbm, 80, rfl⟩
abbrev main_v63 : Ref sig .tc := ⟨.hbm, 81, rfl⟩
abbrev main_cst_8 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== Ple.lean ====
abbrev S16384x2048 : Shape := ⟨2, ![16384, 2048]⟩
abbrev S16384x256 : Shape := ⟨2, ![16384, 256]⟩
abbrev S256x2048 : Shape := ⟨2, ![256, 2048]⟩
abbrev S2048x2048 : Shape := ⟨2, ![2048, 2048]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S16384x256, .f32⟩
  | .hbm, ⟨2, _⟩ => ⟨S256x2048, .bf16⟩
  | .hbm, ⟨3, _⟩ => ⟨S2048x2048, .bf16⟩
  | .hbm, ⟨4, _⟩ => ⟨S1x2048, .f32⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S256x2048, .bf16⟩
  | .local _ .vmem, ⟨5, _⟩ => ⟨S2048x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleReferenceIdeal.lean ====
abbrev S16384x2048 : Shape := ⟨2, ![16384, 2048]⟩
abbrev S16384x256 : Shape := ⟨2, ![16384, 256]⟩
abbrev S256x2048 : Shape := ⟨2, ![256, 2048]⟩
abbrev S2048x2048 : Shape := ⟨2, ![2048, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x256, .f32⟩
  | .hbm, ⟨2, _⟩ => ⟨S256x2048, .bf16⟩
  | .hbm, ⟨3, _⟩ => ⟨S2048x2048, .bf16⟩
  | .hbm, ⟨4, _⟩ => ⟨S1x2048, .f32⟩
  | .hbm, ⟨5, _⟩ => ⟨S256x2048, .f32⟩
  | .hbm, ⟨6, _⟩ => ⟨S16384x2048, .f32⟩
  | .hbm, ⟨7, _⟩ => ⟨S2048x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== InProj.lean ====
abbrev S16384x2048 : Shape := ⟨2, ![16384, 2048]⟩
abbrev S1x2048 : Shape := ⟨2, ![1, 2048]⟩
abbrev S2048x8192 : Shape := ⟨2, ![2048, 8192]⟩
abbrev S2048x11264 : Shape := ⟨2, ![2048, 11264]⟩
abbrev S16384x8192 : Shape := ⟨2, ![16384, 8192]⟩
abbrev S1024x2048 : Shape := ⟨2, ![1024, 2048]⟩
abbrev S2048x2048 : Shape := ⟨2, ![2048, 2048]⟩
abbrev S32x11264 : Shape := ⟨2, ![32, 11264]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x8192, .f32⟩
  | .hbm, ⟨3, _⟩ => ⟨S2048x11264, .f32⟩
  | .hbm, ⟨4, _⟩ => ⟨S2048x8192, .bf16⟩
  | .hbm, ⟨5, _⟩ => ⟨S16384x8192, .bf16⟩
  | .hbm, ⟨6, _⟩ => ⟨S2048x11264, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S32x11264, .f32⟩
  | .local _ .vmem, ⟨6, _⟩ => ⟨S32x11264, .f32⟩
  | .local _ .vmem, ⟨7, _⟩ => ⟨S1024x2048, .bf16⟩
  | .local _ .vmem, ⟨8, _⟩ => ⟨S1024x2048, .bf16⟩
  | .local _ .vmem, ⟨9, _⟩ => ⟨S32x11264, .bf16⟩
  | .local _ .vmem, ⟨10, _⟩ => ⟨S32x11264, .bf16⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x11264 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x11264 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjIdeal.lean ====
variable {F : FTy → Type} [FloatOps F] [Named F]
def κ : String → Option EReal := fun
  | "q_scale" => some ((((Real.sqrt 128) * (Real.log 2))⁻¹ : ℝ) : EReal)
  | _ => none
-- ==== InProjReferenceIdeal.lean ====
abbrev S16384x2048 : Shape := ⟨2, ![16384, 2048]⟩
abbrev S1x2048 : Shape := ⟨2, ![1, 2048]⟩
abbrev S2048x8192 : Shape := ⟨2, ![2048, 8192]⟩
abbrev S2048x11264 : Shape := ⟨2, ![2048, 11264]⟩
abbrev S_ : Shape := ⟨0, ![]⟩
abbrev S16384 : Shape := ⟨1, ![16384]⟩
abbrev S16384x1 : Shape := ⟨2, ![16384, 1]⟩
abbrev S16384x8192 : Shape := ⟨2, ![16384, 8192]⟩
abbrev S16384x1024 : Shape := ⟨2, ![16384, 1024]⟩
abbrev S16384x7168 : Shape := ⟨2, ![16384, 7168]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x8192, .f32⟩
  | .hbm, ⟨3, _⟩ => ⟨S2048x11264, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x7168, .f32⟩
  | .hbm, ⟨31, _⟩ => ⟨S16384x8192, .f32⟩
  | .hbm, ⟨32, _⟩ => ⟨S16384x8192, .bf16⟩
  | .hbm, ⟨33, _⟩ => ⟨S2048x11264, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.Ffn.Ref.lean ====
/-
  The convolution feed-forward's reference, entry by entry.
-/
module

public import proofs.«01_k».proof.Proof.Gen.FfnReferenceIdeal.Run
public import Idealize.ShloMosaic.Lib.Pipeline.ValueKit
public import Idealize.ShloMosaic.Lib.Pointwise
public import Idealize.ShloMosaic.Lib.Claim

@[expose] public section

set_option maxRecDepth 16384

noncomputable section

namespace Cert.FfnReferenceIdeal.Ffn

open Cert.FfnReferenceIdeal Cert.FfnReferenceIdeal.Gen
open Idealize.ShloMosaic Idealize.ShloMosaic.TcCoe

/-- A row over its root mean square, times a gain. -/
abbrev normR (y : FVec Ideal S16384x2048 .f32) (g : FVec Ideal S1x2048 .f32) : FVec Ideal S16384x2048 .f32 :=
  mulf (mulf y (broadcastInDim S16384x2048 ![0, 1] bcast_S16384x1_S16384x2048_0_1 (Host.rsqrt (addf (Host.divf (broadcastInDim S16384x1 ![0] bcast_S16384_S16384x1_0 (Host.reduceAdd (mulf y y) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 g)

/-- The upward product. -/
abbrev upR (h : FVec Ideal S16384x2048 .f32) (w : FVec Ideal S2048x11264 .bf16) : FVec Ideal S16384x11264 .f32 :=
  Host.dotGeneral dot_S16384x2048_S2048x11264_S16384x11264_1_0_0_1_n_n none h (extf .f32 w bitsLt_bf16_f32)

/-- The stream with two rows of zeros before each sequence. -/
abbrev padR (u : FVec Ideal S16384x11264 .f32) : FVec Ideal S4x4098x11264 .f32 :=
  pad S4x4098x11264 ![0, 2, 0] ![0, 0, 0] ![0, 0, 0] (shapeCast S4x4096x11264 u shapeCasts_S16384x11264_S4x4096x11264) (sitofp .f32 (constantI S_ 32 0#32)) pads_S4x4096x11264_S4x4098x11264_000_200_000 h_S_

/-- A row of the taps, for every position. -/
abbrev tapR (r : FVec Ideal S1x11264 .f32) : FVec Ideal S4x4096x11264 .f32 :=
  broadcastInDim S4x4096x11264 ![0, 1, 2] bcast_S1x1x11264_S4x4096x11264_0_1_2 (broadcastInDim S1x1x11264 ![2] bcast_S11264_S1x1x11264_2 (shapeCast S11264 r shapeCasts_S1x11264_S11264))

/-- The convolution. -/
abbrev convR (p : FVec Ideal S4x4098x11264 .f32) (cw : FVec Ideal S3x11264 .f32) (cb : FVec Ideal S1x11264 .f32) : FVec Ideal S4x4096x11264 .f32 :=
  addf (addf (addf (tapR cb) (mulf (extractStridedSlice S4x4096x11264 ![0, 0, 0] p slices_S4x4098x11264_S4x4096x11264_0_0_0) (tapR (extractStridedSlice S1x11264 ![0, 0] cw slices_S3x11264_S1x11264_0_0))))
    (mulf (extractStridedSlice S4x4096x11264 ![0, 1, 0] p slices_S4x4098x11264_S4x4096x11264_0_1_0) (tapR (extractStridedSlice S1x11264 ![1, 0] cw slices_S3x11264_S1x11264_1_0))))
    (mulf (extractStridedSlice S4x4096x11264 ![0, 2, 0] p slices_S4x4098x11264_S4x4096x11264_0_2_0) (tapR (extractStridedSlice S1x11264 ![2, 0] cw slices_S3x11264_S1x11264_2_0)))

/-- The gate's activation. -/
abbrev geluR (g : FVec Ideal S4x4096x5632 .f32) : FVec Ideal S4x4096x5632 .f32 :=
  mulf g (mulf (broadcastInDim S4x4096x5632 ![] bcast_S_S4x4096x5632 (constant S_ .f32 0x3F000000#32)) (addf (broadcastInDim S4x4096x5632 ![] bcast_S_S4x4096x5632 (constant S_ .f32 0x3F800000#32)) (Host.tanh (mulf (broadcastInDim S4x4096x5632 ![] bcast_S_S4x4096x5632 (constant S_ .f32 0x3F4C422A#32)) (addf g (mulf (broadcastInDim S4x4096x5632 ![] bcast_S_S4x4096x5632 (constant S_ .f32 0x3D372713#32)) (mulf (mulf g g) g)))))))

/-- The gated stream. -/
abbrev gluR (v : FVec Ideal S4x4096x11264 .f32) : FVec Ideal S16384x5632 .f32 :=
  shapeCast S16384x5632 (mulf (geluR (extractStridedSlice S4x4096x5632 ![0, 0, 0] v slices_S4x4096x11264_S4x4096x5632_0_0_0)) (extractStridedSlice S4x4096x5632 ![0, 0, 5632] v slices_S4x4096x11264_S4x4096x5632_0_0_5632)) shapeCasts_S4x4096x5632_S16384x5632

/-- The downward product. -/
abbrev downR (a : FVec Ideal S16384x5632 .f32) (wd : FVec Ideal S5632x2048 .bf16) : FVec Ideal S16384x2048 .f32 :=
  Host.dotGeneral dot_S16384x5632_S5632x2048_S16384x2048_1_0_0_1_n_n none a (extf .f32 wd bitsLt_bf16_f32)

/-- The part's result. -/
abbrev resR (x : FVec Ideal S16384x2048 .f32) (gpre : FVec Ideal S1x2048 .f32) (w : FVec Ideal S2048x11264 .bf16) (cw : FVec Ideal S3x11264 .f32) (cb : FVec Ideal S1x11264 .f32)
    (wd : FVec Ideal S5632x2048 .bf16) (gpost : FVec Ideal S1x2048 .f32) : FVec Ideal S16384x2048 .f32 :=
  addf x (normR (downR (gluR (convR (padR (upR (normR x gpre) w)) cw cb)) wd) gpost)

theorem res_eq (m : (ℓ : Loc nD τ sig) → Buf (Elt Ideal) ℓ) (c : Dev nD) : Value.res_main_v71 m c
    = resR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Value.res_main_v71
  rfl

/-- Row `n` of the stream. -/
abbrev row (n : ℕ) : Fin 16384 := ⟨n % 16384, Nat.mod_lt _ (by decide)⟩

/-- Entry `(R - d, C)` of the upward product, zero before the sequence's first row. -/
def tap (u : FVec Ideal S16384x11264 .f32) (d R : ℕ) (C : Fin 11264) : EReal :=
  if R % 4096 < d then 0 else u (ix2 (row (R - d)) C)

/-- Entry `(R, C)` of the convolution. -/
def conv (u : FVec Ideal S16384x11264 .f32) (cw : FVec Ideal S3x11264 .f32) (cb : FVec Ideal S1x11264 .f32) (R : ℕ) (C : Fin 11264) : EReal :=
  cb (ix2 (0 : Fin 1) C) + tap u 2 R C * cw (ix2 (0 : Fin 3) C) + tap u 1 R C * cw (ix2 (1 : Fin 3) C) + tap u 0 R C * cw (ix2 (2 : Fin 3) C)

/-- The gate's activation times the value. -/
def glu (g v : EReal) : EReal :=
  g * (Ideal.ofBits .f32 0x3F000000#32 * (1 + Ideal.tanh (Ideal.ofBits .f32 0x3F4C422A#32 * (g + Ideal.ofBits .f32 0x3D372713#32 * (g * g * g))))) * v

/-- Entry `(R, k)` of the gated stream. -/
def act (u : FVec Ideal S16384x11264 .f32) (cw : FVec Ideal S3x11264 .f32) (cb : FVec Ideal S1x11264 .f32) (R : ℕ) (k : Fin 5632) : EReal :=
  glu (conv u cw cb R ⟨k.val, by omega⟩) (conv u cw cb R ⟨5632 + k.val, by omega⟩)

/-- Entry `(R, l)` of the downward product. -/
def down (u : FVec Ideal S16384x11264 .f32) (cw : FVec Ideal S3x11264 .f32) (cb : FVec Ideal S1x11264 .f32) (wd : FVec Ideal S5632x2048 .bf16) (R : ℕ) (l : Fin 2048) : EReal :=
  ∑ k : Fin 5632, act u cw cb R k * wd (ix2 k l)

theorem zero_bits : FloatOps.sitofp (F := Ideal) FTy.f32 0#32 = 0 := by
  show ((((0#32 : BitVec 32).toInt : ℝ)) : EReal) = 0
  simp

theorem conv_eq (u : FVec Ideal S16384x11264 .f32) (cw : FVec Ideal S3x11264 .f32) (cb : FVec Ideal S1x11264 .f32) (b : Fin 4) (s : Fin 4096) (C : Fin 11264) :
    convR (padR u) cw cb (ix3 b s C) = conv u cw cb (4096 * b.val + s.val) C := by
  have hb := b.isLt
  have hs := s.isLt
  have key : ∀ (d n : ℕ) (hd : d ≤ 2) (hn : n + d = s.val + 2) (hlt : ∀ h : 2 ≤ n ∧ n - 2 < 4096, b.val * 4096 + (n - 2) < 16384),
      (if h : 2 ≤ n ∧ n - 2 < 4096 then u (ix2 ⟨b.val * 4096 + (n - 2), hlt h⟩ C) else (0 : EReal)) = tap u d (4096 * b.val + s.val) C := by
    intro d n hd hn hlt
    unfold tap
    have hm : (4096 * b.val + s.val) % 4096 = s.val := by omega
    rw [hm]
    by_cases h : s.val < d
    · rw [if_pos h, dif_neg (by omega)]
    · rw [if_neg h, dif_pos (by omega)]
      exact congrArg (fun r => u (ix2 r C)) (Fin.ext (by dsimp only [row]; omega))
  pointwise [convR]
  rw [zero_bits, key 2 s.val (by omega) rfl, key 1 (1 + s.val) (by omega) (by omega)]
  have h0 : u (ix2 ⟨b.val * 4096 + s.val, by omega⟩ C) = tap u 0 (4096 * b.val + s.val) C := by
    unfold tap
    rw [if_neg (Nat.not_lt_zero _)]
    exact congrArg (fun r => u (ix2 r C)) (Fin.ext (by dsimp only [row]; omega))
  unfold conv
  rw [← h0]

theorem glu_eq (u : FVec Ideal S16384x11264 .f32) (cw : FVec Ideal S3x11264 .f32) (cb : FVec Ideal S1x11264 .f32) (R : Fin 16384) (k : Fin 5632) :
    gluR (convR (padR u) cw cb) (ix2 R k) = act u cw cb R.val k := by
  have h : ∀ C, convR (padR u) cw cb (ix3 (⟨R.val / 4096, by omega⟩ : Fin 4) (⟨R.val % 4096, by omega⟩ : Fin 4096) C) = conv u cw cb R.val C := by
    intro C
    rw [conv_eq]
    exact congrArg (fun n => conv u cw cb n C) (by dsimp only; omega)
  generalize convR (padR u) cw cb = v at h ⊢
  pointwise [gluR]
  rw [h, h]
  rfl

theorem down_eq (u : FVec Ideal S16384x11264 .f32) (cw : FVec Ideal S3x11264 .f32) (cb : FVec Ideal S1x11264 .f32) (wd : FVec Ideal S5632x2048 .bf16) (R : Fin 16384) (l : Fin 2048) :
    downR (gluR (convR (padR u) cw cb)) wd (ix2 R l) = down u cw cb wd R.val l := by
  have h := glu_eq u cw cb R
  generalize gluR (convR (padR u) cw cb) = a at h ⊢
  pointwise [downR, down, h]

end Cert.FfnReferenceIdeal.Ffn
-- ==== Proof.Ffn.Body.lean ====
/-
  The convolution feed-forward's body, entry by entry.
-/
module

public import proofs.«01_k».proof.Proof.Gen.FfnIdeal.Value
public import proofs.«01_k».proof.Proof.Ffn.Ref
public import Idealize.ShloMosaic.Lib.Pipeline.ReadBack

@[expose] public section

set_option maxRecDepth 16384

noncomputable section

namespace Cert.FfnIdeal.Ffn

open Cert.FfnIdeal Cert.FfnIdeal.Gen
open Idealize.ShloMosaic Idealize.ShloMosaic.TcCoe Idealize.SL.Sem
open Cert.FfnReferenceIdeal.Ffn (normR upR tap conv glu act down resR row)

variable (m : (ℓ : Loc nD τ sig) → Buf (Elt Ideal) ℓ)

theorem idx : ∀ t : Fin cfg0.N, win0_0.index t = ![t.val / 11, 0] ∧ win0_1.index t = ![32 * (t.val / 11) - 1, 0] ∧ win0_2.index t = ![0, 0]
    ∧ win0_3.index t = ![0, t.val % 11] ∧ win0_4.index t = ![0, 11 + t.val % 11] ∧ win0_5.index t = ![0, 0, 0] ∧ win0_6.index t = ![t.val % 11, 0]
    ∧ win0_7.index t = ![0, 0] ∧ win0_8.index t = ![t.val / 11, 0] ∧ (grid0.coords t 0).val = t.val / 11 ∧ (grid0.coords t 1).val = t.val % 11 :=
  (by decide +kernel : ∀ t : Fin grid0.N, _)

theorem lt_N (t : Fin cfg0.N) : t.val < 352 := lt_of_lt_of_eq t.isLt (show cfg0.N = 352 from N_0)

theorem blk_norm (c : Dev nD) (t : Fin cfg0.N) (y : S512x2048.Idx) : k0_pay8 (iblk m c 0 t) (iblk m c 2 t) (k0_pay7 (iblk m c 0 t)) y
    = normR (m ((c : Thread nD τ).loc main_arg0)) (m ((c : Thread nD τ).loc main_arg1)) (ix2 (row (512 * (t.val / 11) + (y 0).val)) (y 1)) := by
  have hN := lt_N t
  have hy : (y 0).val < 512 := (y 0).isLt
  have hr : row (512 * (t.val / 11) + (y 0).val) = ⟨512 * (t.val / 11) + (y 0).val, by omega⟩ := Fin.ext (by dsimp only [row]; omega)
  rw [hr]
  pointwise [k0_pay8, k0_pay7, normR]
  blk_point [iblk, V, idx t]

/-- The bit that says that a block is a sequence's first. -/
abbrev haloBit (b : BitVec 32) : BitVec 1 :=
  Scalar.cmpi .eq (Scalar.select (Scalar.andi (Scalar.xori (Scalar.cmpi .slt (Scalar.remsi (Scalar.muli b 512#32) (Scalar.select (Scalar.cmpi .eq 4096#32 0#32) 1#32 4096#32)) 0#32)
      (Scalar.cmpi .slt (Scalar.select (Scalar.cmpi .eq 4096#32 0#32) 1#32 4096#32) 0#32))
      (Scalar.cmpi .ne (Scalar.remsi (Scalar.muli b 512#32) (Scalar.select (Scalar.cmpi .eq 4096#32 0#32) 1#32 4096#32)) 0#32))
    (Scalar.addi (Scalar.remsi (Scalar.muli b 512#32) (Scalar.select (Scalar.cmpi .eq 4096#32 0#32) 1#32 4096#32)) (Scalar.select (Scalar.cmpi .eq 4096#32 0#32) 1#32 4096#32))
    (Scalar.remsi (Scalar.muli b 512#32) (Scalar.select (Scalar.cmpi .eq 4096#32 0#32) 1#32 4096#32))) 0#32

theorem halo_bit : ∀ n : Fin 32, haloBit (BitVec.ofNat 32 n.val) = if n.val % 8 = 0 then 1#1 else 0#1 := by decide +kernel

theorem blk_halo (c : Dev nD) (t : Fin cfg0.N) (y : S16x2048.Idx) : k0_pay6 (BitVec.ofNat 32 (grid0.coords t 0).val) (iblk m c 1 t) (iblk m c 2 t) y
    = if t.val / 11 % 8 = 0 then 0 else normR (m ((c : Thread nD τ).loc main_arg0)) (m ((c : Thread nD τ).loc main_arg1)) (ix2 (row (512 * (t.val / 11) + (y 0).val - 16)) (y 1)) := by
  have hN := lt_N t
  have hy : (y 0).val < 16 := (y 0).isLt
  have hb := halo_bit (grid0.coords t 0)
  rw [(idx t).2.2.2.2.2.2.2.2.2.1] at hb
  rw [(idx t).2.2.2.2.2.2.2.2.2.1]
  by_cases h : t.val / 11 % 8 = 0
  · rw [if_pos h] at hb ⊢
    pointwise [k0_pay6]
    refine (congrArg (fun b => Scalar.select b _ _) hb).trans ?_
    rfl
  · rw [if_neg h] at hb ⊢
    have hr : row (512 * (t.val / 11) + (y 0).val - 16) = ⟨16 * (32 * (t.val / 11) - 1) + (y 0).val, by omega⟩ := Fin.ext (by dsimp only [row]; omega)
    rw [hr]
    have e : ∀ p q : EReal, Scalar.select (haloBit (BitVec.ofNat 32 (t.val / 11))) p q = q := fun p q => congrArg (fun b => Scalar.select b p q) hb
    pointwise [k0_pay6, normR]
    rw [e]
    blk_point [iblk, V, idx t]

theorem offs : ∀ t : Fin cfg0.N, k0_off1 (grid0.coords t) = ![t.val % 11, 0, 0] ∧ k0_off2 (grid0.coords t) = ![11 + t.val % 11, 0, 0] :=
  (by decide +kernel : ∀ t : Fin grid0.N, _)

/-- Where row `a` of a box of 512 rows from row `o` lies in the whole half. -/
theorem slot_emb (n o : ℕ) (p : ∀ a, (![n, 0, 0] : Fin 3 → ℕ) a + (![1, 528, 512] : Fin 3 → ℕ) a ≤ S2x528x512.size a)
    (q : ∀ a, (![n, o, 0] : Fin 3 → ℕ) a + (![1, 512, 512] : Fin 3 → ℕ) a ≤ S2x528x512.size a) (a f : Fin 512) (ho : o + 512 ≤ 528) :
    (Rect.unit (s := S2x528x512) ![n, o, 0] ![1, 512, 512] q).emb (ix3 (0 : Fin 1) a f) = (Rect.unit (s := S2x528x512) ![n, 0, 0] ![1, 528, 512] p).emb (ix3 (0 : Fin 1) (⟨o + a.val, by omega⟩ : Fin 528) f) := by
  funext b
  apply Fin.ext
  match b with
  | ⟨0, _⟩ => rfl
  | ⟨1, _⟩ => show o + 1 * a.val = 0 + 1 * (o + a.val); omega
  | ⟨2, _⟩ => rfl

theorem slot_canon (L : List (View.Piece (Elt Ideal) S2x528x512 .f32)) (Z : FVec Ideal S1x528x512 .f32) (n o : ℕ) (p : ∀ a, (![n, 0, 0] : Fin 3 → ℕ) a + (![1, 528, 512] : Fin 3 → ℕ) a ≤ S2x528x512.size a)
    (q : ∀ a, (![n, o, 0] : Fin 3 → ℕ) a + (![1, 512, 512] : Fin 3 → ℕ) a ≤ S2x528x512.size a) (a f : Fin 512) (ho : o + 512 ≤ 528) :
    View.canon (Val := Elt Ideal) (s := S2x528x512) (e := .f32) (⟨Rect.unit (s := S2x528x512) ![n, 0, 0] ![1, 528, 512] p, Z⟩ :: L) ((Rect.unit (s := S2x528x512) ![n, o, 0] ![1, 512, 512] q).emb (ix3 (0 : Fin 1) a f))
      = Z (ix3 (0 : Fin 1) (⟨o + a.val, by omega⟩ : Fin 528) f) :=
  (congrArg _ (slot_emb n o p q a f ho)).trans (View.canon_cons_emb (Val := Elt Ideal) (s := S2x528x512) (e := .f32) (Rect.unit (s := S2x528x512) ![n, 0, 0] ![1, 528, 512] p) Z L _)

/-- What a load of 512 rows from row `o` of a half of the scratch gives after a store of the whole half. -/
theorem slot (L : List (View.Piece (Elt Ideal) S2x528x512 .f32)) (Z : FVec Ideal S1x528x512 .f32) (n o : ℕ) (p : ∀ a, (![n, 0, 0] : Fin 3 → ℕ) a + (![1, 528, 512] : Fin 3 → ℕ) a ≤ S2x528x512.size a)
    (q : ∀ a, (![n, o, 0] : Fin 3 → ℕ) a + (![1, 512, 512] : Fin 3 → ℕ) a ≤ S2x528x512.size a) (a f : Fin 512) (ho : o + 512 ≤ 528) :
    (View.whole cc0_scratch1).readCov (Val := Elt Ideal) (⟨Rect.unit ![n, 0, 0] ![1, 528, 512] p, Z⟩ :: L) (Rect.unit (s := S2x528x512) ![n, o, 0] ![1, 512, 512] q).toLoadRect (ix3 (0 : Fin 1) a f)
      = Z (ix3 (0 : Fin 1) (⟨o + a.val, by omega⟩ : Fin 528) f) :=
  (congrFun (View.readCov_eq_canon' (Val := Elt Ideal) (View.whole cc0_scratch1) _ _) _).trans (slot_canon L Z n o p q a f ho)

theorem taps_emb (t : Fin cfg0.N) (y : S22x4x512.Idx) : (((View.whole main_v2).slice (win0_5.rect t)).emb y : S22x4x512.Idx) = y := by
  funext b
  apply Fin.ext
  have e := congrFun (idx t).2.2.2.2.2.1 b
  match b with
  | ⟨0, _⟩ => show win0_5.index t 0 * 22 + 1 * (y 0).val = (y 0).val; rw [show win0_5.index t 0 = 0 from e]; omega
  | ⟨1, _⟩ => show win0_5.index t 1 * 4 + 1 * (y 1).val = (y 1).val; rw [show win0_5.index t 1 = 0 from e]; omega
  | ⟨2, _⟩ => show win0_5.index t 2 * 512 + 1 * (y 2).val = (y 2).val; rw [show win0_5.index t 2 = 0 from e]; omega

theorem gate (x : Vec Ideal S1x4x512 .f32) (r0 r1 r2 : Vec Ideal S1x512x512 .f32) (a f : Fin 512) : k0_pay11 x r0 r1 r2 (ix2 a f)
    = x (ix3 (0 : Fin 1) (3 : Fin 4) f) + r0 (ix3 (0 : Fin 1) a f) * x (ix3 (0 : Fin 1) (0 : Fin 4) f) + r1 (ix3 (0 : Fin 1) a f) * x (ix3 (0 : Fin 1) (1 : Fin 4) f) + r2 (ix3 (0 : Fin 1) a f) * x (ix3 (0 : Fin 1) (2 : Fin 4) f) := by
  pointwise [k0_pay11]

theorem up (s : Vec Ideal S528x2048 .bf16) (w : Vec Ideal S2048x512 .bf16) (r : Fin 528) (f : Fin 512) : k0_pay10 s w (ix3 (0 : Fin 1) r f) = ∑ d, s (ix2 r d) * w (ix2 d f) := by
  pointwise [k0_pay10]

/-- One point's two products: 512 further terms of the downward product. -/
theorem halves (g v : Vec Ideal S512x512 .f32) (p : Vec Ideal S512x2048 .f32) (w0 w1 : Vec Ideal S256x2048 .bf16) (a : Fin 512) (l : Fin 2048) (w : Fin 512 → EReal)
    (h0 : ∀ k : Fin 256, w0 (ix2 k l) = w ⟨k.val, by omega⟩) (h1 : ∀ k : Fin 256, w1 (ix2 k l) = w ⟨256 + k.val, by omega⟩) :
    k0_pay3 v (k0_pay14 g) (k0_pay15 g) k0_pay16 (k0_pay2 v (k0_pay14 g) (k0_pay15 g) k0_pay16 p w0) w1 (ix2 a l)
      = p (ix2 a l) + ∑ k : Fin 512, glu (g (ix2 a k)) (v (ix2 a k)) * w k := by
  have e : ∀ k : Fin 512, glu (g (ix2 a k)) (v (ix2 a k)) = Ideal.ofBits .f32 0x3F000000#32 * g (ix2 a k) * (1 + Ideal.tanh (Ideal.ofBits .f32 0x3F4C422A#32 * (g (ix2 a k) + Ideal.ofBits .f32 0x3D372713#32 * (g (ix2 a k) * g (ix2 a k) * g (ix2 a k))))) * v (ix2 a k) := by
    intro k
    unfold glu
    rw [mul_comm (Ideal.ofBits .f32 0x3F000000#32) (g (ix2 a k)), ← mul_assoc (g (ix2 a k))]
  rw [show (∑ k : Fin 512, glu (g (ix2 a k)) (v (ix2 a k)) * w k) = _ from Fin.sum_univ_add (a := 256) (b := 256) fun k : Fin 512 => glu (g (ix2 a k)) (v (ix2 a k)) * w k, ← add_assoc]
  simp only [e]
  pointwise [k0_pay3, k0_pay2, k0_pay1, k0_pay14, k0_pay15, k0_pay16, h0, h1]
  rfl

/-- Entry `(R - d, C)` of the upward product from the scratch's rows. -/
theorem tap_sum (H : FVec Ideal Cert.FfnReferenceIdeal.S16384x2048 .f32) (W : FVec Ideal Cert.FfnReferenceIdeal.S2048x11264 .bf16) (sc : Vec Ideal S528x2048 .bf16) (i : ℕ)
    (hsc : ∀ (r : Fin 528) (d : Fin 2048), sc (ix2 r d) = if r.val < 16 ∧ i % 8 = 0 then 0 else H (ix2 (row (512 * i + r.val - 16)) d))
    (o : ℕ) (ho : 14 ≤ o) (ho' : o ≤ 16) (a : Fin 512) (C : Fin 11264) :
    (∑ d, sc (ix2 (⟨o + a.val, by omega⟩ : Fin 528) d) * W (ix2 d C)) = tap (upR H W) (16 - o) (512 * i + a.val) C := by
  unfold tap
  by_cases h : o + a.val < 16 ∧ i % 8 = 0
  · rw [if_pos (by omega)]
    refine Finset.sum_eq_zero fun d _ => ?_
    rw [hsc, if_pos h, zero_mul]
  · rw [if_neg (by omega)]
    have hr : row (512 * i + (o + a.val) - 16) = row (512 * i + a.val - (16 - o)) := congrArg row (by omega)
    simp only [hsc, if_neg h, hr]
    pointwise [upR]

/-- The row's root mean square. -/
theorem post (p : Vec Ideal S512x2048 .f32) (x : Vec Ideal S512x2048 .f32) (g : Vec Ideal S1x2048 .f32) (a : Fin 512) (l : Fin 2048) : k0_pay5 (k0_pay4 p) x p g (ix2 a l)
    = x (ix2 a l) + p (ix2 a l) * Ideal.rsqrt (Ideal.div (∑ k, p (ix2 a k) * p (ix2 a k)) (Ideal.ofBits .f32 0x45000000#32) + Ideal.ofBits .f32 0x358637BD#32) * g (ix2 (0 : Fin 1) l) := by
  pointwise [k0_pay5, k0_pay4]
  simp only [dite_eq_ite, ite_self]

end Cert.FfnIdeal.Ffn

end
-- ==== Proof.Ffn.Step.lean ====
/-
  The convolution feed-forward: what one grid point adds to the downward product.
-/
module

public import proofs.«01_k».proof.Proof.Ffn.Body
public import Idealize.ShloMosaic.Lib.Pipeline.ReadBack

@[expose] public section

set_option maxRecDepth 16384

noncomputable section

namespace Cert.FfnIdeal.Ffn

open Cert.FfnIdeal Cert.FfnIdeal.Gen
open Idealize.ShloMosaic Idealize.ShloMosaic.TcCoe Idealize.SL.Sem
open Cert.FfnReferenceIdeal.Ffn (normR upR tap conv glu act down resR row)

variable (m : (ℓ : Loc nD τ sig) → Buf (Elt Ideal) ℓ)

/-- The packed taps, entry by entry. -/
theorem taps (c : Dev nD) (t : Fin cfg0.N) (n : Fin 22) (k : Fin 4) (f : Fin 512) (C : Fin 11264) (hC : C.val = 512 * n.val + f.val) :
    (iblk m c 5 t : Vec Ideal S22x4x512 .f32) (ix3 n k f)
      = if h : k.val < 3 then m ((c : Thread nD τ).loc main_arg3) (ix2 (⟨k.val, h⟩ : Fin 3) C) else m ((c : Thread nD τ).loc main_arg4) (ix2 (0 : Fin 1) C) := by
  refine Eq.trans (congrArg (V m c main_v2) (taps_emb t _)) ?_
  entry_read
  pointwise []
  by_cases h : k.val < 3
  · rw [dif_pos h, dif_pos h]
    exact congrArg (fun C => m ((c : Thread nD τ).loc main_arg3) (ix2 (⟨k.val, h⟩ : Fin 3) C)) (Fin.ext (by dsimp only; omega))
  · rw [dif_neg h, dif_neg h]
    have hk : k.val - 3 < 1 := by omega
    have hk0 : (⟨k.val - 3, hk⟩ : Fin 1) = 0 := Subsingleton.elim _ _
    exact congrArg₂ (fun r C => m ((c : Thread nD τ).loc main_arg4) (ix2 r C)) hk0 (Fin.ext (by dsimp only; omega))

theorem ld_taps1 (c : Dev nD) (t : Fin cfg0.N) (q) (k : Fin 4) (f : Fin 512) (hn : t.val % 11 < 22) :
    (View.ld (iblk m c 5 t) (Rect.unit (k0_off1 (grid0.coords t)) ![1, 4, 512] q) : Vec Ideal S1x4x512 .f32) (ix3 (0 : Fin 1) k f)
      = (iblk m c 5 t : Vec Ideal S22x4x512 .f32) (ix3 (⟨t.val % 11, hn⟩ : Fin 22) k f) := by
  refine congrArg (iblk m c 5 t : Vec Ideal S22x4x512 .f32) ?_
  funext b
  apply Fin.ext
  have e := (offs t).1
  match b with
  | ⟨0, _⟩ => show k0_off1 (grid0.coords t) 0 + 1 * 0 = t.val % 11; rw [e]; rfl
  | ⟨1, _⟩ => show k0_off1 (grid0.coords t) 1 + 1 * k.val = k.val; rw [e]; show 0 + 1 * k.val = k.val; omega
  | ⟨2, _⟩ => show k0_off1 (grid0.coords t) 2 + 1 * f.val = f.val; rw [e]; show 0 + 1 * f.val = f.val; omega

theorem ld_taps2 (c : Dev nD) (t : Fin cfg0.N) (q) (k : Fin 4) (f : Fin 512) (hn : 11 + t.val % 11 < 22) :
    (View.ld (iblk m c 5 t) (Rect.unit (k0_off2 (grid0.coords t)) ![1, 4, 512] q) : Vec Ideal S1x4x512 .f32) (ix3 (0 : Fin 1) k f)
      = (iblk m c 5 t : Vec Ideal S22x4x512 .f32) (ix3 (⟨11 + t.val % 11, hn⟩ : Fin 22) k f) := by
  refine congrArg (iblk m c 5 t : Vec Ideal S22x4x512 .f32) ?_
  funext b
  apply Fin.ext
  have e := (offs t).2
  match b with
  | ⟨0, _⟩ => show k0_off2 (grid0.coords t) 0 + 1 * 0 = 11 + t.val % 11; rw [e]; rfl
  | ⟨1, _⟩ => show k0_off2 (grid0.coords t) 1 + 1 * k.val = k.val; rw [e]; show 0 + 1 * k.val = k.val; omega
  | ⟨2, _⟩ => show k0_off2 (grid0.coords t) 2 + 1 * f.val = f.val; rw [e]; show 0 + 1 * f.val = f.val; omega

/-- One branch's convolution, entry by entry: a column block of the upward product, its taps and the scratch's rows. -/
theorem branch (H : FVec Ideal Cert.FfnReferenceIdeal.S16384x2048 .f32) (W : FVec Ideal Cert.FfnReferenceIdeal.S2048x11264 .bf16)
    (cw : FVec Ideal Cert.FfnReferenceIdeal.S3x11264 .f32) (cb : FVec Ideal Cert.FfnReferenceIdeal.S1x11264 .f32) (sc : Vec Ideal S528x2048 .bf16) (i : ℕ)
    (hsc : ∀ (r : Fin 528) (d : Fin 2048), sc (ix2 r d) = if r.val < 16 ∧ i % 8 = 0 then 0 else H (ix2 (row (512 * i + r.val - 16)) d))
    (w : Vec Ideal S2048x512 .bf16) (x : Vec Ideal S1x4x512 .f32) (r0 r1 r2 : Vec Ideal S1x512x512 .f32) (a f : Fin 512) (C : Fin 11264)
    (hw : ∀ d, w (ix2 d f) = W (ix2 d C))
    (hx : ∀ k : Fin 4, x (ix3 (0 : Fin 1) k f) = if h : k.val < 3 then cw (ix2 (⟨k.val, h⟩ : Fin 3) C) else cb (ix2 (0 : Fin 1) C))
    (h0 : r0 (ix3 (0 : Fin 1) a f) = k0_pay10 sc w (ix3 (0 : Fin 1) (⟨14 + a.val, by omega⟩ : Fin 528) f))
    (h1 : r1 (ix3 (0 : Fin 1) a f) = k0_pay10 sc w (ix3 (0 : Fin 1) (⟨15 + a.val, by omega⟩ : Fin 528) f))
    (h2 : r2 (ix3 (0 : Fin 1) a f) = k0_pay10 sc w (ix3 (0 : Fin 1) (⟨16 + a.val, by omega⟩ : Fin 528) f)) :
    k0_pay11 x r0 r1 r2 (ix2 a f) = conv (upR H W) cw cb (512 * i + a.val) C := by
  rw [gate, h0, h1, h2, up, up, up]
  simp only [hw]
  rw [tap_sum H W sc i hsc 14 (by omega) (by omega) a C, tap_sum H W sc i hsc 15 (by omega) (by omega) a C, tap_sum H W sc i hsc 16 (by omega) (by omega) a C,
    hx, hx, hx, hx]
  rfl

theorem col1 (c : Dev nD) (t : Fin cfg0.N) (d : Fin 2048) (f : Fin 512) (C : Fin 11264) (hC : C.val = 512 * (t.val % 11) + f.val) :
    (iblk m c 3 t : Vec Ideal S2048x512 .bf16) (ix2 d f) = m ((c : Thread nD τ).loc main_arg2) (ix2 d C) := by
  blk_point [iblk, V, idx t]

theorem col2 (c : Dev nD) (t : Fin cfg0.N) (d : Fin 2048) (f : Fin 512) (C : Fin 11264) (hC : C.val = 512 * (11 + t.val % 11) + f.val) :
    (iblk m c 4 t : Vec Ideal S2048x512 .bf16) (ix2 d f) = m ((c : Thread nD τ).loc main_arg2) (ix2 d C) := by
  blk_point [iblk, V, idx t]

theorem rows (c : Dev nD) (t : Fin cfg0.N) (k : Fin 512) (l : Fin 2048) (K : Fin 5632) (hK : K.val = 512 * (t.val % 11) + k.val) :
    (iblk m c 6 t : Vec Ideal S512x2048 .bf16) (ix2 k l) = m ((c : Thread nD τ).loc main_arg5) (ix2 K l) := by
  blk_point [iblk, V, idx t]

theorem ld_rows (X : Vec Ideal S512x2048 .bf16) (o : ℕ) (q : ∀ a, (![o, 0] : Fin 2 → ℕ) a + (![256, 2048] : Fin 2 → ℕ) a ≤ S512x2048.size a) (k : Fin 256) (l : Fin 2048) (ho : o + k.val < 512) :
    (View.ld X (Rect.unit ![o, 0] ![256, 2048] q) : Vec Ideal S256x2048 .bf16) (ix2 k l) = X (ix2 (⟨o + k.val, ho⟩ : Fin 512) l) := by
  refine congrArg X ?_
  funext b
  apply Fin.ext
  match b with
  | ⟨0, _⟩ => show o + 1 * k.val = o + k.val; omega
  | ⟨1, _⟩ => show 0 + 1 * l.val = l.val; omega

/-- The scratch after the two stores of a run's first point. -/
theorem first_canon (Z1 : FVec Ideal S512x2048 .bf16) (Z2 : FVec Ideal S16x2048 .bf16) (p1 : ∀ a, (![16, 0] : Fin 2 → ℕ) a + (![512, 2048] : Fin 2 → ℕ) a ≤ S528x2048.size a)
    (p2 : ∀ a, (![0, 0] : Fin 2 → ℕ) a + (![16, 2048] : Fin 2 → ℕ) a ≤ S528x2048.size a) (r : Fin 528) (d : Fin 2048) :
    View.canon (Val := Elt Ideal) (s := S528x2048) (e := .bf16) [⟨Rect.unit (s := S528x2048) ![16, 0] ![512, 2048] p1, Z1⟩, ⟨Rect.unit (s := S528x2048) ![0, 0] ![16, 2048] p2, Z2⟩] (ix2 r d)
      = if h : r.val < 16 then Z2 (ix2 (⟨r.val, h⟩ : Fin 16) d) else Z1 (ix2 (⟨r.val - 16, by omega⟩ : Fin 512) d) := by
  by_cases h : r.val < 16
  · rw [dif_pos h]
    have hm : (ix2 r d : S528x2048.Idx) ∉ (Rect.unit (s := S528x2048) ![16, 0] ![512, 2048] p1).set := by
      rw [Rect.mem_set_unit]
      intro hh
      have h0 : 16 ≤ r.val := (hh 0).1
      omega
    have he : (ix2 r d : S528x2048.Idx) = (Rect.unit (s := S528x2048) ![0, 0] ![16, 2048] p2).emb (ix2 (⟨r.val, h⟩ : Fin 16) d) := by
      funext b
      apply Fin.ext
      match b with
      | ⟨0, _⟩ => show r.val = 0 + 1 * r.val; omega
      | ⟨1, _⟩ => show d.val = 0 + 1 * d.val; omega
    refine (View.canon_cons_of_not_mem (Val := Elt Ideal) (s := S528x2048) (e := .bf16) (⟨Rect.unit (s := S528x2048) ![16, 0] ![512, 2048] p1, Z1⟩ : View.Piece (Elt Ideal) S528x2048 .bf16) _ hm).trans ?_
    refine (congrArg _ he).trans ?_
    exact View.canon_cons_emb (Val := Elt Ideal) (s := S528x2048) (e := .bf16) (Rect.unit (s := S528x2048) ![0, 0] ![16, 2048] p2) Z2 [] _
  · rw [dif_neg h]
    have he : (ix2 r d : S528x2048.Idx) = (Rect.unit (s := S528x2048) ![16, 0] ![512, 2048] p1).emb (ix2 (⟨r.val - 16, by omega⟩ : Fin 512) d) := by
      funext b
      apply Fin.ext
      match b with
      | ⟨0, _⟩ => show r.val = 16 + 1 * (r.val - 16); omega
      | ⟨1, _⟩ => show d.val = 0 + 1 * d.val; omega
    refine (congrArg _ he).trans ?_
    exact View.canon_cons_emb (Val := Elt Ideal) (s := S528x2048) (e := .bf16) (Rect.unit (s := S528x2048) ![16, 0] ![512, 2048] p1) Z1 _ _

/-- Row `r` of the scratch over a run of row block `i`: the normalized rows, zero before a sequence's first. -/
abbrev RowsOf (c : Dev nD) (i : ℕ) (r : Fin 528) (d : Fin 2048) : EReal :=
  if r.val < 16 ∧ i % 8 = 0 then 0 else normR (m ((c : Thread nD τ).loc main_arg0)) (m ((c : Thread nD τ).loc main_arg1)) (ix2 (row (512 * i + r.val - 16)) d)

theorem first_rows (c : Dev nD) (t : Fin cfg0.N) (p1 p2) (r : Fin 528) (d : Fin 2048) :
    View.canon (Val := Elt Ideal) (s := S528x2048) (e := .bf16) [⟨Rect.unit (s := S528x2048) ![16, 0] ![512, 2048] p1, k0_pay8 (iblk m c 0 t) (iblk m c 2 t) (k0_pay7 (iblk m c 0 t))⟩,
      ⟨Rect.unit (s := S528x2048) ![0, 0] ![16, 2048] p2, k0_pay6 (BitVec.ofNat 32 (grid0.coords t 0).val) (iblk m c 1 t) (iblk m c 2 t)⟩] (ix2 r d)
      = RowsOf m c (t.val / 11) r d := by
  rw [first_canon]
  by_cases h : r.val < 16
  · rw [dif_pos h, blk_halo]
    by_cases h8 : t.val / 11 % 8 = 0
    · rw [if_pos h8, RowsOf, if_pos ⟨h, h8⟩]
    · rw [if_neg h8, RowsOf, if_neg (fun hh => h8 hh.2)]
      rfl
  · rw [dif_neg h, blk_norm, RowsOf, if_neg (fun hh => h hh.1)]
    exact congrArg (fun R => normR (m ((c : Thread nD τ).loc main_arg0)) (m ((c : Thread nD τ).loc main_arg1)) (ix2 R d)) (congrArg row (by show 512 * (t.val / 11) + (r.val - 16) = _; omega))

end Cert.FfnIdeal.Ffn

end
-- ==== Proof.Ffn.Value.lean ====
/-
  The convolution feed-forward: the result array after the run is the reference's term of the arguments.
-/
module

public import proofs.«01_k».proof.Proof.Ffn.Step
public import Idealize.ShloMosaic.Lib.Pipeline.ReadBack

@[expose] public section

set_option maxRecDepth 16384

noncomputable section

namespace Cert.FfnIdeal.Ffn

open Cert.FfnIdeal Cert.FfnIdeal.Gen
open Idealize.ShloMosaic Idealize.ShloMosaic.TcCoe Idealize.SL.Sem
open Cert.FfnReferenceIdeal.Ffn (normR upR tap conv glu act down down_eq resR row)

variable (m : (ℓ : Loc nD τ sig) → Buf (Elt Ideal) ℓ)

/-- The carried scratch at every point: the run's rows. -/
theorem scratch (c : Dev nD) : ∀ (n : ℕ) (hn : n < cfg0.N) (r : Fin 528) (d : Fin 2048), (outsAt0 m c n hn).2 (ix2 r d) = RowsOf m c (n / 11) r d := by
  intro n
  induction n with
  | zero =>
    intro hn r d
    refine Eq.trans (congrFun (congrArg (fun p => p.2) (outsAt0_A m c ⟨0, hn⟩ (Nat.zero_mod _) (show ¬(0 : ℕ) % 11 = 10 by decide))) (ix2 r d)) ?_
    dsimp only
    frame_out
    exact first_rows m c ⟨0, hn⟩ _ _ r d
  | succ n ih =>
    intro hn r d
    by_cases h0 : (n + 1) % 11 = 0
    · refine Eq.trans (congrFun (congrArg (fun p => p.2) (outsAt0_A m c ⟨n + 1, hn⟩ h0 (by dsimp only; omega))) (ix2 r d)) ?_
      dsimp only
      frame_out
      exact first_rows m c ⟨n + 1, hn⟩ _ _ r d
    · have e : (n + 1) / 11 = n / 11 := by omega
      rw [e]
      by_cases h1 : (n + 1) % 11 = 10
      · refine Eq.trans (congrFun (congrArg (fun p => p.2) (outsAt0_C m c ⟨n + 1, hn⟩ h0 h1)) (ix2 r d)) ?_
        exact ih (Nat.lt_of_succ_lt hn) r d
      · refine Eq.trans (congrFun (congrArg (fun p => p.2) (outsAt0_B m c ⟨n + 1, hn⟩ h0 h1)) (ix2 r d)) ?_
        exact ih (Nat.lt_of_succ_lt hn) r d

/-- The reference's upward product. -/
abbrev U (c : Dev nD) : FVec Ideal Cert.FfnReferenceIdeal.S16384x11264 .f32 :=
  upR (normR (m ((c : Thread nD τ).loc main_arg0)) (m ((c : Thread nD τ).loc main_arg1))) (m ((c : Thread nD τ).loc main_arg2))

/-- Term `K` of entry `(R, l)` of the downward product. -/
abbrev term (c : Dev nD) (R : ℕ) (l : Fin 2048) (K : Fin 5632) : EReal :=
  act (U m c) (m ((c : Thread nD τ).loc main_arg3)) (m ((c : Thread nD τ).loc main_arg4)) R K * m ((c : Thread nD τ).loc main_arg5) (ix2 K l)

/-- What a point adds, whatever its scratch and the block so far. -/
theorem step (c : Dev nD) (t : Fin cfg0.N) (sc : Vec Ideal S528x2048 .bf16) (hsc : ∀ r d, sc (ix2 r d) = RowsOf m c (t.val / 11) r d) (P : Vec Ideal S512x2048 .f32) (a : Fin 512) (l : Fin 2048)
    (x1 x2 : Vec Ideal S1x4x512 .f32) (r0 r1 r2 s0 s1 s2 : Vec Ideal S1x512x512 .f32) (w0 w1 : Vec Ideal S256x2048 .bf16)
    (hx1 : ∀ (k : Fin 4) (f : Fin 512), x1 (ix3 (0 : Fin 1) k f) = (iblk m c 5 t : Vec Ideal S22x4x512 .f32) (ix3 (⟨t.val % 11, by omega⟩ : Fin 22) k f))
    (hx2 : ∀ (k : Fin 4) (f : Fin 512), x2 (ix3 (0 : Fin 1) k f) = (iblk m c 5 t : Vec Ideal S22x4x512 .f32) (ix3 (⟨11 + t.val % 11, by omega⟩ : Fin 22) k f))
    (h0 : ∀ f : Fin 512, r0 (ix3 (0 : Fin 1) a f) = k0_pay10 sc (iblk m c 3 t) (ix3 (0 : Fin 1) (⟨14 + a.val, by omega⟩ : Fin 528) f))
    (h1 : ∀ f : Fin 512, r1 (ix3 (0 : Fin 1) a f) = k0_pay10 sc (iblk m c 3 t) (ix3 (0 : Fin 1) (⟨15 + a.val, by omega⟩ : Fin 528) f))
    (h2 : ∀ f : Fin 512, r2 (ix3 (0 : Fin 1) a f) = k0_pay10 sc (iblk m c 3 t) (ix3 (0 : Fin 1) (⟨16 + a.val, by omega⟩ : Fin 528) f))
    (g0 : ∀ f : Fin 512, s0 (ix3 (0 : Fin 1) a f) = k0_pay10 sc (iblk m c 4 t) (ix3 (0 : Fin 1) (⟨14 + a.val, by omega⟩ : Fin 528) f))
    (g1 : ∀ f : Fin 512, s1 (ix3 (0 : Fin 1) a f) = k0_pay10 sc (iblk m c 4 t) (ix3 (0 : Fin 1) (⟨15 + a.val, by omega⟩ : Fin 528) f))
    (g2 : ∀ f : Fin 512, s2 (ix3 (0 : Fin 1) a f) = k0_pay10 sc (iblk m c 4 t) (ix3 (0 : Fin 1) (⟨16 + a.val, by omega⟩ : Fin 528) f))
    (hw0 : ∀ k : Fin 256, w0 (ix2 k l) = (iblk m c 6 t : Vec Ideal S512x2048 .bf16) (ix2 (⟨k.val, by omega⟩ : Fin 512) l))
    (hw1 : ∀ k : Fin 256, w1 (ix2 k l) = (iblk m c 6 t : Vec Ideal S512x2048 .bf16) (ix2 (⟨256 + k.val, by omega⟩ : Fin 512) l)) :
    k0_pay3 (k0_pay11 x2 s0 s1 s2) (k0_pay14 (k0_pay11 x1 r0 r1 r2)) (k0_pay15 (k0_pay11 x1 r0 r1 r2)) k0_pay16
      (k0_pay2 (k0_pay11 x2 s0 s1 s2) (k0_pay14 (k0_pay11 x1 r0 r1 r2)) (k0_pay15 (k0_pay11 x1 r0 r1 r2)) k0_pay16 P w0) w1 (ix2 a l)
      = P (ix2 a l) + ∑ k : Fin 512, term m c (512 * (t.val / 11) + a.val) l ⟨512 * (t.val % 11) + k.val, by omega⟩ := by
  rw [halves _ _ _ _ _ a l (fun k : Fin 512 => (iblk m c 6 t : Vec Ideal S512x2048 .bf16) (ix2 k l)) hw0 hw1]
  refine congrArg (P (ix2 a l) + ·) (Finset.sum_congr rfl fun k _ => ?_)
  rw [branch (normR (m ((c : Thread nD τ).loc main_arg0)) (m ((c : Thread nD τ).loc main_arg1))) (m ((c : Thread nD τ).loc main_arg2)) (m ((c : Thread nD τ).loc main_arg3)) (m ((c : Thread nD τ).loc main_arg4))
      sc (t.val / 11) hsc (iblk m c 3 t) x1 r0 r1 r2 a k ⟨512 * (t.val % 11) + k.val, by omega⟩
      (fun d => col1 m c t d k _ rfl) (fun k' => (hx1 k' k).trans (taps m c t _ k' k _ rfl)) (h0 k) (h1 k) (h2 k),
    branch (normR (m ((c : Thread nD τ).loc main_arg0)) (m ((c : Thread nD τ).loc main_arg1))) (m ((c : Thread nD τ).loc main_arg2)) (m ((c : Thread nD τ).loc main_arg3)) (m ((c : Thread nD τ).loc main_arg4))
      sc (t.val / 11) hsc (iblk m c 4 t) x2 s0 s1 s2 a k ⟨5632 + (512 * (t.val % 11) + k.val), by omega⟩
      (fun d => col2 m c t d k _ (by dsimp only; omega)) (fun k' => (hx2 k' k).trans (taps m c t _ k' k _ (by dsimp only; omega))) (g0 k) (g1 k) (g2 k),
    rows m c t k l ⟨512 * (t.val % 11) + k.val, by omega⟩ rfl]
  rfl

theorem step13 (c : Dev nD) (t : Fin cfg0.N) (sc : Vec Ideal S528x2048 .bf16) (hsc : ∀ r d, sc (ix2 r d) = RowsOf m c (t.val / 11) r d) (P : Vec Ideal S512x2048 .f32) (a : Fin 512) (l : Fin 2048)
    (x1 x2 : Vec Ideal S1x4x512 .f32) (r0 r1 r2 s0 s1 s2 : Vec Ideal S1x512x512 .f32) (w0 w1 : Vec Ideal S256x2048 .bf16)
    (hx1 : ∀ (k : Fin 4) (f : Fin 512), x1 (ix3 (0 : Fin 1) k f) = (iblk m c 5 t : Vec Ideal S22x4x512 .f32) (ix3 (⟨t.val % 11, by omega⟩ : Fin 22) k f))
    (hx2 : ∀ (k : Fin 4) (f : Fin 512), x2 (ix3 (0 : Fin 1) k f) = (iblk m c 5 t : Vec Ideal S22x4x512 .f32) (ix3 (⟨11 + t.val % 11, by omega⟩ : Fin 22) k f))
    (h0 : ∀ f : Fin 512, r0 (ix3 (0 : Fin 1) a f) = k0_pay10 sc (iblk m c 3 t) (ix3 (0 : Fin 1) (⟨14 + a.val, by omega⟩ : Fin 528) f))
    (h1 : ∀ f : Fin 512, r1 (ix3 (0 : Fin 1) a f) = k0_pay10 sc (iblk m c 3 t) (ix3 (0 : Fin 1) (⟨15 + a.val, by omega⟩ : Fin 528) f))
    (h2 : ∀ f : Fin 512, r2 (ix3 (0 : Fin 1) a f) = k0_pay10 sc (iblk m c 3 t) (ix3 (0 : Fin 1) (⟨16 + a.val, by omega⟩ : Fin 528) f))
    (g0 : ∀ f : Fin 512, s0 (ix3 (0 : Fin 1) a f) = k0_pay12 sc (iblk m c 4 t) (ix3 (0 : Fin 1) (⟨14 + a.val, by omega⟩ : Fin 528) f))
    (g1 : ∀ f : Fin 512, s1 (ix3 (0 : Fin 1) a f) = k0_pay12 sc (iblk m c 4 t) (ix3 (0 : Fin 1) (⟨15 + a.val, by omega⟩ : Fin 528) f))
    (g2 : ∀ f : Fin 512, s2 (ix3 (0 : Fin 1) a f) = k0_pay12 sc (iblk m c 4 t) (ix3 (0 : Fin 1) (⟨16 + a.val, by omega⟩ : Fin 528) f))
    (hw0 : ∀ k : Fin 256, w0 (ix2 k l) = (iblk m c 6 t : Vec Ideal S512x2048 .bf16) (ix2 (⟨k.val, by omega⟩ : Fin 512) l))
    (hw1 : ∀ k : Fin 256, w1 (ix2 k l) = (iblk m c 6 t : Vec Ideal S512x2048 .bf16) (ix2 (⟨256 + k.val, by omega⟩ : Fin 512) l)) :
    k0_pay3 (k0_pay13 x2 s0 s1 s2) (k0_pay14 (k0_pay11 x1 r0 r1 r2)) (k0_pay15 (k0_pay11 x1 r0 r1 r2)) k0_pay16
      (k0_pay2 (k0_pay13 x2 s0 s1 s2) (k0_pay14 (k0_pay11 x1 r0 r1 r2)) (k0_pay15 (k0_pay11 x1 r0 r1 r2)) k0_pay16 P w0) w1 (ix2 a l)
      = P (ix2 a l) + ∑ k : Fin 512, term m c (512 * (t.val / 11) + a.val) l ⟨512 * (t.val % 11) + k.val, by omega⟩ :=
  step m c t sc hsc P a l x1 x2 r0 r1 r2 s0 s1 s2 w0 w1 hx1 hx2 h0 h1 h2 g0 g1 g2 hw0 hw1

theorem whole_emb (p : ∀ a, (![0, 0] : Fin 2 → ℕ) a + (![528, 2048] : Fin 2 → ℕ) a ≤ S528x2048.size a) (r : Fin 528) (d : Fin 2048) :
    (Rect.unit (s := S528x2048) ![0, 0] ![528, 2048] p).emb (ix2 r d) = (ix2 r d : S528x2048.Idx) := by
  funext b
  apply Fin.ext
  match b with
  | ⟨0, _⟩ => show 0 + 1 * r.val = r.val; omega
  | ⟨1, _⟩ => show 0 + 1 * d.val = d.val; omega

/-- What a run's first point reads back of the scratch. -/
theorem first_read (c : Dev nD) (t : Fin cfg0.N) (p1 p2 p3) (r : Fin 528) (d : Fin 2048) :
    (View.whole cc0_scratch0).readCov (Val := Elt Ideal) [⟨Rect.unit (s := S528x2048) ![16, 0] ![512, 2048] p1, k0_pay8 (iblk m c 0 t) (iblk m c 2 t) (k0_pay7 (iblk m c 0 t))⟩,
      ⟨Rect.unit (s := S528x2048) ![0, 0] ![16, 2048] p2, k0_pay6 (BitVec.ofNat 32 (grid0.coords t 0).val) (iblk m c 1 t) (iblk m c 2 t)⟩] (Rect.unit (s := S528x2048) ![0, 0] ![528, 2048] p3).toLoadRect (ix2 r d)
      = RowsOf m c (t.val / 11) r d :=
  (congrFun (View.readCov_eq_canon' (Val := Elt Ideal) (View.whole cc0_scratch0) _ _) _).trans ((congrArg _ (whole_emb p3 r d)).trans (first_rows m c t p1 p2 r d))

theorem out_A (c : Dev nD) (t : Fin cfg0.N) (h0 : t.val % 11 = 0) (h1 : ¬t.val % 11 = 10) (a : Fin 512) (l : Fin 2048) :
    (outsAt0 m c t.val t.isLt).1 (ix2 a l) = ∑ k : Fin 512, term m c (512 * (t.val / 11) + a.val) l ⟨512 * (t.val % 11) + k.val, by omega⟩ := by
  rw [outsAt0_A m c t h0 h1]
  dsimp only
  frame_out
  refine (step13 m c t _ (fun r d => first_read m c t _ _ _ r d) (k0_pay9 (F := Ideal)) a l _ _ _ _ _ _ _ _ _ _ (fun k f => ld_taps1 m c t _ k f _) (fun k f => ld_taps2 m c t _ k f _)
    (fun f => slot _ _ 0 14 _ _ a f (by omega)) (fun f => slot _ _ 0 15 _ _ a f (by omega)) (fun f => slot _ _ 0 16 _ _ a f (by omega))
    (fun f => slot _ _ 1 14 _ _ a f (by omega)) (fun f => slot _ _ 1 15 _ _ a f (by omega)) (fun f => slot _ _ 1 16 _ _ a f (by omega))
    (fun k => (ld_rows _ 0 _ k l (by omega)).trans (congrArg (fun K => (iblk m c 6 t : Vec Ideal S512x2048 .bf16) (ix2 K l)) (Fin.ext (by dsimp only; omega)))) (fun k => ld_rows _ 256 _ k l (by omega))).trans ?_
  pointwise [k0_pay9]

theorem out_B (c : Dev nD) (t : Fin cfg0.N) (h0 : ¬t.val % 11 = 0) (h1 : ¬t.val % 11 = 10) (a : Fin 512) (l : Fin 2048) :
    (outsAt0 m c t.val t.isLt).1 (ix2 a l) = (outsAt0 m c (t.val - 1) (Nat.lt_of_le_of_lt (Nat.sub_le _ _) t.isLt)).1 (ix2 a l)
      + ∑ k : Fin 512, term m c (512 * (t.val / 11) + a.val) l ⟨512 * (t.val % 11) + k.val, by omega⟩ := by
  have hs := scratch m c (t.val - 1) (Nat.lt_of_le_of_lt (Nat.sub_le _ _) t.isLt)
  rw [show (t.val - 1) / 11 = t.val / 11 by omega] at hs
  rw [outsAt0_B m c t h0 h1]
  dsimp only
  frame_out
  generalize (outsAt0 m c (t.val - 1) (Nat.lt_of_le_of_lt (Nat.sub_le _ _) t.isLt)).2 = sc at hs ⊢
  generalize (outsAt0 m c (t.val - 1) (Nat.lt_of_le_of_lt (Nat.sub_le _ _) t.isLt)).1 = P
  rw [read_unread_whole]
  exact step13 m c t sc hs P a l _ _ _ _ _ _ _ _ _ _ (fun k f => ld_taps1 m c t _ k f _) (fun k f => ld_taps2 m c t _ k f _)
    (fun f => slot _ _ 0 14 _ _ a f (by omega)) (fun f => slot _ _ 0 15 _ _ a f (by omega)) (fun f => slot _ _ 0 16 _ _ a f (by omega))
    (fun f => slot _ _ 1 14 _ _ a f (by omega)) (fun f => slot _ _ 1 15 _ _ a f (by omega)) (fun f => slot _ _ 1 16 _ _ a f (by omega))
    (fun k => (ld_rows _ 0 _ k l (by omega)).trans (congrArg (fun K => (iblk m c 6 t : Vec Ideal S512x2048 .bf16) (ix2 K l)) (Fin.ext (by dsimp only; omega)))) (fun k => ld_rows _ 256 _ k l (by omega))

/-- Term `K` of entry `(R, l)` of the downward product, for any number `K`. -/
abbrev termN (c : Dev nD) (R : ℕ) (l : Fin 2048) (K : ℕ) : EReal :=
  if h : K < 5632 then term m c R l ⟨K, h⟩ else 0

theorem part (c : Dev nD) (R : ℕ) (l : Fin 2048) (j : ℕ) (hj : j < 11) :
    (∑ k : Fin 512, term m c R l ⟨512 * j + k.val, by omega⟩) = ∑ k : Fin 512, termN m c R l (512 * j + k.val) :=
  Finset.sum_congr rfl fun k _ => by rw [termN, dif_pos (show 512 * j + k.val < 5632 by omega)]

theorem parts (c : Dev nD) (R : ℕ) (l : Fin 2048) :
    (∑ s ∈ Finset.range 11, ∑ k : Fin 512, termN m c R l (512 * s + k.val))
      = down (U m c) (m ((c : Thread nD τ).loc main_arg3)) (m ((c : Thread nD τ).loc main_arg4)) (m ((c : Thread nD τ).loc main_arg5)) R l := by
  rw [Finset.sum_range]
  unfold down
  refine Fin.sum_mul_add_congr (fun s k hl => ?_) (by norm_num)
  rw [termN, dif_pos (show 512 * s.val + k.val < 5632 by omega)]
  have e : (⟨512 * s.val + k.val, by omega⟩ : Fin 5632) = ⟨s.val * 512 + k.val, hl⟩ := Fin.ext (by dsimp only; omega)
  rw [e]

/-- The block after each point of a run but the last: the products' parts so far. -/
theorem accum (c : Dev nD) (a : Fin 512) (l : Fin 2048) : ∀ (n : ℕ) (hn : n < cfg0.N), ¬n % 11 = 10 →
    (outsAt0 m c n hn).1 (ix2 a l) = ∑ s ∈ Finset.range (n % 11 + 1), ∑ k : Fin 512, termN m c (512 * (n / 11) + a.val) l (512 * s + k.val) := by
  intro n
  induction n with
  | zero =>
    intro hn h1
    refine (out_A m c ⟨0, hn⟩ (Nat.zero_mod _) h1 a l).trans ?_
    rw [part m c _ l _ (Nat.mod_lt _ (by omega))]
    simp
  | succ n ih =>
    intro hn h1
    by_cases h0 : (n + 1) % 11 = 0
    · refine (out_A m c ⟨n + 1, hn⟩ h0 h1 a l).trans ?_
      rw [part m c _ l _ (Nat.mod_lt _ (by omega))]
      simp [h0]
    · refine (out_B m c ⟨n + 1, hn⟩ h0 h1 a l).trans ?_
      rw [part m c _ l _ (Nat.mod_lt _ (by omega))]
      have e : (n + 1) / 11 = n / 11 := by omega
      have e' : (n + 1) % 11 = n % 11 + 1 := by omega
      refine (congrArg (· + _) (ih (Nat.lt_of_succ_lt hn) (by omega))).trans ?_
      dsimp only
      rw [e, e', ← Finset.sum_range_succ]

theorem post_of (p x : Vec Ideal S512x2048 .f32) (g : Vec Ideal S1x2048 .f32) (a : Fin 512) (l : Fin 2048) (D : Fin 2048 → EReal) (h : ∀ k, p (ix2 a k) = D k) : k0_pay5 (k0_pay4 p) x p g (ix2 a l)
    = x (ix2 a l) + D l * Ideal.rsqrt (Ideal.div (∑ k, D k * D k) (Ideal.ofBits .f32 0x45000000#32) + Ideal.ofBits .f32 0x358637BD#32) * g (ix2 (0 : Fin 1) l) := by
  rw [post]
  simp only [h]

theorem out_C (c : Dev nD) (t : Fin cfg0.N) (h1 : t.val % 11 = 10) (a : Fin 512) (l : Fin 2048) (X G : EReal) (hX : (iblk m c 0 t : Vec Ideal S512x2048 .f32) (ix2 a l) = X) (hG : (iblk m c 7 t : Vec Ideal S1x2048 .f32) (ix2 (0 : Fin 1) l) = G) (D : Fin 2048 → EReal)
    (hD : ∀ l, D l = down (U m c) (m ((c : Thread nD τ).loc main_arg3)) (m ((c : Thread nD τ).loc main_arg4)) (m ((c : Thread nD τ).loc main_arg5)) (512 * (t.val / 11) + a.val) l) :
    (outsAt0 m c t.val t.isLt).1 (ix2 a l) = X + D l * Ideal.rsqrt (Ideal.div (∑ k, D k * D k) (Ideal.ofBits .f32 0x45000000#32) + Ideal.ofBits .f32 0x358637BD#32) * G := by
  subst hX hG
  have h0 : ¬t.val % 11 = 0 := by omega
  have hs := scratch m c (t.val - 1) (Nat.lt_of_le_of_lt (Nat.sub_le _ _) t.isLt)
  have e : (t.val - 1) / 11 = t.val / 11 := by omega
  have e' : (t.val - 1) % 11 = 9 := by omega
  have hp := fun l => accum m c a l (t.val - 1) (Nat.lt_of_le_of_lt (Nat.sub_le _ _) t.isLt) (by omega)
  rw [e] at hs
  rw [e, e'] at hp
  rw [outsAt0_C m c t h0 h1]
  dsimp only
  frame_out
  generalize (outsAt0 m c (t.val - 1) (Nat.lt_of_le_of_lt (Nat.sub_le _ _) t.isLt)).2 = sc at hs ⊢
  generalize (outsAt0 m c (t.val - 1) (Nat.lt_of_le_of_lt (Nat.sub_le _ _) t.isLt)).1 = P at hp ⊢
  rw [read_unread_whole]
  refine post_of _ _ _ a l D fun l => (step13 m c t sc hs P a l _ _ _ _ _ _ _ _ _ _ (fun k f => ld_taps1 m c t _ k f _) (fun k f => ld_taps2 m c t _ k f _)
    (fun f => slot _ _ 0 14 _ _ a f (by omega)) (fun f => slot _ _ 0 15 _ _ a f (by omega)) (fun f => slot _ _ 0 16 _ _ a f (by omega))
    (fun f => slot _ _ 1 14 _ _ a f (by omega)) (fun f => slot _ _ 1 15 _ _ a f (by omega)) (fun f => slot _ _ 1 16 _ _ a f (by omega))
    (fun k => (ld_rows _ 0 _ k l (by omega)).trans (congrArg (fun K => (iblk m c 6 t : Vec Ideal S512x2048 .bf16) (ix2 K l)) (Fin.ext (by dsimp only; omega)))) (fun k => ld_rows _ 256 _ k l (by omega))).trans ?_
  rw [hD, hp, part m c _ l _ (Nat.mod_lt _ (by omega)), h1, ← parts, Finset.sum_range_succ _ 10]

theorem res_point (x Y : FVec Ideal Cert.FfnReferenceIdeal.S16384x2048 .f32) (g : FVec Ideal Cert.FfnReferenceIdeal.S1x2048 .f32) (R : Fin 16384) (l : Fin 2048) : addf x (normR Y g) (ix2 R l)
    = x (ix2 R l) + Y (ix2 R l) * Ideal.rsqrt (Ideal.div (∑ k, Y (ix2 R k) * Y (ix2 R k)) (Ideal.ofBits .f32 0x45000000#32) + Ideal.ofBits .f32 0x358637BD#32) * g (ix2 (0 : Fin 1) l) := by
  pointwise [normR]

theorem rows_x (c : Dev nD) (t : Fin cfg0.N) (a : Fin 512) (l : Fin 2048) (R : Fin 16384) (hR : R.val = 512 * (t.val / 11) + a.val) :
    (iblk m c 0 t : Vec Ideal S512x2048 .f32) (ix2 a l) = m ((c : Thread nD τ).loc main_arg0) (ix2 R l) := by
  blk_point [iblk, V, idx t]

theorem rows_g (c : Dev nD) (t : Fin cfg0.N) (l : Fin 2048) :
    (iblk m c 7 t : Vec Ideal S1x2048 .f32) (ix2 (0 : Fin 1) l) = m ((c : Thread nD τ).loc main_arg6) (ix2 (0 : Fin 1) l) := by
  blk_point [iblk, V, idx t]

theorem point (c : Dev nD) (t : Fin cfg0.N) (h1 : t.val % 11 = 10) (a : Fin 512) (l : Fin 2048) (R : Fin 16384) (hR : R.val = 512 * (t.val / 11) + a.val) :
    (outsAt0 m c t.val t.isLt).1 (ix2 a l) = resR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 R l) :=
  (out_C m c t h1 a l _ _ (rows_x m c t a l R hR) (rows_g m c t l) _ fun l => (down_eq (U m c) (m ((c : Thread nD τ).loc main_arg3)) (m ((c : Thread nD τ).loc main_arg4)) (m ((c : Thread nD τ).loc main_arg5)) R l).trans (by rw [hR])).trans
    (res_point _ _ _ R l).symm

theorem out_emb (t : Fin cfg0.N) (a : Fin 512) (l : Fin 2048) (R : Fin 16384) (hR : R.val = 512 * (t.val / 11) + a.val) : (((cfg0.win 8).blk t).view.emb (ix2 a l) : S16384x2048.Idx) = ix2 R l := by
  have e := (idx t).2.2.2.2.2.2.2.2.1
  funext b
  apply Fin.ext
  match b with
  | ⟨0, _⟩ => show win0_8.index t 0 * 512 + 1 * a.val = R.val; rw [show win0_8.index t 0 = t.val / 11 from congrFun e 0]; omega
  | ⟨1, _⟩ => show win0_8.index t 1 * 2048 + 1 * l.val = l.val; rw [show win0_8.index t 1 = 0 from congrFun e 1]; omega

theorem point_at (c : Dev nD) (t : Fin cfg0.N) (h1 : t.val % 11 = 10) (y : S512x2048.Idx) :
    (outsAt0 m c t.val t.isLt).1 y = resR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb y) := by
  have hN := lt_N t
  have hy : ∃ a l, y = ix2 a l := ⟨y 0, y 1, by
    funext b
    match b with
    | ⟨0, _⟩ => rfl
    | ⟨1, _⟩ => rfl⟩
  obtain ⟨a, l, rfl⟩ := hy
  exact (point m c t h1 a l ⟨512 * (t.val / 11) + a.val, by omega⟩ rfl).trans (congrArg _ (out_emb t a l _ rfl).symm)

theorem final (c : Dev nD) : (dats m 0 c).arrAt 8 cfg0.N = resR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  exact point_at m c t ((flush0_8 t).1 hf) y

/-- The run, its result the reference's term. -/
theorem run_value (ρ : Dev nD → PrngReg) : θ_run defs (onTc (τ := τ) (main (F := Ideal))) ⟨m, fun _ => 0, ρ⟩ (fun r => ∀ c : Dev nD,
      r.2.mem ((c : Thread nD τ).loc main_v3) = resR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun _ h c => ⟨(h c).1.trans (final m c), (h c).2⟩) (Cert.FfnIdeal.Value.run_blocks m ρ)

end Cert.FfnIdeal.Ffn

end
-- ==== Proof.Ple.Value.lean ====
/-
  The gated per-layer embedding: the result array after the run is the reference's term of the arguments.
-/
module

public import proofs.«01_k».proof.Proof.Gen.PleIdeal.Value
public import proofs.«01_k».proof.Proof.Gen.PleReferenceIdeal.Run
public import Idealize.ShloMosaic.Lib.Pipeline.ValueKit
public import Idealize.ShloMosaic.Lib.Pointwise
public import Idealize.ShloMosaic.Lib.Claim

@[expose] public section

set_option maxRecDepth 16384

noncomputable section

namespace Cert.PleReferenceIdeal.Ple

open Cert.PleReferenceIdeal Cert.PleReferenceIdeal.Gen
open Idealize.ShloMosaic

/-- The embedding, gated by the logistic of the residual stream's projection. -/
abbrev gatedR (x : FVec Ideal S16384x2048 .f32) (p : FVec Ideal S16384x256 .f32) (wp : FVec Ideal S256x2048 .bf16) (wg : FVec Ideal S2048x2048 .bf16) : FVec Ideal S16384x2048 .f32 :=
  mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (Host.dotGeneral dot_S16384x2048_S2048x2048_S16384x2048_1_0_0_1_n_n none x (extf .f32 wg bitsLt_bf16_f32)))))) (Host.dotGeneral dot_S16384x256_S256x2048_S16384x2048_1_0_0_1_n_n none p (extf .f32 wp bitsLt_bf16_f32))

/-- A row over its root mean square, times a gain. -/
abbrev normR (y : FVec Ideal S16384x2048 .f32) (g : FVec Ideal S1x2048 .f32) : FVec Ideal S16384x2048 .f32 :=
  mulf (mulf y (broadcastInDim S16384x2048 ![0, 1] bcast_S16384x1_S16384x2048_0_1 (Host.rsqrt (addf (Host.divf (broadcastInDim S16384x1 ![0] bcast_S16384_S16384x1_0 (Host.reduceAdd (mulf y y) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 g)

/-- The reference's result. -/
abbrev resR (x : FVec Ideal S16384x2048 .f32) (p : FVec Ideal S16384x256 .f32) (wp : FVec Ideal S256x2048 .bf16) (wg : FVec Ideal S2048x2048 .bf16) (g : FVec Ideal S1x2048 .f32) : FVec Ideal S16384x2048 .f32 :=
  addf x (normR (gatedR x p wp wg) g)

end Cert.PleReferenceIdeal.Ple

namespace Cert.PleIdeal.Ple

open Cert.PleIdeal Cert.PleIdeal.Gen
open Idealize.ShloMosaic Idealize.ShloMosaic.TcCoe Idealize.SL.Sem
open Cert.PleReferenceIdeal.Ple (gatedR normR resR)

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] :=
  (by decide +kernel : ∀ t : Fin grid0.N, _)

theorem point (c : Dev nD) (t : Fin cfg0.N) (y) : k0_pay1 (iblk m c 0 t) (iblk m c 1 t) (iblk m c 2 t) (iblk m c 3 t) (iblk m c 4 t) y
    = resR (m ((c : Thread nD τ).loc main_arg0)) (m ((c : Thread nD τ).loc main_arg1)) (m ((c : Thread nD τ).loc main_arg2)) (m ((c : Thread nD τ).loc main_arg3))
        (m ((c : Thread nD τ).loc main_arg4)) (((cfg0.win 5).blk t).view.emb y) := by
  pointwise [k0_pay1, resR, normR, gatedR]
  simp only [Ideal.logistic]
  blk_point [iblk, V, idx t]

theorem final (c : Dev nD) : (dats m 0 c).arrAt 5 (cfgs 0).N
    = resR (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 5 _ (by decide +kernel) fun t _ y => ?_
  blk_simp
  rw [after0_5]; frame_out
  exact point m c t y

/-- The run, its result the reference's term. -/
theorem run_value (ρ : Dev nD → PrngReg) : θ_run defs (onTc (τ := τ) (main (F := Ideal))) ⟨m, fun _ => 0, ρ⟩ (fun r => ∀ c : Dev nD,
      r.2.mem ((c : Thread nD τ).loc main_v0) = resR (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h c).1.trans (final m c), (h c).2⟩) (Value.run_blocks m ρ)

end Cert.PleIdeal.Ple

end
-- ==== Proof.InProj.Value.lean ====
/-
  The normalization and the input projection: the result arrays after the run are the reference's terms of the arguments.
-/
module

public import proofs.«01_k».proof.Proof.Gen.InProjIdeal.Value
public import proofs.«01_k».proof.Proof.Gen.InProjReferenceIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.InProjReferenceIdeal.InProj

open Cert.InProjReferenceIdeal Cert.InProjReferenceIdeal.Gen
open Idealize.ShloMosaic

/-- A row over its root mean square, times a gain. -/
abbrev normR (y : FVec Ideal S16384x2048 .f32) (g : FVec Ideal S1x2048 .f32) : FVec Ideal S16384x2048 .f32 :=
  mulf (mulf y (broadcastInDim S16384x2048 ![0, 1] bcast_S16384x1_S16384x2048_0_1 (Host.rsqrt (addf (Host.divf (broadcastInDim S16384x1 ![0] bcast_S16384_S16384x1_0 (Host.reduceAdd (mulf y y) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 g)

/-- The projection of normalized rows. -/
abbrev dotR (h : FVec Ideal S16384x2048 .f32) (w : FVec Ideal S2048x8192 .f32) : FVec Ideal S16384x8192 .f32 :=
  Host.dotGeneral dot_S16384x2048_S2048x8192_S16384x8192_1_0_0_1_n_n none h w

/-- The queries' scale. -/
abbrev scaleR : FVec Ideal S_ .f32 :=
  Host.divf (constant S_ .f32 0x3F800000#32) (mulf (Host.sqrt (constant S_ .f32 0x43000000#32)) (Host.log (constant S_ .f32 0x40000000#32)))

/-- The queries scaled, the other columns as they are. -/
abbrev resR (d : FVec Ideal S16384x8192 .f32) : FVec Ideal S16384x8192 .bf16 :=
  truncf .bf16 (concatenate S16384x8192 1 [⟨S16384x1024, (mulf (extractStridedSlice S16384x1024 ![0, 0] d slices_S16384x8192_S16384x1024_0_0) (broadcastInDim S16384x1024 ![] bcast_S_S16384x1024 scaleR))⟩, ⟨S16384x7168, (extractStridedSlice S16384x7168 ![0, 1024] d slices_S16384x8192_S16384x7168_0_1024)⟩] concatenates_S16384x1024_S16384x7168_S16384x8192_d1) bitsLt_bf16_f32

end Cert.InProjReferenceIdeal.InProj

namespace Cert.InProjIdeal.InProj

open Cert.InProjIdeal Cert.InProjIdeal.Gen
open Idealize.ShloMosaic Idealize.ShloMosaic.TcCoe Idealize.SL.Sem
open Cert.InProjReferenceIdeal.InProj (normR dotR scaleR resR)

variable (m : (ℓ : Loc nD τ sig) → Buf (Elt Ideal) ℓ)

theorem idx : ∀ t : Fin cfg0.N, win0_0.index t = ![t.val / 4, 0] ∧ win0_1.index t = ![0, 0] ∧ win0_2.index t = ![0, t.val % 4] ∧ win0_3.index t = ![t.val, 0]
    ∧ win0_4.index t = ![t.val / 4, t.val % 4] ∧ win0_5.index t = ![t.val, 0] ∧ (grid0.coords t 1).val = t.val % 4 :=
  (by decide +kernel : ∀ t : Fin grid0.N, _)

/-- Row `r` of the normalized stream at column `k`, with the block's place `q`. -/
abbrev rowAt (x : FVec Ideal Cert.InProjReferenceIdeal.S16384x2048 .f32) (g : FVec Ideal Cert.InProjReferenceIdeal.S1x2048 .f32) (q : ℕ) (hq : q < 16) (y : S1024x2048.Idx) : EReal :=
  normR x g (ix2 (⟨1024 * q + (y 0).val, by have : (y 0).val < 1024 := (y 0).isLt; omega⟩ : Fin 16384) (y 1))

theorem blk_norm (c : Dev nD) (t : Fin cfg0.N) (y) (hq : t.val / 4 < 16) : k0_pay2 (iblk m c 0 t) (iblk m c 1 t) y
    = rowAt (m ((c : Thread nD τ).loc main_arg0)) (m ((c : Thread nD τ).loc main_arg1)) (t.val / 4) hq y := by
  pointwise [k0_pay2, normR, rowAt]
  blk_point [iblk, V, idx t]

/-- The carried scratch at every point: the run's normalized rows. -/
theorem scratch (c : Dev nD) : ∀ (n : ℕ) (hn : n < cfg0.N) (hq : n / 4 < 16) (y), (outsAt0 m c n hn).2.2 y
    = rowAt (m ((c : Thread nD τ).loc main_arg0)) (m ((c : Thread nD τ).loc main_arg1)) (n / 4) hq y := by
  intro n
  induction n with
  | zero =>
    intro hn hq y
    refine Eq.trans (congrFun (congrArg (fun p => p.2.2) (outsAt0_A m c ⟨0, hn⟩ (Nat.zero_mod _))) y) ?_
    dsimp only
    frame_out
    exact blk_norm m c ⟨0, hn⟩ y hq
  | succ n ih =>
    intro hn hq y
    by_cases h0 : (n + 1) % 4 = 0
    · refine Eq.trans (congrFun (congrArg (fun p => p.2.2) (outsAt0_A m c ⟨n + 1, hn⟩ h0)) y) ?_
      dsimp only
      frame_out
      exact blk_norm m c ⟨n + 1, hn⟩ y hq
    · refine Eq.trans (congrFun (congrArg (fun p => p.2.2) (outsAt0_B m c ⟨n + 1, hn⟩ h0)) y) ?_
      dsimp only [sout0_B_0]
      have e : (n + 1) / 4 = n / 4 := by omega
      refine (ih (Nat.lt_of_succ_lt hn) (by omega) y).trans ?_
      simp only [e]

theorem named_q : Named.named (F := Ideal) κ (φ := .f32) "q_scale" 0x3E0293EE#32 = ((((Real.sqrt 128) * (Real.log 2))⁻¹ : ℝ) : EReal) :=
  (IdealRules.named_const.statement κ "q_scale" .f32 0x3E0293EE#32 _ rfl).2.2

theorem bits_128 : Ideal.ofBits .f32 0x43000000#32 = ((128 : ℝ) : EReal) := by
  simp [Ideal.ofBits, Ideal.ieee]
  rw [← EReal.coe_mul]
  norm_num

theorem bits_2 : Ideal.ofBits .f32 0x40000000#32 = ((2 : ℝ) : EReal) := by
  simp [Ideal.ofBits, Ideal.ieee]
  rw [← EReal.coe_mul]
  norm_num

/-- The reference's scale is the kernel's named constant. -/
theorem scale_eq : Ideal.div 1 (Ideal.sqrt (Ideal.ofBits .f32 0x43000000#32) * Ideal.log (Ideal.ofBits .f32 0x40000000#32))
    = ((((Real.sqrt 128) * (Real.log 2))⁻¹ : ℝ) : EReal) := by
  have h2 : (0 : ℝ) < Real.log 2 := Real.log_pos (by norm_num)
  have h1 : (0 : ℝ) < Real.sqrt 128 := Real.sqrt_pos.mpr (by norm_num)
  have hs : Ideal.sqrt ((128 : ℝ) : EReal) = ((Real.sqrt 128 : ℝ) : EReal) := by
    rw [Ideal.sqrt_coe, if_neg (by norm_num)]
  rw [bits_128, bits_2, Ideal.log_coe, if_neg (by norm_num), hs, ← EReal.coe_mul, Ideal.div_coe (mul_pos h1 h2).ne', one_mul, one_div]

/-- The kernel's choice of the scale at column `b` of column block `j`. -/
theorem mask (j b : ℕ) (hj : j < 4) (hb : b < 2048) (p q : EReal) :
    Scalar.select (IntOp.cmpi CmpIPredicate.slt (IntOp.addi (Scalar.muli (BitVec.ofNat 32 j) 2048#32) (BitVec.ofNat 32 b)) 1024#32) p q
      = if j * 2048 + b < 1024 then p else q := by
  have e : IntOp.addi (Scalar.muli (BitVec.ofNat 32 j) 2048#32) (BitVec.ofNat 32 b) = BitVec.ofNat 32 (j * 2048 + b) := by
    apply BitVec.eq_of_toNat_eq
    simp [IntOp.addi, Scalar.muli, IntOp.muli]
  have e2 : IntOp.cmpi CmpIPredicate.slt (BitVec.ofNat 32 (j * 2048 + b)) 1024#32 = BitVec.ofBool (decide (j * 2048 + b < 1024)) := by
    have h1 : (BitVec.ofNat 32 (j * 2048 + b)).toInt = ((j * 2048 + b : ℕ) : ℤ) := by
      rw [BitVec.toInt_eq_toNat_of_lt] <;> rw [BitVec.toNat_ofNat, Nat.mod_eq_of_lt (by omega)]
      omega
    have h2 : (1024#32).toInt = ((1024 : ℕ) : ℤ) := by decide
    simp only [IntOp.cmpi, BitVec.slt, h1, h2, Nat.cast_lt]
  rw [e, e2]
  by_cases hc : j * 2048 + b < 1024 <;> simp [hc, Scalar.select]

theorem point (c : Dev nD) (t : Fin cfg0.N) (h : Vec Ideal S1024x2048 .bf16) (hq : t.val / 4 < 16)
    (H : FVec Ideal Cert.InProjReferenceIdeal.S16384x2048 .f32)
    (hh : ∀ y : S1024x2048.Idx, h y = H (ix2 (⟨1024 * (t.val / 4) + (y 0).val, by have : (y 0).val < 1024 := (y 0).isLt; omega⟩ : Fin 16384) (y 1))) (y) :
    k0_pay3 (F := Ideal) (grid0.coords t) h (iblk m c 2 t) y
      = resR (dotR H (m ((c : Thread nD τ).loc main_arg2))) (((cfg0.win 4).blk t).view.emb y) := by
  have hcol : ((((cfg0.win 4).blk t).view.emb y) 1).val = t.val % 4 * 2048 + (y 1).val := by blk_simp [idx t]
  have hy1 : (y 1).val < 2048 := (y 1).isLt
  have hj : (grid0.coords t 1).val = t.val % 4 := (idx t).2.2.2.2.2.2
  pointwise [k0_pay3, resR, dotR, scaleR, hh]
  rw [hj, mask _ _ (Nat.mod_lt _ (by omega)) hy1, named_q, scale_eq]
  by_cases hc : t.val % 4 * 2048 + (y 1).val < 1024
  · rw [if_pos hc]
    refine Eq.trans ?_ (dif_pos (hcol.trans_lt hc)).symm
    refine congrArg (· * _) ?_
    blk_point [iblk, V, idx t]
  · rw [if_neg hc, mul_one]
    refine Eq.trans ?_ (dif_neg (fun h' => hc (hcol.symm.trans_lt h'))).symm
    blk_point [iblk, V, idx t]

theorem point5 (c : Dev nD) (t : Fin cfg0.N) (y) :
    k0_pay1 (F := Ideal) (iblk m c 3 t) y = truncf (F := Ideal) .bf16 (m ((c : Thread nD τ).loc main_arg3)) Gen.bitsLt_bf16_f32 (((cfg0.win 5).blk t).view.emb y) := by
  pointwise [k0_pay1]
  blk_point [iblk, V, idx t]

theorem final4 (c : Dev nD) : (dats m 0 c).arrAt 4 (cfgs 0).N
    = resR (dotR (normR (m ((c : Thread nD τ).loc main_arg0)) (m ((c : Thread nD τ).loc main_arg1))) (m ((c : Thread nD τ).loc main_arg2))) := by
  refine (dats m 0 c).arrAt_eq_of_covers 4 _ (by decide +kernel) fun t _ y => ?_
  have hN : t.val < 64 := lt_of_lt_of_eq t.isLt (show cfg0.N = 64 from N_0)
  have hq : t.val / 4 < 16 := by omega
  blk_simp
  rw [after0_4]
  by_cases h0 : t.val % 4 = 0
  · rw [outsAt0_A m c t h0]
    dsimp only
    frame_out
    exact point m c t _ hq _ (fun y => blk_norm m c t y hq) y
  · have hs : ∀ y, (outsAt0 m c (t.val - 1) (Nat.lt_of_le_of_lt (Nat.sub_le _ _) t.isLt)).2.2 y = rowAt (m ((c : Thread nD τ).loc main_arg0)) (m ((c : Thread nD τ).loc main_arg1)) (t.val / 4) hq y := by
      intro y
      have e : (t.val - 1) / 4 = t.val / 4 := by omega
      rw [scratch m c (t.val - 1) (Nat.lt_of_le_of_lt (Nat.sub_le _ _) t.isLt) (by omega) y]
      simp only [e]
    rw [outsAt0_B m c t h0]
    dsimp only
    frame_out
    generalize (outsAt0 m c (t.val - 1) (Nat.lt_of_le_of_lt (Nat.sub_le _ _) t.isLt)).2.2 = sc at hs ⊢
    rw [read_unread_whole]
    exact point m c t sc hq (normR (m ((c : Thread nD τ).loc main_arg0)) (m ((c : Thread nD τ).loc main_arg1))) hs y

theorem final5 (c : Dev nD) : (dats m 0 c).arrAt 5 (cfgs 0).N = truncf (F := Ideal) .bf16 (m ((c : Thread nD τ).loc main_arg3)) Gen.bitsLt_bf16_f32 := by
  refine (dats m 0 c).arrAt_eq_of_covers 5 _ (by decide +kernel) fun t _ y => ?_
  blk_simp
  rw [after0_5]
  by_cases h0 : t.val % 4 = 0
  · rw [outsAt0_A m c t h0]
    dsimp only
    frame_out
    exact point5 m c t y
  · rw [outsAt0_B m c t h0]
    dsimp only
    frame_out
    exact point5 m c t y

/-- The run, its results the reference's terms. -/
theorem run_value (ρ : Dev nD → PrngReg) : θ_run defs (onTc (τ := τ) (main (F := Ideal))) ⟨m, fun _ => 0, ρ⟩ (fun r => ∀ c : Dev nD,
      r.2.mem ((c : Thread nD τ).loc main_v1_0) = resR (dotR (normR (m ((c : Thread nD τ).loc main_arg0)) (m ((c : Thread nD τ).loc main_arg1))) (m ((c : Thread nD τ).loc main_arg2)))
      ∧ r.2.mem ((c : Thread nD τ).loc main_v1_1) = truncf (F := Ideal) .bf16 (m ((c : Thread nD τ).loc main_arg3)) Gen.bitsLt_bf16_f32
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))) :=
  (θ_run defs _ _).mono (fun _ h c => ⟨(h c).1.trans (final4 m c), (h c).2.1.trans (final5 m c), (h c).2.2⟩) (Value.run_blocks m ρ)

end Cert.InProjIdeal.InProj
-- ==== Proof.Attn.Common.lean ====
/-
  What the modules of the attention's frame share: the resource algebra, a buffer held whole.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F] [Named F]

/-- The resource algebra: the rounds library's, for the pipeline's cells. -/
abbrev UR (nD : Nat) (τ : Topo) : Type := URounds (GSem nD τ sig) Unit

/-- The contents of memref `M`'s buffer on core `c`. -/
abbrev Bf (c : Dev nD) {sp : Space} {S : Shape} {e : EltTy} (M : Memref sig .tc sp S e) : Type := Buf (Elt F) (M.view.loc (c : Thread nD τ))

/-- That buffer held whole at `f`. -/
abbrev pt (c : Dev nD) {sp : Space} {S : Shape} {e : EltTy} (M : Memref sig .tc sp S e) (f : Bf (F := F) c M) :
    sProp (MT nD τ sig Unit (Elt F) ℕ (UR nD τ) ℕ) :=
  M.view.loc (c : Thread nD τ) ↦{fullShare} f

/-- The kernel's variants: the naturals (the loop's trips still to run). -/
abbrev 𝒱₀ : Variants := Variants.nat

end Cert.KernelIdeal.Attn

end
-- ==== Proof.Attn.Trip.lean ====
/-
  One trip of the attention's loop over pairs of key blocks, run once at symbolic operands.
-/
module

public import proofs.«01_k».proof.Proof.Attn.Common

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-- What a trip leaves in the accumulator and in the carries, and the minimum of the carries it ends on, with the proof that from the five buffers held
    whole the trip runs to its return. -/
noncomputable def tripRun (c : Dev nD) (i : grid0.Coords)
    (Mq : Memref sig .tc .vmem S256x1024 .bf16) (hq : Mq.IsWhole) (Mk : Memref sig .tc .vmem S4096x1024 .bf16) (hk : Mk.IsWhole)
    (Mv : Memref sig .tc .vmem S4096x1024 .bf16) (hv : Mv.IsWhole)
    (Ma : Memref sig .tc .vmem S256x1024 .f32) (ha : Ma.IsWhole) (Mc : Memref sig .tc .vmem S256x1024 .f32) (hc : Mc.IsWhole)
    (sm : FVec F S128x256 .bf16) (kb live : BitVec 32) (hkb : k0_chk1 kb)
    (fq : Bf (F := F) c Mq) (fk : Bf (F := F) c Mk) (fv : Bf (F := F) c Mv) (fa : Bf (F := F) c Ma) (fc : Bf (F := F) c Mc) :
    { W : Bf (F := F) c Ma × Bf (F := F) c Mc × FVec F S1x1x1 .f32 //
      ∀ (o : Option ℕ) (E : Set ℕ) (Q : (Σ' (_ : BitVec 32), FVec F S1x1x1 .f32) → sProp 𝕄),
        iprop(pt c Mq fq ∗ pt c Mk fk ∗ pt c Mv fv ∗ pt c Ma fa ∗ pt c Mc fc
          ∗ (iprop(pt c Mq fq ∗ pt c Mk fk ∗ pt c Mv fv ∗ pt c Ma W.1 ∗ pt c Mc W.2.1) -∗ Q ⟨Scalar.subi kb 2#32, W.2.2⟩))
        ⊢ wp frame (wpE (defs₀ (F := F)) 𝒱₀ c o) E
            (k0_part53 i Mq hq Mk hk sm Mc hc Ma ha Mv hv kb live) Q } := by
  refine ⟨⟨?wa, ?wc, ?wx⟩, ?run⟩
  rotate_left 3
  intro o E Q
  iintro ⟨Hq, Hk', Hv, Ha, Hc, Hk⟩
  sl_exec_parts! (disch := exact hkb)
  sl_step
  rw [show tripRun.sl.v449 kb = Scalar.subi kb 2#32 from rfl]
  case wx => exact k0_pay364 (tripRun.sl.v450 c Mq Mk Mc sm kb hkb fq fk fc)
  iapply Hk
  isplitl [Hq]; · iexact Hq
  isplitl [Hk']; · iexact Hk'
  isplitl [Hv]; · iexact Hv
  isplitl [Ha]; · iexact Ha
  iexact Hc

end Cert.KernelIdeal.Attn

end
-- ==== Proof.Attn.Loop.lean ====
/-
  The attention's loop over pairs of key blocks: what it leaves, and its label's specification, met by its body.
-/
module

public import proofs.«01_k».proof.Proof.Attn.Trip

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-- A smallest carry tested against the threshold: whether another trip is worth running. -/
def liveOf (x : FVec F S1x1x1 .f32) : BitVec 32 :=
  Scalar.extui (Scalar.cmpf .ole (extractAt ![0, 0, 0] x inpos_S1x1x1_p0_0_0) (Named.named κ "pow2_underflow" 0x43172C00#32))

/-- The loop's entry counter for `n` trips to come (`2 n - 1`, the last key block of the next pair). -/
def kbOf (n : ℕ) : BitVec 32 := BitVec.ofNat 32 (2 * n) - 1#32

/-- The counters the loop is entered on with `n` trips to come: `2 n - 1`, or `-3` at the first query block. -/
def KbOk (n : ℕ) (kb : BitVec 32) : Prop := n ≤ 15 ∧ (kb = kbOf n ∨ n = 0 ∧ kb = BitVec.ofInt 32 (-3))

theorem chk_kbOf : ∀ n : Fin 16, k0_chk1 (kbOf (n.val + 1)) := by decide

theorem kbOf_sub : ∀ n : Fin 16, Scalar.subi (kbOf (n.val + 1)) 2#32 = kbOf n.val := by decide

theorem sge_kbOf : ∀ n : Fin 16, Scalar.cmpi .sge (kbOf (n.val + 1)) 1#32 = 1#1 := by decide

theorem sge_zero {kb : BitVec 32} (h : KbOk 0 kb) : Scalar.cmpi .sge kb 1#32 = 0#1 := by
  obtain ⟨-, rfl | ⟨-, rfl⟩⟩ := h <;> decide

theorem kbOk_succ {n : ℕ} {kb : BitVec 32} (h : KbOk (n + 1) kb) :
    k0_chk1 kb ∧ Scalar.cmpi .sge kb 1#32 = 1#1 ∧ KbOk n (Scalar.subi kb 2#32) := by
  obtain ⟨hn, rfl | ⟨h0, -⟩⟩ := h
  · have hn' : n < 16 := by omega
    refine ⟨chk_kbOf ⟨n, hn'⟩, sge_kbOf ⟨n, hn'⟩, by omega, .inl (kbOf_sub ⟨n, hn'⟩)⟩
  · omega

section Loop

variable (c : Dev nD) (i : grid0.Coords)
    (Mq : Memref sig .tc .vmem S256x1024 .bf16) (hq : Mq.IsWhole) (Mk : Memref sig .tc .vmem S4096x1024 .bf16) (hk : Mk.IsWhole)
    (Mv : Memref sig .tc .vmem S4096x1024 .bf16) (hv : Mv.IsWhole)
    (Ma : Memref sig .tc .vmem S256x1024 .f32) (ha : Ma.IsWhole) (Mc : Memref sig .tc .vmem S256x1024 .f32) (hc : Mc.IsWhole)
    (sm : FVec F S128x256 .bf16)
    (fq : Bf (F := F) c Mq) (fk : Bf (F := F) c Mk) (fv : Bf (F := F) c Mv)

/-- What a trip leaves: the accumulator, the carries, and the carries' minimum. -/
def tripW (kb : BitVec 32) (hkb : k0_chk1 kb) (fa : Bf (F := F) c Ma) (fc : Bf (F := F) c Mc) :
    Bf (F := F) c Ma × Bf (F := F) c Mc × FVec F S1x1x1 .f32 :=
  (Ma.view.writes (Elt F) Ma.view.junk (tripRun.sl.Ha_8 c Mq Mk Mv Ma Mc sm kb hkb fq fk fv fa fc),
    Mc.view.writes (Elt F) Mc.view.junk (tripRun.sl.Hc_8 c Mq Mk Mc sm kb hkb fq fk fc),
    k0_pay364 (tripRun.sl.v450 c Mq Mk Mc sm kb hkb fq fk fc))

theorem trip_wp (kb live : BitVec 32) (hkb : k0_chk1 kb) (fa : Bf (F := F) c Ma) (fc : Bf (F := F) c Mc)
    (o : Option ℕ) (E : Set ℕ) (Q : (Σ' (_ : BitVec 32), FVec F S1x1x1 .f32) → sProp 𝕄) :
    iprop(pt c Mq fq ∗ pt c Mk fk ∗ pt c Mv fv ∗ pt c Ma fa ∗ pt c Mc fc
        ∗ (iprop(pt c Mq fq ∗ pt c Mk fk ∗ pt c Mv fv ∗ pt c Ma (tripW c Mq Mk Mv Ma Mc sm fq fk fv kb hkb fa fc).1
            ∗ pt c Mc (tripW c Mq Mk Mv Ma Mc sm fq fk fv kb hkb fa fc).2.1)
          -∗ Q ⟨Scalar.subi kb 2#32, (tripW c Mq Mk Mv Ma Mc sm fq fk fv kb hkb fa fc).2.2⟩))
      ⊢ wp frame (wpE (defs₀ (F := F)) 𝒱₀ c o) E (k0_part53 i Mq hq Mk hk sm Mc hc Ma ha Mv hv kb live) Q :=
  (tripRun c i Mq hq Mk hk Mv hv Ma ha Mc hc sm kb live hkb fq fk fv fa fc).2 o E Q

/-- The accumulator and the carries after the loop, at most `n` trips from counter `kb`: a trip runs while the carries'
    minimum is within the threshold. -/
def loop : ℕ → BitVec 32 → BitVec 32 → Bf (F := F) c Ma × Bf (F := F) c Mc → Bf (F := F) c Ma × Bf (F := F) c Mc
  | 0, _, _, s => s
  | n + 1, kb, live, s =>
    if h : k0_chk1 kb ∧ Scalar.cmpi .sgt live 0#32 = 1#1 then
      loop n (Scalar.subi kb 2#32) (liveOf (tripW c Mq Mk Mv Ma Mc sm fq fk fv kb h.1 s.1 s.2).2.2)
        ((tripW c Mq Mk Mv Ma Mc sm fq fk fv kb h.1 s.1 s.2).1, (tripW c Mq Mk Mv Ma Mc sm fq fk fv kb h.1 s.1 s.2).2.1)
    else s

/-- The five buffers the loop reads and writes, held whole. -/
def held (s : Bf (F := F) c Ma × Bf (F := F) c Mc) : sProp 𝕄 :=
  iprop(pt c Mq fq ∗ pt c Mk fk ∗ pt c Mv fv ∗ pt c Ma s.1 ∗ pt c Mc s.2)

/-- The loop's label with at most `n` trips to come: it returns something, the buffers as `loop` says. -/
def spec (n : ℕ) (kb live : BitVec 32) (s : Bf (F := F) c Ma × Bf (F := F) c Mc) : sWPT 𝕄 (BitVec 32 × BitVec 32) := do
  sWPT.consume (held c Mq Mk Mv Ma Mc fq fk fv s)
  let r ← sWPT.arbitrary
  sWPT.produce (held c Mq Mk Mv Ma Mc fq fk fv (loop c Mq Mk Mv Ma Mc sm fq fk fv n kb live s))
  pure r

theorem spec_apply (n : ℕ) (kb live : BitVec 32) (s : Bf (F := F) c Ma × Bf (F := F) c Mc) (K : BitVec 32 × BitVec 32 → sProp 𝕄) :
    spec c Mq Mk Mv Ma Mc sm fq fk fv n kb live s K
      = iprop(held c Mq Mk Mv Ma Mc fq fk fv s
          ∗ ∀ r : BitVec 32 × BitVec 32, held c Mq Mk Mv Ma Mc fq fk fv (loop c Mq Mk Mv Ma Mc sm fq fk fv n kb live s) -∗ K r) := rfl

theorem spec_le (E : Set ℕ) : ∀ (n : ℕ) (kb live : BitVec 32), KbOk n kb → ∀ s K,
    spec c Mq Mk Mv Ma Mc sm fq fk fv n kb live s K
      ⊢ wp frame (wpE (defs₀ (F := F)) 𝒱₀ (c : Thread nD τ) (some n)) E
          (defs₀ (F := F) .tc 1 ⟨i, Mq, hq, Mk, hk, sm, Mc, hc, Ma, ha, Mv, hv, kb, live⟩) K := by
  intro n
  induction n with
  | zero =>
    intro kb live hkb s K
    rw [spec_apply]
    show _ ⊢ wp frame (wpE (defs₀ (F := F)) 𝒱₀ (c : Thread nD τ) (some 0)) E
      (cc0_while1 i Mq hq Mk hk sm Mc hc Ma ha Mv hv kb live) K
    unfold cc0_while1
    have htest : ¬Scalar.andi (Scalar.cmpi .sge kb 1#32) (Scalar.cmpi .sgt live 0#32) = 1#1 := by
      rw [sge_zero hkb]
      show ¬(0#1 &&& _) = 1#1
      simp
    simp only [htest, ↓reduceIte, Prog.pure_eq_ret]
    iintro ⟨H, Hk⟩
    rw [wp_ret]; imodintro
    iapply Hk
    iexact H
  | succ n ih =>
    intro kb live hkb s K
    obtain ⟨hchk, hsge, hnext⟩ := kbOk_succ hkb
    rw [spec_apply]
    show _ ⊢ wp frame (wpE (defs₀ (F := F)) 𝒱₀ (c : Thread nD τ) (some (n + 1))) E
      (cc0_while1 i Mq hq Mk hk sm Mc hc Ma ha Mv hv kb live) K
    unfold cc0_while1
    by_cases hl : Scalar.cmpi .sgt live 0#32 = 1#1
    · have htest : Scalar.andi (Scalar.cmpi .sge kb 1#32) (Scalar.cmpi .sgt live 0#32) = 1#1 := by
        rw [hsge, hl]; decide
      simp only [htest, ↓reduceIte]
      rw [loop, dif_pos ⟨hchk, hl⟩]
      iintro ⟨H, Hk⟩
      unfold held
      icases H with ⟨Hq, Hk', Hv, Ha, Hc⟩
      rw [wp_bind]
      iapply (trip_wp c i Mq hq Mk hk Mv hv Ma ha Mc hc sm fq fk fv kb live hchk s.1 s.2 (some (n + 1)) E _)
      isplitl [Hq]; · iexact Hq
      isplitl [Hk']; · iexact Hk'
      isplitl [Hv]; · iexact Hv
      isplitl [Ha]; · iexact Ha
      isplitl [Hc]; · iexact Hc
      iintro ⟨Hq, Hk', Hv, Ha, Hc⟩
      simp only [Prog.lift]
      iapply (wp_call_spec 𝒱₀ (c : Thread nD τ) (some (n + 1)) E
        (spec c Mq Mk Mv Ma Mc sm fq fk fv n (Scalar.subi kb 2#32) (liveOf (tripW c Mq Mk Mv Ma Mc sm fq fk fv kb hchk s.1 s.2).2.2)
          ((tripW c Mq Mk Mv Ma Mc sm fq fk fv kb hchk s.1 s.2).1, (tripW c Mq Mk Mv Ma Mc sm fq fk fv kb hchk s.1 s.2).2.1)) n
        (fun u hu => by cases hu; exact Nat.lt_succ_self n)
        (ih _ _ hnext _))
      rw [spec_apply]; unfold held
      isplitl [Hq Hk' Hv Ha Hc]
      · isplitl [Hq]; · iexact Hq
        isplitl [Hk']; · iexact Hk'
        isplitl [Hv]; · iexact Hv
        isplitl [Ha]; · iexact Ha
        iexact Hc
      iintro %r H
      rw [wp_ret]; imodintro
      iapply Hk
      iexact H
    · have htest : ¬Scalar.andi (Scalar.cmpi .sge kb 1#32) (Scalar.cmpi .sgt live 0#32) = 1#1 := by
        intro h
        rw [hsge] at h
        revert h hl
        generalize Scalar.cmpi .sgt live 0#32 = x
        revert x
        decide
      simp only [htest, ↓reduceIte, Prog.pure_eq_ret]
      rw [loop, dif_neg (fun h => hl h.2)]
      iintro ⟨H, Hk⟩
      rw [wp_ret]; imodintro
      iapply Hk
      iexact H

end Loop

end Cert.KernelIdeal.Attn

end
-- ==== Proof.Attn.Body0.lean ====
/-
  The attention's body at the first query block of a batch, run once at symbolic operands.
-/
module

public import proofs.«01_k».proof.Proof.Attn.Loop

@[expose] public section

set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-- What the body leaves in its six output buffers, with the proof that from its buffers held whole it runs to its return. -/
noncomputable def bodyRun0 (c : Dev nD) (i : grid0.Coords) (M3 : Memref sig .tc .vmem S256x1024 .bf16) (h3 : M3.IsWhole) (M4 : Memref sig .tc .vmem S4096x1024 .bf16) (h4 : M4.IsWhole) (M5 : Memref sig .tc .vmem S4096x1024 .bf16) (h5 : M5.IsWhole) (M6 : Memref sig .tc .vmem S16x2048 .f32) (h6 : M6.IsWhole) (M7 : Memref sig .tc .vmem S16x256 .f32) (h7 : M7.IsWhole) (M8 : Memref sig .tc .vmem S16x2048 .f32) (h8 : M8.IsWhole) (M9 : Memref sig .tc .vmem S32x2048 .f32) (h9 : M9.IsWhole) (M10 : Memref sig .tc .vmem S176x2048 .f32) (h10 : M10.IsWhole) (M11 : Memref sig .tc .vmem S256x1024 .bf16) (h11 : M11.IsWhole) (M12 : Memref sig .tc .vmem S16x2048 .bf16) (h12 : M12.IsWhole) (M13 : Memref sig .tc .vmem S16x256 .bf16) (h13 : M13.IsWhole) (M14 : Memref sig .tc .vmem S16x2048 .bf16) (h14 : M14.IsWhole) (M15 : Memref sig .tc .vmem S32x2048 .bf16) (h15 : M15.IsWhole) (M16 : Memref sig .tc .vmem S176x2048 .bf16) (h16 : M16.IsWhole) (M17 : Memref sig .tc .vmem S256x1024 .f32) (h17 : M17.IsWhole) (M18 : Memref sig .tc .vmem S256x1024 .f32) (h18 : M18.IsWhole)
    (k0_h1 : k0_cond1 i = 1#1) (k0_h2 : ¬k0_cond2 i = 1#1)
    (n : ℕ) (hn : KbOk n (Scalar.subi (Scalar.addi (Scalar.muli 2#32 (BitVec.ofNat 32 (i 2).val)) 1#32) 4#32))
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) :
    { W : Bf (F := F) c M11 × Bf (F := F) c M12 × Bf (F := F) c M13 × Bf (F := F) c M14 × Bf (F := F) c M15 × Bf (F := F) c M16 //
      ∀ (E : Set ℕ) (Q : PUnit → sProp 𝕄),
        iprop(pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18
          ∗ (∀ g17 g18, iprop(pt c M3 f3 ∗ pt c M4 f4 ∗ pt c M5 f5 ∗ pt c M6 f6 ∗ pt c M7 f7 ∗ pt c M8 f8 ∗ pt c M9 f9 ∗ pt c M10 f10 ∗ pt c M11 W.1 ∗ pt c M12 W.2.1 ∗ pt c M13 W.2.2.1 ∗ pt c M14 W.2.2.2.1 ∗ pt c M15 W.2.2.2.2.1 ∗ pt c M16 W.2.2.2.2.2 ∗ pt c M17 g17 ∗ pt c M18 g18) -∗ Q ⟨⟩))
        ⊢ wp frame (wpE (defs₀ (F := F)) 𝒱₀ c none) E
            (cc0_attn i M3 h3 M4 h4 M5 h5 M6 h6 M7 h7 M8 h8 M9 h9 M10 h10 M11 h11 M12 h12 M13 h13 M14 h14 M15 h15 M16 h16 M17 h17 M18 h18) Q } := by
  refine ⟨⟨?_, ?_, ?_, ?_, ?_, ?_⟩, ?run⟩
  rotate_left 6
  intro E Q
  iintro ⟨H3, H4, H5, H6, H7, H8, H9, H10, H11, H12, H13, H14, H15, H16, H17, H18, Hk⟩
  sl_exec_parts!
  iapply (wp_call_spec 𝒱₀ (c : Thread nD τ) none E
    (spec c M3 M4 M5 M17 M18 bodyRun0.sl.v25 f3 f4 f5 n (bodyRun0.sl.v34 i) (bodyRun0.sl.v65 c i M3 M4 M18 k0_h1 f3 f4)
      (M17.view.writes (Elt F) M17.view.junk (bodyRun0.sl.H17_16 c i M3 M4 M5 k0_h1 f3 f4 f5),
        M18.view.writes (Elt F) M18.view.junk (bodyRun0.sl.H18_8 c i M3 M4 k0_h1 f3 f4))) n
    (fun u hu => nomatch hu) (spec_le c i M3 h3 M4 h4 M5 h5 M17 h17 M18 h18 _ f3 f4 f5 E n _ _ hn _))
  rw [spec_apply]; unfold held
  isplitl [H3 H4 H5 H17 H18]
  · isplitl [H3]; · iexact H3
    isplitl [H4]; · iexact H4
    isplitl [H5]; · iexact H5
    isplitl [H17]; · iexact H17
    iexact H18
  iintro %r ⟨H3, H4, H5, H17, H18⟩
  sl_exec_parts!
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.KernelIdeal.Attn

end
-- ==== Proof.Attn.Body1.lean ====
/-
  The attention's body at a query block after the first, run once at symbolic operands.
-/
module

public import proofs.«01_k».proof.Proof.Attn.Loop

@[expose] public section

set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-- What the body leaves in its six output buffers, with the proof that from its buffers held whole it runs to its return. -/
noncomputable def bodyRun1 (c : Dev nD) (i : grid0.Coords) (M3 : Memref sig .tc .vmem S256x1024 .bf16) (h3 : M3.IsWhole) (M4 : Memref sig .tc .vmem S4096x1024 .bf16) (h4 : M4.IsWhole) (M5 : Memref sig .tc .vmem S4096x1024 .bf16) (h5 : M5.IsWhole) (M6 : Memref sig .tc .vmem S16x2048 .f32) (h6 : M6.IsWhole) (M7 : Memref sig .tc .vmem S16x256 .f32) (h7 : M7.IsWhole) (M8 : Memref sig .tc .vmem S16x2048 .f32) (h8 : M8.IsWhole) (M9 : Memref sig .tc .vmem S32x2048 .f32) (h9 : M9.IsWhole) (M10 : Memref sig .tc .vmem S176x2048 .f32) (h10 : M10.IsWhole) (M11 : Memref sig .tc .vmem S256x1024 .bf16) (h11 : M11.IsWhole) (M12 : Memref sig .tc .vmem S16x2048 .bf16) (h12 : M12.IsWhole) (M13 : Memref sig .tc .vmem S16x256 .bf16) (h13 : M13.IsWhole) (M14 : Memref sig .tc .vmem S16x2048 .bf16) (h14 : M14.IsWhole) (M15 : Memref sig .tc .vmem S32x2048 .bf16) (h15 : M15.IsWhole) (M16 : Memref sig .tc .vmem S176x2048 .bf16) (h16 : M16.IsWhole) (M17 : Memref sig .tc .vmem S256x1024 .f32) (h17 : M17.IsWhole) (M18 : Memref sig .tc .vmem S256x1024 .f32) (h18 : M18.IsWhole)
    (k0_h1 : ¬k0_cond1 i = 1#1) (k0_h2 : k0_cond2 i = 1#1)
    (n : ℕ) (hn : KbOk n (Scalar.subi (Scalar.addi (Scalar.muli 2#32 (BitVec.ofNat 32 (i 2).val)) 1#32) 4#32))
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) :
    { W : Bf (F := F) c M11 × Bf (F := F) c M12 × Bf (F := F) c M13 × Bf (F := F) c M14 × Bf (F := F) c M15 × Bf (F := F) c M16 //
      ∀ (E : Set ℕ) (Q : PUnit → sProp 𝕄),
        iprop(pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18
          ∗ (∀ g17 g18, iprop(pt c M3 f3 ∗ pt c M4 f4 ∗ pt c M5 f5 ∗ pt c M6 f6 ∗ pt c M7 f7 ∗ pt c M8 f8 ∗ pt c M9 f9 ∗ pt c M10 f10 ∗ pt c M11 W.1 ∗ pt c M12 W.2.1 ∗ pt c M13 W.2.2.1 ∗ pt c M14 W.2.2.2.1 ∗ pt c M15 W.2.2.2.2.1 ∗ pt c M16 W.2.2.2.2.2 ∗ pt c M17 g17 ∗ pt c M18 g18) -∗ Q ⟨⟩))
        ⊢ wp frame (wpE (defs₀ (F := F)) 𝒱₀ c none) E
            (cc0_attn i M3 h3 M4 h4 M5 h5 M6 h6 M7 h7 M8 h8 M9 h9 M10 h10 M11 h11 M12 h12 M13 h13 M14 h14 M15 h15 M16 h16 M17 h17 M18 h18) Q } := by
  refine ⟨⟨?_, ?_, ?_, ?_, ?_, ?_⟩, ?run⟩
  rotate_left 6
  intro E Q
  iintro ⟨H3, H4, H5, H6, H7, H8, H9, H10, H11, H12, H13, H14, H15, H16, H17, H18, Hk⟩
  sl_exec_parts!
  iapply (wp_call_spec 𝒱₀ (c : Thread nD τ) none E
    (spec c M3 M4 M5 M17 M18 bodyRun1.sl.v25 f3 f4 f5 n (bodyRun1.sl.v34 i) (bodyRun1.sl.v65 c i M3 M4 M18 k0_h2 f3 f4)
      (M17.view.writes (Elt F) M17.view.junk (bodyRun1.sl.H17_24 c i M3 M4 M5 M17 M18 k0_h2 f3 f4 f5),
        M18.view.writes (Elt F) M18.view.junk (bodyRun1.sl.H18_16 c i M3 M4 M18 k0_h2 f3 f4))) n
    (fun u hu => nomatch hu) (spec_le c i M3 h3 M4 h4 M5 h5 M17 h17 M18 h18 _ f3 f4 f5 E n _ _ hn _))
  rw [spec_apply]; unfold held
  isplitl [H3 H4 H5 H17 H18]
  · isplitl [H3]; · iexact H3
    isplitl [H4]; · iexact H4
    isplitl [H5]; · iexact H5
    isplitl [H17]; · iexact H17
    iexact H18
  iintro %r ⟨H3, H4, H5, H17, H18⟩
  sl_exec_parts!
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.KernelIdeal.Attn

end
-- ==== Proof.Attn.Frame.lean ====
/-
  The attention's frame: what each grid point leaves, the pipeline's proof data, the body's obligation and the run of the
  whole program.
-/
module

public import proofs.«01_k».proof.Proof.Attn.Body0
public import proofs.«01_k».proof.Proof.Attn.Body1
public import Idealize.ShloMosaic.Lib.Claim
public import Idealize.ShloMosaic.Lib.Pipeline.FrameBody

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR nD τ) ℕ

variable (m : (ℓ : Loc nD τ sig) → Buf (Elt F) ℓ) (ρ : Dev nD → PrngReg)

/-! ## Whole buffers and what their views read -/

theorem owns_pt (c : Dev nD) {sp : Space} {S : Shape} {e : EltTy} {M : Memref sig .tc sp S e} (h : M.IsWhole) (x : S.Idx → Elt F e) :
    (owns (c : Thread nD τ) M fullShare x : sProp 𝕄) ⊢ pt c M (h.unread x) := by
  unfold owns
  iintro ⟨%f, %hf, H⟩
  obtain rfl := h.eq_unread hf
  rw [h.set_eq_univ]
  iexact H

theorem pt_owns (c : Dev nD) {sp : Space} {S : Shape} {e : EltTy} {M : Memref sig .tc sp S e} (h : M.IsWhole) (f : Bf (F := F) c M)
    {x : S.Idx → Elt F e} (hx : M.view.read (Elt F) f = x) :
    pt c M f ⊢ (owns (c : Thread nD τ) M fullShare x : sProp 𝕄) := by
  unfold owns
  rw [h.set_eq_univ]
  iintro H
  iexists _; isplitr; · ipureintro; exact hx
  iexact H

/-! ## The program up to its region, and the windows' blocks -/

/-- Core `c`'s buffers when the region is entered: as launched. -/
abbrev V (c : Dev nD) (b : Ref sig .tc) : Buf (Elt F) ((c : Thread nD τ).loc b) := m ((c : Thread nD τ).loc b)

set_option maxHeartbeats 800000 in
theorem hmain : Pipeline.HMain (Ix := Unit) (Name := ℕ) (U := UR nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin (cfg0 (F := F)).W) (t : Fin (cfg0 (F := F)).N) : (((cfg0 (F := F)).win w).xblock (cfg0.grid.coords t)).Idx → Elt F ((cfg0 (F := F)).win w).elt :=
  (((cfg0 (F := F)).win w).blk t).view.read (Elt F) (V m c (Pipeline.arrRef spec0 w))

theorem before_0_of {c : Dev nD} (dat : Dat τ (Elt F) Unit ℕ (UR nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before_7_of {c : Dev nD} (dat : Dat τ (Elt F) Unit ℕ (UR nD τ) ℕ (cfg0 (F := F)) c) (hA : dat.A 7 = V m c (Pipeline.arrRef spec0 7))
    (hafter : ∀ t, dat.after 7 t = iblk m c 7 t) (t : Fin (cfg0 (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin (cfg0 (F := F)).N) : Memref sig .tc .vmem S256x1024 .bf16 := win0_0.stage ((cfg0 (F := F)).slots t 0)
abbrev hs0 (t : Fin (cfg0 (F := F)).N) : (ms0 t).IsWhole := hstage0_0 (((cfg0 (F := F)).slots t 0).cast nbuf0_0)

abbrev ms1 (t : Fin (cfg0 (F := F)).N) : Memref sig .tc .vmem S4096x1024 .bf16 := win0_1.stage ((cfg0 (F := F)).slots t 1)
abbrev hs1 (t : Fin (cfg0 (F := F)).N) : (ms1 t).IsWhole := hstage0_1 (((cfg0 (F := F)).slots t 1).cast nbuf0_1)

abbrev ms2 (t : Fin (cfg0 (F := F)).N) : Memref sig .tc .vmem S4096x1024 .bf16 := win0_2.stage ((cfg0 (F := F)).slots t 2)
abbrev hs2 (t : Fin (cfg0 (F := F)).N) : (ms2 t).IsWhole := hstage0_2 (((cfg0 (F := F)).slots t 2).cast nbuf0_2)

abbrev ms3 (t : Fin (cfg0 (F := F)).N) : Memref sig .tc .vmem S16x2048 .f32 := win0_3.stage ((cfg0 (F := F)).slots t 3)
abbrev hs3 (t : Fin (cfg0 (F := F)).N) : (ms3 t).IsWhole := hstage0_3 (((cfg0 (F := F)).slots t 3).cast nbuf0_3)

abbrev ms4 (t : Fin (cfg0 (F := F)).N) : Memref sig .tc .vmem S16x256 .f32 := win0_4.stage ((cfg0 (F := F)).slots t 4)
abbrev hs4 (t : Fin (cfg0 (F := F)).N) : (ms4 t).IsWhole := hstage0_4 (((cfg0 (F := F)).slots t 4).cast nbuf0_4)

abbrev ms5 (t : Fin (cfg0 (F := F)).N) : Memref sig .tc .vmem S16x2048 .f32 := win0_5.stage ((cfg0 (F := F)).slots t 5)
abbrev hs5 (t : Fin (cfg0 (F := F)).N) : (ms5 t).IsWhole := hstage0_5 (((cfg0 (F := F)).slots t 5).cast nbuf0_5)

abbrev ms6 (t : Fin (cfg0 (F := F)).N) : Memref sig .tc .vmem S32x2048 .f32 := win0_6.stage ((cfg0 (F := F)).slots t 6)
abbrev hs6 (t : Fin (cfg0 (F := F)).N) : (ms6 t).IsWhole := hstage0_6 (((cfg0 (F := F)).slots t 6).cast nbuf0_6)

abbrev ms7 (t : Fin (cfg0 (F := F)).N) : Memref sig .tc .vmem S176x2048 .f32 := win0_7.stage ((cfg0 (F := F)).slots t 7)
abbrev hs7 (t : Fin (cfg0 (F := F)).N) : (ms7 t).IsWhole := hstage0_7 (((cfg0 (F := F)).slots t 7).cast nbuf0_7)

abbrev ms8 (t : Fin (cfg0 (F := F)).N) : Memref sig .tc .vmem S256x1024 .bf16 := win0_8.stage ((cfg0 (F := F)).slots t 8)
abbrev hs8 (t : Fin (cfg0 (F := F)).N) : (ms8 t).IsWhole := hstage0_8 (((cfg0 (F := F)).slots t 8).cast nbuf0_8)

abbrev ms9 (t : Fin (cfg0 (F := F)).N) : Memref sig .tc .vmem S16x2048 .bf16 := win0_9.stage ((cfg0 (F := F)).slots t 9)
abbrev hs9 (t : Fin (cfg0 (F := F)).N) : (ms9 t).IsWhole := hstage0_9 (((cfg0 (F := F)).slots t 9).cast nbuf0_9)

abbrev ms10 (t : Fin (cfg0 (F := F)).N) : Memref sig .tc .vmem S16x256 .bf16 := win0_10.stage ((cfg0 (F := F)).slots t 10)
abbrev hs10 (t : Fin (cfg0 (F := F)).N) : (ms10 t).IsWhole := hstage0_10 (((cfg0 (F := F)).slots t 10).cast nbuf0_10)

abbrev ms11 (t : Fin (cfg0 (F := F)).N) : Memref sig .tc .vmem S16x2048 .bf16 := win0_11.stage ((cfg0 (F := F)).slots t 11)
abbrev hs11 (t : Fin (cfg0 (F := F)).N) : (ms11 t).IsWhole := hstage0_11 (((cfg0 (F := F)).slots t 11).cast nbuf0_11)

abbrev ms12 (t : Fin (cfg0 (F := F)).N) : Memref sig .tc .vmem S32x2048 .bf16 := win0_12.stage ((cfg0 (F := F)).slots t 12)
abbrev hs12 (t : Fin (cfg0 (F := F)).N) : (ms12 t).IsWhole := hstage0_12 (((cfg0 (F := F)).slots t 12).cast nbuf0_12)

abbrev ms13 (t : Fin (cfg0 (F := F)).N) : Memref sig .tc .vmem S176x2048 .bf16 := win0_13.stage ((cfg0 (F := F)).slots t 13)
abbrev hs13 (t : Fin (cfg0 (F := F)).N) : (ms13 t).IsWhole := hstage0_13 (((cfg0 (F := F)).slots t 13).cast nbuf0_13)

/-- The accumulator and the carries. -/
abbrev scA : Memref sig .tc .vmem S256x1024 .f32 := Memref.whole cc0_scratch0
abbrev scC : Memref sig .tc .vmem S256x1024 .f32 := Memref.whole cc0_scratch1

/-- The invariant the run hands the body: its two scratch buffers at something, and the generator's register. -/
theorem Phi_eq (c : Dev nD) :
    (Pipeline.ΦA spec0 c : sProp 𝕄)
      = iprop(iprop((∃ d, pt (F := F) c scA d) ∗ (∃ d, pt (F := F) c scC d)) ∗ (∃ r, prngReg c r)) := by
  unfold Pipeline.ΦA; rw [scopedRest0_eq]; try rfl

/-! ## The grid's two cases -/

theorem coord2_lt (i : grid0.Coords) : (i 2).val < 16 := (i 2).isLt

theorem cond1_of (i : grid0.Coords) (h : (i 2).val = 0) : k0_cond1 i = 1#1 := by
  unfold k0_cond1; rw [h]; decide

theorem ncond2_of (i : grid0.Coords) (h : (i 2).val = 0) : ¬k0_cond2 i = 1#1 := by
  unfold k0_cond2; rw [h]; decide

theorem case1_aux : ∀ n : Fin 16, n.val ≠ 0 →
    (¬Scalar.cmpi .ne (Scalar.extui (Scalar.cmpi .eq (BitVec.ofNat 32 n.val) 0#32) : BitVec 32) 0#32 = 1#1)
      ∧ Scalar.cmpi .ne (Scalar.extui (Scalar.cmpi .sgt (BitVec.ofNat 32 n.val) 0#32) : BitVec 32) 0#32 = 1#1 := by decide

theorem ncond1_of (i : grid0.Coords) (h : ¬(i 2).val = 0) : ¬k0_cond1 i = 1#1 :=
  (case1_aux ⟨(i 2).val, coord2_lt i⟩ h).1

theorem cond2_of (i : grid0.Coords) (h : ¬(i 2).val = 0) : k0_cond2 i = 1#1 :=
  (case1_aux ⟨(i 2).val, coord2_lt i⟩ h).2

theorem kb_aux : ∀ n : Fin 16,
    (n.val = 0 ∧ Scalar.subi (Scalar.addi (Scalar.muli 2#32 (BitVec.ofNat 32 n.val)) 1#32) 4#32 = BitVec.ofInt 32 (-3))
      ∨ Scalar.subi (Scalar.addi (Scalar.muli 2#32 (BitVec.ofNat 32 n.val)) 1#32) 4#32 = kbOf (n.val - 1) := by decide

/-- The counter a point's loop is entered with: `i - 1` pairs of key blocks are to come at query block `i`. -/
theorem kbOk_point (i : grid0.Coords) :
    KbOk ((i 2).val - 1) (Scalar.subi (Scalar.addi (Scalar.muli 2#32 (BitVec.ofNat 32 (i 2).val)) 1#32) 4#32) := by
  have hlt := coord2_lt i
  refine ⟨by omega, ?_⟩
  rcases kb_aux ⟨(i 2).val, hlt⟩ with ⟨h0, h⟩ | h
  · exact .inr ⟨by have : (i 2).val = 0 := h0; omega, h⟩
  · exact .inl h

/-! ## What a point leaves in its output buffers -/

/-- The six output buffers after point `t`. -/
def outs (c : Dev nD) (t : Fin (cfg0 (F := F)).N) : Bf (F := F) c (ms8 t) × Bf (F := F) c (ms9 t) × Bf (F := F) c (ms10 t) × Bf (F := F) c (ms11 t) × Bf (F := F) c (ms12 t) × Bf (F := F) c (ms13 t) :=
  if h : (grid0.coords t 2).val = 0 then
    (bodyRun0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scA (Memref.isWhole_whole _) scC (Memref.isWhole_whole _) (cond1_of _ h) (ncond2_of _ h) _ (kbOk_point _) ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t)) ((hs7 t).unread (iblk m c 7 t)) (ms8 t).view.junk (ms9 t).view.junk (ms10 t).view.junk (ms11 t).view.junk (ms12 t).view.junk (ms13 t).view.junk scA.view.junk scC.view.junk).1
  else
    (bodyRun1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scA (Memref.isWhole_whole _) scC (Memref.isWhole_whole _) (ncond1_of _ h) (cond2_of _ h) _ (kbOk_point _) ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t)) ((hs7 t).unread (iblk m c 7 t)) (ms8 t).view.junk (ms9 t).view.junk (ms10 t).view.junk (ms11 t).view.junk (ms12 t).view.junk (ms13 t).view.junk scA.view.junk scC.view.junk).1

/-- The proof data: the arrays as launched, each input's buffer at its block, the outputs' as the body leaves them. -/
def dats (_ : Fin 1) (c : Dev nD) : Dat τ (Elt F) Unit ℕ (UR nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (ms8 t).view.read (Elt F) (outs m c t).1
    | ⟨9, _⟩ => (ms9 t).view.read (Elt F) (outs m c t).2.1
    | ⟨10, _⟩ => (ms10 t).view.read (Elt F) (outs m c t).2.2.1
    | ⟨11, _⟩ => (ms11 t).view.read (Elt F) (outs m c t).2.2.2.1
    | ⟨12, _⟩ => (ms12 t).view.read (Elt F) (outs m c t).2.2.2.2.1
    | ⟨13, _⟩ => (ms13 t).view.read (Elt F) (outs m c t).2.2.2.2.2
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = iblk m c 3 t := rfl
theorem after_4 (c : Dev nD) (t : Fin (cfg0 (F := F)).N) : (dats m 0 c).after 4 t = iblk m c 4 t := rfl
theorem after_5 (c : Dev nD) (t : Fin (cfg0 (F := F)).N) : (dats m 0 c).after 5 t = iblk m c 5 t := rfl
theorem after_6 (c : Dev nD) (t : Fin (cfg0 (F := F)).N) : (dats m 0 c).after 6 t = iblk m c 6 t := rfl
theorem after_7 (c : Dev nD) (t : Fin (cfg0 (F := F)).N) : (dats m 0 c).after 7 t = iblk m c 7 t := rfl
theorem after_8 (c : Dev nD) (t : Fin (cfg0 (F := F)).N) : (dats m 0 c).after 8 t = (ms8 t).view.read (Elt F) (outs m c t).1 := rfl
theorem after_9 (c : Dev nD) (t : Fin (cfg0 (F := F)).N) : (dats m 0 c).after 9 t = (ms9 t).view.read (Elt F) (outs m c t).2.1 := rfl
theorem after_10 (c : Dev nD) (t : Fin (cfg0 (F := F)).N) : (dats m 0 c).after 10 t = (ms10 t).view.read (Elt F) (outs m c t).2.2.1 := rfl
theorem after_11 (c : Dev nD) (t : Fin (cfg0 (F := F)).N) : (dats m 0 c).after 11 t = (ms11 t).view.read (Elt F) (outs m c t).2.2.2.1 := rfl
theorem after_12 (c : Dev nD) (t : Fin (cfg0 (F := F)).N) : (dats m 0 c).after 12 t = (ms12 t).view.read (Elt F) (outs m c t).2.2.2.2.1 := rfl
theorem after_13 (c : Dev nD) (t : Fin (cfg0 (F := F)).N) : (dats m 0 c).after 13 t = (ms13 t).view.read (Elt F) (outs m c t).2.2.2.2.2 := rfl
theorem before_0 (c : Dev nD) (t : Fin (cfg0 (F := F)).N) (d) : (dats m 0 c).before 0 t d = iblk m c 0 t :=
  before_0_of m (dats m 0 c) (A_eq m c 0) (after_0 m c) t d
theorem before_1 (c : Dev nD) (t : Fin (cfg0 (F := F)).N) (d) : (dats m 0 c).before 1 t d = iblk m c 1 t :=
  before_1_of m (dats m 0 c) (A_eq m c 1) (after_1 m c) t d
theorem before_2 (c : Dev nD) (t : Fin (cfg0 (F := F)).N) (d) : (dats m 0 c).before 2 t d = iblk m c 2 t :=
  before_2_of m (dats m 0 c) (A_eq m c 2) (after_2 m c) t d
theorem before_3 (c : Dev nD) (t : Fin (cfg0 (F := F)).N) (d) : (dats m 0 c).before 3 t d = iblk m c 3 t :=
  before_3_of m (dats m 0 c) (A_eq m c 3) (after_3 m c) t d
theorem before_4 (c : Dev nD) (t : Fin (cfg0 (F := F)).N) (d) : (dats m 0 c).before 4 t d = iblk m c 4 t :=
  before_4_of m (dats m 0 c) (A_eq m c 4) (after_4 m c) t d
theorem before_5 (c : Dev nD) (t : Fin (cfg0 (F := F)).N) (d) : (dats m 0 c).before 5 t d = iblk m c 5 t :=
  before_5_of m (dats m 0 c) (A_eq m c 5) (after_5 m c) t d
theorem before_6 (c : Dev nD) (t : Fin (cfg0 (F := F)).N) (d) : (dats m 0 c).before 6 t d = iblk m c 6 t :=
  before_6_of m (dats m 0 c) (A_eq m c 6) (after_6 m c) t d
theorem before_7 (c : Dev nD) (t : Fin (cfg0 (F := F)).N) (d) : (dats m 0 c).before 7 t d = iblk m c 7 t :=
  before_7_of m (dats m 0 c) (A_eq m c 7) (after_7 m c) t d

/-! ## The body at a point -/

/-- What the body is handed at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- What it returns. -/
def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

set_option maxHeartbeats 1600000 in
/-- The body at point `t` on its buffers held whole. -/
theorem body_pt (c : Dev nD) (t : Fin (cfg0 (F := F)).N) (f8 : Bf (F := F) c (ms8 t)) (f9 : Bf (F := F) c (ms9 t)) (f10 : Bf (F := F) c (ms10 t)) (f11 : Bf (F := F) c (ms11 t)) (f12 : Bf (F := F) c (ms12 t)) (f13 : Bf (F := F) c (ms13 t))
    (fa : Bf (F := F) c scA) (fc : Bf (F := F) c scC) (Q : PUnit → sProp 𝕄) :
    iprop(pt c (ms0 t) ((hs0 t).unread (iblk m c 0 t)) ∗ pt c (ms1 t) ((hs1 t).unread (iblk m c 1 t)) ∗ pt c (ms2 t) ((hs2 t).unread (iblk m c 2 t)) ∗ pt c (ms3 t) ((hs3 t).unread (iblk m c 3 t)) ∗ pt c (ms4 t) ((hs4 t).unread (iblk m c 4 t)) ∗ pt c (ms5 t) ((hs5 t).unread (iblk m c 5 t)) ∗ pt c (ms6 t) ((hs6 t).unread (iblk m c 6 t)) ∗ pt c (ms7 t) ((hs7 t).unread (iblk m c 7 t)) ∗ pt c (ms8 t) f8 ∗ pt c (ms9 t) f9 ∗ pt c (ms10 t) f10 ∗ pt c (ms11 t) f11 ∗ pt c (ms12 t) f12 ∗ pt c (ms13 t) f13 ∗ pt c scA fa ∗ pt c scC fc
        ∗ (∀ ga gc, iprop(pt c (ms0 t) ((hs0 t).unread (iblk m c 0 t)) ∗ pt c (ms1 t) ((hs1 t).unread (iblk m c 1 t)) ∗ pt c (ms2 t) ((hs2 t).unread (iblk m c 2 t)) ∗ pt c (ms3 t) ((hs3 t).unread (iblk m c 3 t)) ∗ pt c (ms4 t) ((hs4 t).unread (iblk m c 4 t)) ∗ pt c (ms5 t) ((hs5 t).unread (iblk m c 5 t)) ∗ pt c (ms6 t) ((hs6 t).unread (iblk m c 6 t)) ∗ pt c (ms7 t) ((hs7 t).unread (iblk m c 7 t)) ∗ pt c (ms8 t) (outs m c t).1 ∗ pt c (ms9 t) (outs m c t).2.1 ∗ pt c (ms10 t) (outs m c t).2.2.1 ∗ pt c (ms11 t) (outs m c t).2.2.2.1 ∗ pt c (ms12 t) (outs m c t).2.2.2.2.1 ∗ pt c (ms13 t) (outs m c t).2.2.2.2.2 ∗ pt c scA ga ∗ pt c scC gc) -∗ Q ⟨⟩))
      ⊢ wp frame (wpE (defs₀ (F := F)) 𝒱₀ c none) Set.univ (bodyAt0 t) Q := by
  by_cases h : (grid0.coords t 2).val = 0
  · rw [outs, dif_pos h]
    exact (bodyRun0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scA (Memref.isWhole_whole _) scC (Memref.isWhole_whole _) (cond1_of _ h) (ncond2_of _ h) _ (kbOk_point _) ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t)) ((hs7 t).unread (iblk m c 7 t)) f8 f9 f10 f11 f12 f13 fa fc).2 Set.univ Q
  · rw [outs, dif_neg h]
    exact (bodyRun1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scA (Memref.isWhole_whole _) scC (Memref.isWhole_whole _) (ncond1_of _ h) (cond2_of _ h) _ (kbOk_point _) ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t)) ((hs7 t).unread (iblk m c 7 t)) f8 f9 f10 f11 f12 f13 fa fc).2 Set.univ Q

set_option maxHeartbeats 1600000 in
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  rw [show (dats m 0 c).Φ t.castSucc = Pipeline.ΦA spec0 c from rfl, Phi_eq]
  iintro ⟨⟨⟨⟨%fa, HA⟩, ⟨%fc, HC⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave H0 := (owns_pt (F := F) c (hs0 t) (iblk m c 0 t)) $$ H0
  ihave H1 := (owns_pt (F := F) c (hs1 t) (iblk m c 1 t)) $$ H1
  ihave H2 := (owns_pt (F := F) c (hs2 t) (iblk m c 2 t)) $$ H2
  ihave H3 := (owns_pt (F := F) c (hs3 t) (iblk m c 3 t)) $$ H3
  ihave H4 := (owns_pt (F := F) c (hs4 t) (iblk m c 4 t)) $$ H4
  ihave H5 := (owns_pt (F := F) c (hs5 t) (iblk m c 5 t)) $$ H5
  ihave H6 := (owns_pt (F := F) c (hs6 t) (iblk m c 6 t)) $$ H6
  ihave H7 := (owns_pt (F := F) c (hs7 t) (iblk m c 7 t)) $$ H7
  ihave H8 := (owns_pt (F := F) c (hs8 t) ((dats m 0 c).before 8 t d8)) $$ H8
  ihave H9 := (owns_pt (F := F) c (hs9 t) ((dats m 0 c).before 9 t d9)) $$ H9
  ihave H10 := (owns_pt (F := F) c (hs10 t) ((dats m 0 c).before 10 t d10)) $$ H10
  ihave H11 := (owns_pt (F := F) c (hs11 t) ((dats m 0 c).before 11 t d11)) $$ H11
  ihave H12 := (owns_pt (F := F) c (hs12 t) ((dats m 0 c).before 12 t d12)) $$ H12
  ihave H13 := (owns_pt (F := F) c (hs13 t) ((dats m 0 c).before 13 t d13)) $$ H13
  iapply (body_pt m c t _ _ _ _ _ _ fa fc _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HA]; · iexact HA
  isplitl [HC]; · iexact HC
  iintro %ga %gc ⟨H0, H1, H2, H3, H4, H5, H6, H7, H8, H9, H10, H11, H12, H13, HA, HC⟩
  isplitl [HA HC Hg]
  · isplitl [HA HC]
    · isplitl [HA]; · iexists ga; iexact HA
      iexists gc; iexact HC
    iexact Hg
  isplitl [Ho]; · iexact Ho
  isplitl [H0]; · iapply (pt_owns c (hs0 t) _ ((hs0 t).read_unread _)); iexact H0
  isplitl [H1]; · iapply (pt_owns c (hs1 t) _ ((hs1 t).read_unread _)); iexact H1
  isplitl [H2]; · iapply (pt_owns c (hs2 t) _ ((hs2 t).read_unread _)); iexact H2
  isplitl [H3]; · iapply (pt_owns c (hs3 t) _ ((hs3 t).read_unread _)); iexact H3
  isplitl [H4]; · iapply (pt_owns c (hs4 t) _ ((hs4 t).read_unread _)); iexact H4
  isplitl [H5]; · iapply (pt_owns c (hs5 t) _ ((hs5 t).read_unread _)); iexact H5
  isplitl [H6]; · iapply (pt_owns c (hs6 t) _ ((hs6 t).read_unread _)); iexact H6
  isplitl [H7]; · iapply (pt_owns c (hs7 t) _ ((hs7 t).read_unread _)); iexact H7
  isplitl [H8]; · iapply (pt_owns c (hs8 t) _ rfl); iexact H8
  isplitl [H9]; · iapply (pt_owns c (hs9 t) _ rfl); iexact H9
  isplitl [H10]; · iapply (pt_owns c (hs10 t) _ rfl); iexact H10
  isplitl [H11]; · iapply (pt_owns c (hs11 t) _ rfl); iexact H11
  isplitl [H12]; · iapply (pt_owns c (hs12 t) _ rfl); iexact H12
  iapply (pt_owns c (hs13 t) _ rfl); iexact H13

theorem defs₀_row (t : Fin (cfg0 (F := F)).N) :
    defs₀ (F := F) .tc (cfg0 (F := F)).body (cfg0.bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
/-- Every weakly fair run ends, with every array at what the proof data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hΦ := fun _ _ => rfl)

/-- The frame: every weakly fair run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 0).trans (((dats m 0 c).arrAt_in 0 rfl _).trans (A_eq m c 0)), ((h.1 c).1 3).trans (((dats m 0 c).arrAt_in 3 rfl _).trans (A_eq m c 3)), ((h.1 c).1 4).trans (((dats m 0 c).arrAt_in 4 rfl _).trans (A_eq m c 4)), ((h.1 c).1 5).trans (((dats m 0 c).arrAt_in 5 rfl _).trans (A_eq m c 5)), ((h.1 c).1 6).trans (((dats m 0 c).arrAt_in 6 rfl _).trans (A_eq m c 6)), ((h.1 c).1 7).trans (((dats m 0 c).arrAt_in 7 rfl _).trans (A_eq m c 7))⟩, h.2⟩) (run_quiescent m ρ)

end Cert.KernelIdeal.Attn

end
-- ==== Proof.Attn.Real.lean ====
/-
  The real functions of stick-breaking attention, and how the ideal operations act on real numbers.
-/
module

public import proofs.«01_k».proof.Proof.Gen.KernelIdeal.Skeleton
public import Idealize.ShloMosaic.Lib.Pointwise

@[expose] public section

noncomputable section

namespace Cert.KernelIdeal.Attn

open Idealize.ShloMosaic

/-- `x` holds the real numbers `f`, addressed by row and column. -/
def Is {n m : ℕ} (x : (⟨2, ![n, m]⟩ : Shape).Idx → EReal) (f : ℕ → ℕ → ℝ) : Prop :=
  ∀ i, x i = ((f (i 0).val (i 1).val : ℝ) : EReal)

theorem Is.at {n m : ℕ} {x : (⟨2, ![n, m]⟩ : Shape).Idx → EReal} {f : ℕ → ℕ → ℝ} (h : Is x f) (a : Fin n) (b : Fin m) :
    x (ix2 a b) = ((f a.val b.val : ℝ) : EReal) := h _

theorem Is.of {n m : ℕ} {x : (⟨2, ![n, m]⟩ : Shape).Idx → EReal} {f : ℕ → ℕ → ℝ}
    (h : ∀ (a : Fin n) (b : Fin m), x (ix2 a b) = ((f a.val b.val : ℝ) : EReal)) : Is x f := fun i => by
  have e : i = ix2 (i 0) (i 1) := by
    funext a
    match a with
    | 0 => rfl
    | 1 => rfl
  exact (congrArg x e).trans (h (i 0) (i 1))

/-- A finite sum of reals, read among the extended reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two reals, read among the extended reals. -/
theorem max_coe (x y : ℝ) : max ((x : ℝ) : EReal) ((y : ℝ) : EReal) = ((max x y : ℝ) : EReal) :=
  ((EReal.coe_strictMono.monotone).map_max).symm

/-- `log₂ (1 + 2ˣ)`: minus the logarithm to base 2 of one minus the logistic of `x ln 2`. -/
def nl (x : ℝ) : ℝ := Real.log (1 + (2 : ℝ) ^ x) / Real.log 2

theorem log_two_pos : 0 < Real.log 2 := Real.log_pos (by norm_num)

/-- The kernel's form of `nl`, which never raises two to a positive number. -/
theorem nl_eq (x : ℝ) : max x 0 + Real.log (1 + (2 : ℝ) ^ (0 - |x|)) * (Real.log 2)⁻¹ = nl x := by
  have h2 := log_two_pos
  unfold nl
  rcases le_total 0 x with h | h
  · rw [max_eq_left h, abs_of_nonneg h]
    have hp : (0 : ℝ) < (2 : ℝ) ^ x := Real.rpow_pos_of_pos (by norm_num) x
    have e : 1 + (2 : ℝ) ^ x = (2 : ℝ) ^ x * (1 + (2 : ℝ) ^ (0 - x)) := by
      rw [zero_sub, Real.rpow_neg (by norm_num)]; field_simp; ring
    have hq : (0 : ℝ) < 1 + (2 : ℝ) ^ (0 - x) := by
      have := Real.rpow_pos_of_pos (show (0 : ℝ) < 2 by norm_num) (0 - x); linarith
    rw [e, Real.log_mul hp.ne' hq.ne', Real.log_rpow (by norm_num)]
    field_simp
  · rw [max_eq_right h, abs_of_nonpos h, zero_add, zero_sub, neg_neg, div_eq_mul_inv]

/-- The ideal operations of the kernel's `nl`, at a real number. -/
theorem nlE (x : ℝ) : max ((x : ℝ) : EReal) 0 + Ideal.log (1 + FloatOps.exp2 (F := Ideal) (φ := .f32) (0 - FloatOps.absf (F := Ideal) (φ := .f32) ((x : ℝ) : EReal)))
    * Named.named (F := Ideal) Cert.KernelIdeal.κ (φ := .f32) "inv_log_two" 1069066811#32 = ((nl x : ℝ) : EReal) := by
  have hN : Named.named (F := Ideal) Cert.KernelIdeal.κ (φ := .f32) "inv_log_two" 1069066811#32 = (((Real.log 2)⁻¹ : ℝ) : EReal) :=
    (IdealRules.named_const.statement Cert.KernelIdeal.κ "inv_log_two" .f32 1069066811#32 _ rfl).2.2
  have ha : FloatOps.absf (F := Ideal) (φ := .f32) ((x : ℝ) : EReal) = ((|x| : ℝ) : EReal) := by
    show ((x : ℝ) : EReal) ⊔ -((x : ℝ) : EReal) = _
    rw [← EReal.coe_neg, max_coe]
    rfl
  have h1 : (1 : EReal) + FloatOps.exp2 (F := Ideal) (φ := .f32) (0 - ((|x| : ℝ) : EReal)) = ((1 + (2 : ℝ) ^ (0 - |x|) : ℝ) : EReal) := by
    rw [← EReal.coe_zero, ← EReal.coe_sub]
    rfl
  rw [hN, ha, h1, Ideal.log_coe, if_neg, ← EReal.coe_zero, ← EReal.coe_mul, max_coe, ← EReal.coe_add, nl_eq]
  have := Real.rpow_pos_of_pos (show (0 : ℝ) < 2 by norm_num) (0 - |x|)
  linarith

end Cert.KernelIdeal.Attn

end
-- ==== Proof.Attn.Finite.lean ====
/-
  What the precondition says: every element of the first argument is a real number.
-/
module

public import proofs.«01_k».proof.Defs
public import proofs.«01_k».proof.Proof.Attn.Real

@[expose] public section

noncomputable section

namespace Cert.KernelIdeal.Attn

open Idealize.ShloMosaic

theorem pre_facts : Cert.Pre_finite.Facts := ⟨by decide, by decide⟩

theorem ofBits_inf : Ideal.ofBits .f32 0x7F800000#32 = ⊤ := by
  simp [Ideal.ofBits, Ideal.ieee]

/-- A number whose absolute value is less than infinity is real. -/
theorem real_of_abs {x : EReal} (h : FloatOps.absf (F := Ideal) (φ := .f32) x < ⊤) : x = ((x.toReal : ℝ) : EReal) := by
  change x ⊔ -x < ⊤ at h
  rw [sup_lt_iff] at h
  refine (EReal.coe_toReal h.1.ne fun hb => ?_).symm
  rw [hb] at h
  exact absurd h.2 (by simp)

/-- The real numbers that an array holds. -/
def reals (x : (⟨2, ![16384, 8192]⟩ : Shape).Idx → EReal) (r l : ℕ) : ℝ :=
  if h : r < 16384 ∧ l < 8192 then (x (ix2 ⟨r, h.1⟩ ⟨l, h.2⟩)).toReal else 0

/-- The precondition, element by element. -/
theorem is_reals [Cert.Pre_finite.Facts] (x0 : FVec Ideal ⟨2, ![16384, 8192]⟩ .bf16) (x1 : FVec Ideal ⟨2, ![1024, 2048]⟩ .f32) (x2 : FVec Ideal ⟨2, ![1024, 256]⟩ .f32)
    (x3 : FVec Ideal ⟨2, ![1024, 2048]⟩ .f32) (x4 : FVec Ideal ⟨2, ![2048, 2048]⟩ .f32) (x5 : FVec Ideal ⟨2, ![5632, 2048]⟩ .f32)
    (h : Cert.Pre_finite.fn (F := Ideal) x0 x1 x2 x3 x4 x5 = fun _ => 1#1) : Is x0 (reals x0) := Is.of fun a b => by
  have hi := congrFun h (ix2 a b)
  change BitVec.ofBool (decide (FloatOps.absf (F := Ideal) (φ := .f32) (x0 (ix2 a b)) < Ideal.ofBits .f32 0x7F800000#32)) = 1#1 at hi
  rw [ofBits_inf] at hi
  have hl : FloatOps.absf (F := Ideal) (φ := .f32) (x0 (ix2 a b)) < ⊤ := by
    by_contra hc
    rw [decide_eq_false hc] at hi
    exact absurd hi (by decide)
  rw [reals, dif_pos ⟨a.isLt, b.isLt⟩]
  exact real_of_abs hl

end Cert.KernelIdeal.Attn

end
-- ==== Proof.Attn.PairVal.lean ====
/-
  What one head's trip over a pair of key blocks computes, over the reals.
-/
module

public import proofs.«01_k».proof.Proof.Attn.Real

@[expose] public section

noncomputable section

namespace Cert.KernelIdeal.Attn

open Cert.KernelIdeal Cert.KernelIdeal.Gen
open Idealize.ShloMosaic

/-- One head's accumulator after a pair of key blocks. -/
def pairAcc {F : FTy → Type} [FloatOps F] [Named F] (sm : FVec F S128x256 .bf16) (q k v : Vec F S256x128 .bf16) (a c : Vec F S256x128 .f32) :
    FVec F S256x128 .f32 := k0_pay362 a (k0_pay361 sm q k c) v

/-- One head's carry after a pair of key blocks. -/
def pairCarry {F : FTy → Type} [FloatOps F] [Named F] (sm : FVec F S128x256 .bf16) (q k : Vec F S256x128 .bf16) (c : Vec F S256x128 .f32) :
    FVec F S256x128 .f32 := k0_pay363 (k0_pay359 sm q k) (k0_pay360 sm q k c)

/-- The logit of query row `r` and key row `s` (128 features). -/
def zr (q k : ℕ → ℕ → ℝ) (r s : ℕ) : ℝ := ∑ d ∈ Finset.range 128, q r d * k s d

/-- The entries of the matrix that sums a block's later columns (its left half) and all of them (its right half). -/
def smr (r c : ℕ) : ℝ := if 128 ≤ c then 1 else if c < r then 1 else 0

theorem zr_eq {n m : ℕ} {q : (⟨2, ![n, 128]⟩ : Shape).Idx → EReal} {k : (⟨2, ![m, 128]⟩ : Shape).Idx → EReal} {fq fk : ℕ → ℕ → ℝ}
    (hq : Is q fq) (hk : Is k fk) (r : Fin n) (s : Fin m) :
    ∑ d : Fin 128, q (ix2 r d) * k (ix2 s d) = ((zr fq fk r.val s.val : ℝ) : EReal) := by
  simp only [hq.at, hk.at, ← EReal.coe_mul, sum_coe]
  rw [zr, Finset.sum_range]

/-- A block's sum by the matrix's right half is the sum of all its columns. -/
theorem sm_all {n : ℕ} (f : ℕ → ℝ) (c : ℕ) (hc : 128 ≤ c) : ∑ x : Fin n, f x.val * smr x.val c = ∑ j ∈ Finset.range n, f j := by
  rw [Finset.sum_range]
  refine Finset.sum_congr rfl fun x _ => ?_
  rw [smr, if_pos hc, mul_one]

/-- By its left half, the sum of the columns after the one asked for. -/
theorem sm_later {n : ℕ} (f : ℕ → ℝ) (c : ℕ) (hc : c < 128) : ∑ x : Fin n, f x.val * smr x.val c = ∑ j ∈ Finset.Ico (c + 1) n, f j := by
  have h1 : ∑ x : Fin n, f x.val * smr x.val c = ∑ j ∈ Finset.range n, f j * smr j c := (Finset.sum_range (fun j => f j * smr j c)).symm
  rw [h1]
  simp only [smr, if_neg (not_le.mpr hc), mul_ite, mul_one, mul_zero]
  rw [← Finset.sum_filter]
  refine Finset.sum_congr ?_ fun _ _ => rfl
  ext j
  simp only [Finset.mem_filter, Finset.mem_range, Finset.mem_Ico]
  omega

theorem range_256 (f : ℕ → ℝ) : ∑ j ∈ Finset.range 256, f j = ∑ j ∈ Finset.range 128, f j + ∑ j ∈ Finset.range 128, f (128 + j) :=
  Finset.sum_range_add f 128 128

theorem ico_lo (f : ℕ → ℝ) {x : ℕ} (hx : x < 128) :
    ∑ j ∈ Finset.Ico (x + 1) 256, f j = ∑ j ∈ Finset.Ico (x + 1) 128, f j + ∑ j ∈ Finset.range 128, f (128 + j) := by
  rw [← Finset.sum_Ico_consecutive f (show x + 1 ≤ 128 by omega) (show 128 ≤ 256 by omega), Finset.sum_Ico_eq_sum_range f 128 256]

theorem ico_hi (f : ℕ → ℝ) (x : ℕ) :
    ∑ j ∈ Finset.Ico (128 + x + 1) 256, f j = ∑ j ∈ Finset.Ico (x + 1) 128, f (128 + j) := by
  have h := Finset.sum_Ico_add f (x + 1) 128 128
  rw [h]
  congr 2
  omega

/-- The weight of key `s` for query `r` where the keys after `s` and before `p` sum to at hand and those from `p` on to `C`. -/
def wt (z : ℕ → ℕ → ℝ) (p : ℕ) (C : ℝ) (r s : ℕ) : ℝ :=
  (2 : ℝ) ^ (z r s - nl (z r s) - (C + ∑ j ∈ Finset.Ico (s + 1) p, nl (z r j)))

section

variable {sm : FVec Ideal S128x256 .bf16} {q k v : Vec Ideal S256x128 .bf16} {a c : Vec Ideal S256x128 .f32}
  {fq fk fv fa : ℕ → ℕ → ℝ} {C : ℕ → ℝ}

theorem exp2_coe' (x : ℝ) : FloatOps.exp2 (F := Ideal) (φ := .f32) ((x : ℝ) : EReal) = (((2 : ℝ) ^ x : ℝ) : EReal) := rfl

theorem pairCarry_val (hsm : Is sm smr) (hq : Is q fq) (hk : Is k fk) (hc : Is c fun r _ => C r) :
    Is (pairCarry sm q k c) fun r _ => C r + ∑ j ∈ Finset.range 256, nl (zr fq fk r j) := by
  refine Is.of fun r e => ?_
  pointwise [pairCarry, k0_pay356, k0_pay357, k0_pay358, k0_pay359, k0_pay360, k0_pay361, k0_pay362, k0_pay363]
  simp only [zr_eq hq hk, nlE, hsm.at, hc.at, ← EReal.coe_mul, sum_coe, ← EReal.coe_add]
  congr 1
  rw [sm_all (fun x => nl (zr fq fk r.val (128 + x))) _ (by omega), sm_all (fun x => nl (zr fq fk r.val x)) _ (by omega), range_256]
  ring

theorem pairAcc_val (hsm : Is sm smr) (hq : Is q fq) (hk : Is k fk) (hv : Is v fv) (ha : Is a fa) (hc : Is c fun r _ => C r) :
    Is (pairAcc sm q k v a c) fun r e => fa r e + ∑ s ∈ Finset.range 256, wt (zr fq fk) 256 (C r) r s * fv s e := by
  refine Is.of fun r e => ?_
  pointwise [pairAcc, k0_pay356, k0_pay357, k0_pay358, k0_pay359, k0_pay360, k0_pay361, k0_pay362, k0_pay363]
  simp only [zr_eq hq hk, nlE, hsm.at, hv.at, hc.at, ha.at, ← EReal.coe_mul, sum_coe, ← EReal.coe_add, ← EReal.coe_sub, exp2_coe']
  congr 1
  rw [range_256, Finset.sum_range, Finset.sum_range]
  congr 1
  congr 1
  · refine Finset.sum_congr rfl fun x _ => ?_
    rw [sm_all (fun x => nl (zr fq fk r.val (128 + x))) _ (by omega), sm_later (fun x => nl (zr fq fk r.val x)) _ x.isLt, wt,
      ico_lo _ x.isLt]
    congr 3
    ring
  · refine Finset.sum_congr rfl fun x _ => ?_
    rw [sm_later (fun x => nl (zr fq fk r.val (128 + x))) _ x.isLt, wt, ico_hi]
    congr 3
    ring

end

end Cert.KernelIdeal.Attn

end
-- ==== Proof.Attn.DiagVal.lean ====
/-
  What one head computes on the diagonal pair of key blocks, over the reals.
-/
module

public import proofs.«01_k».proof.Proof.Attn.PairVal

@[expose] public section

noncomputable section

namespace Cert.KernelIdeal.Attn

open Cert.KernelIdeal Cert.KernelIdeal.Gen
open Idealize.ShloMosaic

section

variable {F : FTy → Type} [FloatOps F] [Named F]

/-- One head's accumulator on the diagonal, rows 0 to 127. -/
def diagTop (sm : FVec F S128x256 .bf16) (q : Vec F S256x128 .bf16) (q' kl kh vl : Vec F S128x128 .bf16) : FVec F S128x128 .f32 :=
  k0_pay111 k0_pay2 (k0_pay103 q kl) (k0_pay107 sm k0_pay2 q kl) (k0_pay108 sm k0_pay3 q' kh) (Scalar.ofBits .f32 0x00000000#32) vl

/-- One head's accumulator on the diagonal, rows 128 to 255. -/
def diagBot (sm : FVec F S128x256 .bf16) (q : Vec F S256x128 .bf16) (q' kl kh vl vh : Vec F S128x128 .bf16) : FVec F S128x128 .f32 :=
  k0_pay112 k0_pay2 k0_pay3 (k0_pay103 q kl) (k0_pay106 q' kh) (k0_pay107 sm k0_pay2 q kl) (k0_pay108 sm k0_pay3 q' kh) (Scalar.ofBits .f32 0x00000000#32) vl vh

/-- One head's carry after the diagonal. -/
def diagCarry (sm : FVec F S128x256 .bf16) (q : Vec F S256x128 .bf16) (q' kl kh : Vec F S128x128 .bf16) : FVec F S256x128 .f32 :=
  k0_pay294 (k0_pay107 sm k0_pay2 q kl) (k0_pay109 (k0_pay108 sm k0_pay3 q' kh) (Scalar.ofBits .f32 0x00000000#32))

end

/-- A choice by a signed comparison of small numbers. -/
theorem sel_lt {a b : ℕ} (ha : a < 256) (hb : b < 256) (x : ℝ) :
    Scalar.select (IntOp.cmpi CmpIPredicate.slt (BitVec.ofNat 32 a) (BitVec.ofNat 32 b)) ((x : ℝ) : EReal) 0 = ((if a < b then x else 0 : ℝ) : EReal) := by
  have h : IntOp.cmpi CmpIPredicate.slt (BitVec.ofNat 32 a) (BitVec.ofNat 32 b) = BitVec.ofBool (decide (a < b)) := by
    show BitVec.ofBool (BitVec.slt _ _) = _
    congr 1
    rw [BitVec.slt_eq_decide, BitVec.toInt_eq_toNat_of_lt (by simp only [BitVec.toNat_ofNat]; omega),
      BitVec.toInt_eq_toNat_of_lt (by simp only [BitVec.toNat_ofNat]; omega)]
    simp only [BitVec.toNat_ofNat, Nat.mod_eq_of_lt (show a < 2 ^ 32 by omega), Nat.mod_eq_of_lt (show b < 2 ^ 32 by omega), Nat.cast_lt]
  rw [h]
  by_cases hab : a < b
  · simp [Scalar.select, hab]
  · simp [Scalar.select, hab]

/-- The masked block's sum by the matrix's right half: all columns before the bound. -/
theorem smm_all (f : ℕ → ℝ) (c b : ℕ) (hc : 128 ≤ c) :
    ∑ x : Fin 128, (if x.val < b then f x.val * smr x.val c else 0) = ∑ j ∈ Finset.range (min b 128), f j := by
  rw [← Finset.sum_range (fun x => if x < b then f x * smr x c else 0), ← Finset.sum_filter]
  refine Finset.sum_congr ?_ fun j _ => by rw [smr, if_pos hc, mul_one]
  ext j
  simp only [Finset.mem_filter, Finset.mem_range]
  omega

/-- By its left half: the columns after the one asked for and before the bound. -/
theorem smm_later (f : ℕ → ℝ) (c b : ℕ) (hc : c < 128) :
    ∑ x : Fin 128, (if x.val < b then f x.val * smr x.val c else 0) = ∑ j ∈ Finset.Ico (c + 1) (min b 128), f j := by
  rw [← Finset.sum_range (fun x => if x < b then f x * smr x c else 0), ← Finset.sum_filter]
  simp only [smr, if_neg (not_le.mpr hc), mul_ite, mul_one, mul_zero]
  rw [← Finset.sum_filter]
  refine Finset.sum_congr ?_ fun j _ => rfl
  ext j
  simp only [Finset.mem_filter, Finset.mem_range, Finset.mem_Ico]
  omega

/-- A masked sum is a sum to the bound. -/
theorem sum_mask (f : ℕ → ℝ) (b : ℕ) : ∑ x : Fin 128, (if x.val < b then f x.val else 0) = ∑ j ∈ Finset.range (min b 128), f j := by
  rw [← Finset.sum_range (fun x => if x < b then f x else 0), ← Finset.sum_filter]
  refine Finset.sum_congr ?_ fun j _ => rfl
  ext j
  simp only [Finset.mem_filter, Finset.mem_range]
  omega

theorem range_hi (f : ℕ → ℝ) {r : ℕ} (h : 128 ≤ r) :
    ∑ j ∈ Finset.range r, f j = ∑ j ∈ Finset.range 128, f j + ∑ j ∈ Finset.range (r - 128), f (128 + j) := by
  have e : r = 128 + (r - 128) := by omega
  conv_lhs => rw [e]
  exact Finset.sum_range_add f 128 (r - 128)

theorem ico_lo' (f : ℕ → ℝ) {x r : ℕ} (hx : x < 128) (h : 128 ≤ r) :
    ∑ j ∈ Finset.Ico (x + 1) r, f j = ∑ j ∈ Finset.Ico (x + 1) 128, f j + ∑ j ∈ Finset.range (r - 128), f (128 + j) := by
  rw [← Finset.sum_Ico_consecutive f (show x + 1 ≤ 128 by omega) h, Finset.sum_Ico_eq_sum_range f 128 r]

theorem ico_hi' (f : ℕ → ℝ) (x : ℕ) {r : ℕ} (h : 128 ≤ r) :
    ∑ j ∈ Finset.Ico (128 + x + 1) r, f j = ∑ j ∈ Finset.Ico (x + 1) (r - 128), f (128 + j) := by
  rw [Finset.sum_Ico_add f (x + 1) (r - 128) 128]
  congr 2 <;> omega

section

variable {sm : FVec Ideal S128x256 .bf16} {q : Vec Ideal S256x128 .bf16} {q' kl kh vl vh : Vec Ideal S128x128 .bf16}
  {fq fk fv : ℕ → ℕ → ℝ}

theorem zr_hi (hq' : Is q' fun r d => fq (128 + r) d) (hkh : Is kh fun s d => fk (128 + s) d) (r s : Fin 128) :
    ∑ d : Fin 128, q' (ix2 r d) * kh (ix2 s d) = ((zr fq fk (128 + r.val) (128 + s.val) : ℝ) : EReal) := zr_eq hq' hkh r s

theorem diagCarry_val (hsm : Is sm smr) (hq : Is q fq) (hq' : Is q' fun r d => fq (128 + r) d)
    (hkl : Is kl fk) (hkh : Is kh fun s d => fk (128 + s) d) :
    Is (diagCarry sm q q' kl kh) fun r _ => ∑ j ∈ Finset.range r, nl (zr fq fk r j) := by
  refine Is.of fun r e => ?_
  pointwise [diagCarry, k0_pay2, k0_pay3, k0_pay101, k0_pay102, k0_pay103, k0_pay104, k0_pay105, k0_pay106, k0_pay107, k0_pay108, k0_pay109, k0_pay110, k0_pay294]
  by_cases h : r.val < 128
  · rw [dif_pos h]
    simp only [zr_eq hq hkl, nlE, hsm.at, ← EReal.coe_mul]
    simp (disch := omega) only [sel_lt, sum_coe]
    rw [zero_add, smm_all (fun j => nl (zr fq fk r.val j)) _ _ (by omega), min_eq_left h.le]
  · have h' : 128 ≤ r.val := not_lt.mp h
    have e : 128 + (r.val - 128) = r.val := by omega
    rw [dif_neg h]
    simp only [zr_eq hq hkl, zr_hi hq' hkh, nlE, hsm.at, ← EReal.coe_mul]
    simp (disch := omega) only [sel_lt, sum_coe]
    rw [← EReal.coe_add, e]
    congr 1
    rw [range_hi _ h', smm_all (fun j => nl (zr fq fk r.val j)) _ _ (by omega), smm_all (fun j => nl (zr fq fk r.val (128 + j))) _ _ (by omega),
      min_eq_right h', min_eq_left (by omega)]
    ring

theorem diagTop_val (hsm : Is sm smr) (hq : Is q fq) (hq' : Is q' fun r d => fq (128 + r) d)
    (hkl : Is kl fk) (hkh : Is kh fun s d => fk (128 + s) d) (hvl : Is vl fv) :
    Is (diagTop sm q q' kl kh vl) fun r e => ∑ s ∈ Finset.range r, wt (zr fq fk) r 0 r s * fv s e := by
  refine Is.of fun r e => ?_
  pointwise [diagTop, k0_pay2, k0_pay3, k0_pay101, k0_pay102, k0_pay103, k0_pay104, k0_pay105, k0_pay106, k0_pay107, k0_pay108, k0_pay109, k0_pay110, k0_pay111, k0_pay294]
  simp only [zr_eq hq hkl, nlE, hsm.at, hvl.at, ← EReal.coe_mul]
  simp (disch := omega) only [sel_lt, sum_coe, ← EReal.coe_sub, exp2_coe', ← EReal.coe_mul]
  have hm := sum_mask (fun s => wt (zr fq fk) r.val 0 r.val s * fv s e.val) r.val
  rw [min_eq_left r.isLt.le] at hm
  rw [← hm]
  congr 1
  refine Finset.sum_congr rfl fun x _ => ?_
  split_ifs with hx
  · rw [smm_later (fun j => nl (zr fq fk r.val j)) _ _ x.isLt, min_eq_left r.isLt.le, wt, zero_add]
  · rfl

theorem diagBot_val (hsm : Is sm smr) (hq : Is q fq) (hq' : Is q' fun r d => fq (128 + r) d)
    (hkl : Is kl fk) (hkh : Is kh fun s d => fk (128 + s) d) (hvl : Is vl fv) (hvh : Is vh fun s d => fv (128 + s) d) :
    Is (diagBot sm q q' kl kh vl vh) fun r e =>
      ∑ s ∈ Finset.range (128 + r), wt (zr fq fk) (128 + r) 0 (128 + r) s * fv s e := by
  refine Is.of fun r e => ?_
  pointwise [diagBot, k0_pay2, k0_pay3, k0_pay101, k0_pay102, k0_pay103, k0_pay104, k0_pay105, k0_pay106, k0_pay107, k0_pay108, k0_pay109, k0_pay110, k0_pay112, k0_pay294]
  simp only [zr_eq hq hkl, zr_hi hq' hkh, nlE, hsm.at, hvl.at, hvh.at, ← EReal.coe_mul]
  simp (disch := omega) only [sel_lt, sum_coe, ← EReal.coe_sub, exp2_coe', ← EReal.coe_mul, ← EReal.coe_add]
  congr 1
  have h' : 128 ≤ 128 + r.val := by omega
  have e' : 128 + r.val - 128 = r.val := by omega
  have hm := sum_mask (fun s => wt (zr fq fk) (128 + r.val) 0 (128 + r.val) (128 + s) * fv (128 + s) e.val) r.val
  rw [min_eq_left r.isLt.le] at hm
  rw [range_hi _ h', e', ← hm, Finset.sum_range]
  congr 1
  · refine Finset.sum_congr rfl fun x _ => ?_
    have hx : x.val < 128 + r.val := by omega
    rw [if_pos hx, smm_later (fun j => nl (zr fq fk (128 + r.val) j)) _ _ x.isLt, min_eq_right h', wt, ico_lo' _ x.isLt h', e',
      smm_all (fun j => nl (zr fq fk (128 + r.val) (128 + j))) _ _ (by omega), min_eq_left r.isLt.le]
    congr 2
    ring
  · refine Finset.sum_congr rfl fun x _ => ?_
    split_ifs with hx
    · rw [smm_later (fun j => nl (zr fq fk (128 + r.val) (128 + j))) _ _ x.isLt, wt, ico_hi' _ _ h', e', min_eq_left r.isLt.le, zero_add]
    · rfl

end

end Cert.KernelIdeal.Attn

end
-- ==== Proof.Attn.TripVal.lean ====
/-
  What a trip of the attention's loop leaves in the accumulator and in the carries, over the reals, all heads at once.
-/
module

public import proofs.«01_k».proof.Proof.Attn.DiagVal
public import proofs.«01_k».proof.Proof.Attn.Loop

@[expose] public section

noncomputable section

namespace Cert.KernelIdeal.Attn

open Cert.KernelIdeal Cert.KernelIdeal.Gen
open Idealize.ShloMosaic Idealize.ShloMosaic.TcCoe

/-- A head's columns lie inside a block of 1024. -/
theorem inb_head (h : ℕ) (hh : h < 8) : ∀ a, (![0, 128 * h] : Fin 2 → ℕ) a + S256x128.size a ≤ S256x1024.size a := by
  intro a
  match a with
  | 0 => exact le_refl 256
  | 1 => show 128 * h + 128 ≤ 1024; omega

/-- The first key row of the pair of blocks whose last block is `kb - 1`. -/
def ksOf (kb : BitVec 32) : ℕ := (Scalar.indexCast (Scalar.muli (Scalar.subi kb 1#32) 128#32)).toNat

theorem inb_key (kb : BitVec 32) (hkb : k0_chk1 kb) (h : ℕ) (hh : h < 8) :
    ∀ a, (![ksOf kb, 128 * h] : Fin 2 → ℕ) a + S256x128.size a ≤ S4096x1024.size a := by
  intro a
  match a with
  | 0 => exact k0_off41_inb kb hkb 0
  | 1 => show 128 * h + 128 ≤ 1024; omega

section

variable {F : FTy → Type} [FloatOps F] [Named F] (c : Dev nD)
    (Mq : Memref sig .tc .vmem S256x1024 .bf16) (Mk Mv : Memref sig .tc .vmem S4096x1024 .bf16)
    (Ma Mc : Memref sig .tc .vmem S256x1024 .f32)
    (sm : FVec F S128x256 .bf16) (kb : BitVec 32) (hkb : k0_chk1 kb)
    (fq : Bf (F := F) c Mq) (fk : Bf (F := F) c Mk) (fv : Bf (F := F) c Mv) (fa : Bf (F := F) c Ma) (fc : Bf (F := F) c Mc)

/-- A head's columns of a block of 256 rows, loaded. -/
def ldh {e : EltTy} (M : Memref sig .tc .vmem S256x1024 e) (f : Bf (F := F) c M) (h : ℕ) (hh : h < 8) : Vec F S256x128 e :=
  M.view.readAt (Elt F) (Rect.unit (s := S256x1024) ![0, 128 * h] S256x128.size (inb_head h hh)).toLoadRect f

/-- A head's columns of the pair's keys or values, loaded. -/
def ldk {e : EltTy} (M : Memref sig .tc .vmem S4096x1024 e) (f : Bf (F := F) c M) (h : ℕ) (hh : h < 8) : Vec F S256x128 e :=
  M.view.readAt (Elt F) (Rect.unit (s := S4096x1024) ![ksOf kb, 128 * h] S256x128.size (inb_key kb hkb h hh)).toLoadRect f

/-- A head's new accumulator. -/
def accW (h : ℕ) (hh : h < 8) : FVec F S256x128 .f32 :=
  pairAcc sm (ldh c Mq fq h hh) (ldk c kb hkb Mk fk h hh) (ldk c kb hkb Mv fv h hh) (ldh c Ma fa h hh) (ldh c Mc fc h hh)

/-- A head's new carry. -/
def carryW (h : ℕ) (hh : h < 8) : FVec F S256x128 .f32 :=
  pairCarry sm (ldh c Mq fq h hh) (ldk c kb hkb Mk fk h hh) (ldh c Mc fc h hh)

/-- One piece for each of the eight heads, the last first. -/
def heads {α : Type} (f : (h : ℕ) → h < 8 → α) : List α :=
  [f 7 (by omega), f 6 (by omega), f 5 (by omega), f 4 (by omega), f 3 (by omega), f 2 (by omega), f 1 (by omega), f 0 (by omega)]

theorem heads_mem {α : Type} {f : (h : ℕ) → h < 8 → α} {p : α} (hp : p ∈ heads f) : ∃ h, ∃ hh : h < 8, p = f h hh := by
  simp only [heads, List.mem_cons, List.not_mem_nil, or_false] at hp
  rcases hp with rfl | rfl | rfl | rfl | rfl | rfl | rfl | rfl
  exacts [⟨7, by omega, rfl⟩, ⟨6, by omega, rfl⟩, ⟨5, by omega, rfl⟩, ⟨4, by omega, rfl⟩, ⟨3, by omega, rfl⟩, ⟨2, by omega, rfl⟩,
    ⟨1, by omega, rfl⟩, ⟨0, by omega, rfl⟩]

theorem mem_heads {α : Type} (f : (h : ℕ) → h < 8 → α) (h : ℕ) (hh : h < 8) : f h hh ∈ heads f := by
  interval_cases h <;> simp [heads]

/-- The pieces that store one block of columns for each head. -/
def headPieces (w : (h : ℕ) → h < 8 → FVec F S256x128 .f32) : List (View.Piece (Elt F) S256x1024 .f32) :=
  heads fun h hh => ⟨Rect.unit (s := S256x1024) ![0, 128 * h] S256x128.size (inb_head h hh), w h hh⟩

theorem Ha_eq : tripRun.sl.Ha_8 c Mq Mk Mv Ma Mc sm kb hkb fq fk fv fa fc = headPieces (accW c Mq Mk Mv Ma Mc sm kb hkb fq fk fv fa fc) := rfl

theorem Hc_eq : tripRun.sl.Hc_8 c Mq Mk Mc sm kb hkb fq fk fc = headPieces (carryW c Mq Mk Mc sm kb hkb fq fk fc) := rfl

theorem tripW_acc : (tripW c Mq Mk Mv Ma Mc sm fq fk fv kb hkb fa fc).1
    = Ma.view.writes (Elt F) Ma.view.junk (headPieces (accW c Mq Mk Mv Ma Mc sm kb hkb fq fk fv fa fc)) :=
  congrArg (Ma.view.writes (Elt F) Ma.view.junk) (Ha_eq c Mq Mk Mv Ma Mc sm kb hkb fq fk fv fa fc)

theorem tripW_carry : (tripW c Mq Mk Mv Ma Mc sm fq fk fv kb hkb fa fc).2.1
    = Mc.view.writes (Elt F) Mc.view.junk (headPieces (carryW c Mq Mk Mc sm kb hkb fq fk fc)) :=
  congrArg (Mc.view.writes (Elt F) Mc.view.junk) (Hc_eq c Mq Mk Mc sm kb hkb fq fk fc)

end

/-! ### Over the reals -/

/-- A load of a rectangle, of an array that holds reals. -/
theorem is_load {n m n' m' : ℕ} {X : (⟨2, ![n, m]⟩ : Shape).Idx → EReal} {f : ℕ → ℕ → ℝ} (hX : Is X f) (o0 o1 : ℕ)
    (inb : ∀ a, (![o0, o1] : Fin 2 → ℕ) a + (⟨2, ![n', m']⟩ : Shape).size a ≤ (⟨2, ![n, m]⟩ : Shape).size a) :
    Is (n := n') (m := m') (fun x => X ((Rect.unit (s := ⟨2, ![n, m]⟩) ![o0, o1] (⟨2, ![n', m']⟩ : Shape).size inb).toLoadRect.idx x))
      (fun r d => f (o0 + r) (o1 + d)) := by
  intro x
  refine (hX _).trans ?_
  have e0 : (((Rect.unit (s := ⟨2, ![n, m]⟩) ![o0, o1] (⟨2, ![n', m']⟩ : Shape).size inb).toLoadRect.idx x) 0 : ℕ) = o0 + (x 0).val := by
    show o0 + 1 * (x 0).val = _
    rw [one_mul]
  have e1 : (((Rect.unit (s := ⟨2, ![n, m]⟩) ![o0, o1] (⟨2, ![n', m']⟩ : Shape).size inb).toLoadRect.idx x) 1 : ℕ) = o1 + (x 1).val := by
    show o1 + 1 * (x 1).val = _
    rw [one_mul]
  rw [e0, e1]

/-- A stored piece agrees with the reals `g` of the whole array. -/
theorem is_piece {n m n' m' : ℕ} (o0 o1 : ℕ)
    (inb : ∀ a, (![o0, o1] : Fin 2 → ℕ) a + (⟨2, ![n', m']⟩ : Shape).size a ≤ (⟨2, ![n, m]⟩ : Shape).size a)
    {w : (⟨2, ![n', m']⟩ : Shape).Idx → EReal} {f : ℕ → ℕ → ℝ} (hw : Is w f) (g : ℕ → ℕ → ℝ)
    (hg : ∀ r < n', ∀ d < m', f r d = g (o0 + r) (o1 + d)) (x : (⟨2, ![n', m']⟩ : Shape).Idx) :
    w x = ((g ((Rect.unit (s := ⟨2, ![n, m]⟩) ![o0, o1] (⟨2, ![n', m']⟩ : Shape).size inb).emb x 0).val
      ((Rect.unit (s := ⟨2, ![n, m]⟩) ![o0, o1] (⟨2, ![n', m']⟩ : Shape).size inb).emb x 1).val : ℝ) : EReal) := by
  refine (hw x).trans ?_
  have e0 : (((Rect.unit (s := ⟨2, ![n, m]⟩) ![o0, o1] (⟨2, ![n', m']⟩ : Shape).size inb).emb x) 0 : ℕ) = o0 + (x 0).val := by
    show o0 + 1 * (x 0).val = _
    rw [one_mul]
  have e1 : (((Rect.unit (s := ⟨2, ![n, m]⟩) ![o0, o1] (⟨2, ![n', m']⟩ : Shape).size inb).emb x) 1 : ℕ) = o1 + (x 1).val := by
    show o1 + 1 * (x 1).val = _
    rw [one_mul]
  rw [e0, e1, hg _ (x 0).isLt _ (x 1).isLt]

/-- Head `h`'s columns of an array, its rows from `p` on. -/
def sub (X : ℕ → ℕ → ℝ) (p h : ℕ) (r d : ℕ) : ℝ := X (p + r) (128 * h + d)

/-- The logits of head `h`, key rows from `p` on. -/
abbrev zh (Q K : ℕ → ℕ → ℝ) (p h : ℕ) : ℕ → ℕ → ℝ := zr (sub Q 0 h) (sub K p h)

section

variable (c : Dev nD)
    (Mq : Memref sig .tc .vmem S256x1024 .bf16) (Mk Mv : Memref sig .tc .vmem S4096x1024 .bf16)
    (Ma Mc : Memref sig .tc .vmem S256x1024 .f32)
    (sm : FVec Ideal S128x256 .bf16) (kb : BitVec 32) (hkb : k0_chk1 kb)
    (fq : Bf (F := Ideal) c Mq) (fk : Bf (F := Ideal) c Mk) (fv : Bf (F := Ideal) c Mv) (fa : Bf (F := Ideal) c Ma) (fc : Bf (F := Ideal) c Mc)
    {Q K V A : ℕ → ℕ → ℝ} {C : ℕ → ℕ → ℝ}

theorem ldh_is (M : Memref sig .tc .vmem S256x1024 .bf16) (f : Bf (F := Ideal) c M) (h : ℕ) (hh : h < 8) {X : ℕ → ℕ → ℝ}
    (hX : Is (M.view.read (Elt Ideal) f) X) : Is (ldh c M f h hh) (sub X 0 h) := is_load hX 0 (128 * h) (inb_head h hh)

theorem ldh_is32 (M : Memref sig .tc .vmem S256x1024 .f32) (f : Bf (F := Ideal) c M) (h : ℕ) (hh : h < 8) {X : ℕ → ℕ → ℝ}
    (hX : Is (M.view.read (Elt Ideal) f) X) : Is (ldh c M f h hh) (sub X 0 h) := is_load hX 0 (128 * h) (inb_head h hh)

theorem ldk_is (M : Memref sig .tc .vmem S4096x1024 .bf16) (f : Bf (F := Ideal) c M) (h : ℕ) (hh : h < 8) {X : ℕ → ℕ → ℝ}
    (hX : Is (M.view.read (Elt Ideal) f) X) : Is (ldk c kb hkb M f h hh) (sub X (ksOf kb) h) := is_load hX (ksOf kb) (128 * h) (inb_key kb hkb h hh)

theorem head_div {h d : ℕ} (hd : d < 128) : (128 * h + d) / 128 = h := by omega

/-- The eight heads' columns are all the columns. -/
theorem heads_cover (y : S256x1024.Idx) : ∃ h, ∃ hh : h < 8, y ∈ (Rect.unit (s := S256x1024) ![0, 128 * h] S256x128.size (inb_head h hh)).set := by
  have h1 : (y 1).val < 1024 := (y 1).isLt
  have h8 : (y 1).val / 128 < 8 := by omega
  refine ⟨(y 1).val / 128, h8, ?_⟩
  refine (Rect.unit (s := S256x1024) _ S256x128.size (inb_head _ h8)).mem_set.mpr fun a => ?_
  match a with
  | 0 => exact ⟨(y 0).val, (y 0).isLt, by show _ = 0 + 1 * _; omega⟩
  | 1 => exact ⟨(y 1).val % 128, Nat.mod_lt _ (by omega), by show (y 1).val = 128 * ((y 1).val / 128) + 1 * ((y 1).val % 128); omega⟩

/-- A buffer written head by head holds what the heads' pieces say. -/
theorem is_heads (M : Memref sig .tc .vmem S256x1024 .f32) (f : Bf (F := Ideal) c M) (w : (h : ℕ) → h < 8 → FVec Ideal S256x128 .f32)
    (g : ℕ → ℕ → ℝ) (hw : ∀ h hh, Is (w h hh) (sub g 0 h)) :
    Is (M.view.read (Elt Ideal) (M.view.writes (Elt Ideal) f (headPieces w))) g := by
  intro y
  refine View.read_writes_apply_of_pieces M.view f (fun y : S256x1024.Idx => (((g (y 0).val (y 1).val : ℝ) : EReal) : Elt Ideal .f32)) _ ?_ y ?_
  · intro p hp
    obtain ⟨h, hh, rfl⟩ := heads_mem hp
    exact is_piece 0 (128 * h) (inb_head h hh) (hw h hh) g (fun r hr d hd => rfl)
  · obtain ⟨h, hh, hy⟩ := heads_cover y
    exact ⟨_, mem_heads _ h hh, hy⟩

/-- The carries, equal along a head's lanes, as one head loads them. -/
theorem carry_is (M : Memref sig .tc .vmem S256x1024 .f32) (f : Bf (F := Ideal) c M) (h : ℕ) (hh : h < 8)
    (hX : Is (M.view.read (Elt Ideal) f) fun r l => C (l / 128) r) : Is (ldh c M f h hh) fun r _ => C h r := by
  intro x
  refine (ldh_is32 c M f h hh hX x).trans ?_
  have hd : (x 1).val < 128 := (x 1).isLt
  simp only [sub, zero_add, head_div hd]

theorem trip_acc (hsm : Is sm smr) (hq : Is (Mq.view.read (Elt Ideal) fq) Q) (hk : Is (Mk.view.read (Elt Ideal) fk) K)
    (hv : Is (Mv.view.read (Elt Ideal) fv) V) (ha : Is (Ma.view.read (Elt Ideal) fa) A)
    (hc : Is (Mc.view.read (Elt Ideal) fc) fun r l => C (l / 128) r) :
    Is (Ma.view.read (Elt Ideal) (tripW c Mq Mk Mv Ma Mc sm fq fk fv kb hkb fa fc).1)
      (fun r l => A r l + ∑ s ∈ Finset.range 256, wt (zh Q K (ksOf kb) (l / 128)) 256 (C (l / 128) r) r s * V (ksOf kb + s) l) := by
  have hw : ∀ h hh, Is (accW c Mq Mk Mv Ma Mc sm kb hkb fq fk fv fa fc h hh) (sub (fun r l => A r l + ∑ s ∈ Finset.range 256,
      wt (zh Q K (ksOf kb) (l / 128)) 256 (C (l / 128) r) r s * V (ksOf kb + s) l) 0 h) := by
    intro h hh x
    refine (pairAcc_val hsm (ldh_is c Mq fq h hh hq) (ldk_is c kb hkb Mk fk h hh hk)
      (ldk_is c kb hkb Mv fv h hh hv) (ldh_is32 c Ma fa h hh ha) (carry_is c Mc fc h hh hc) x).trans ?_
    have hd : (x 1).val < 128 := (x 1).isLt
    simp only [sub, zero_add, head_div hd]
  rw [tripW_acc]
  exact is_heads c Ma Ma.view.junk (accW c Mq Mk Mv Ma Mc sm kb hkb fq fk fv fa fc) _ hw

theorem trip_carry (hsm : Is sm smr) (hq : Is (Mq.view.read (Elt Ideal) fq) Q) (hk : Is (Mk.view.read (Elt Ideal) fk) K)
    (hc : Is (Mc.view.read (Elt Ideal) fc) fun r l => C (l / 128) r) :
    Is (Mc.view.read (Elt Ideal) (tripW c Mq Mk Mv Ma Mc sm fq fk fv kb hkb fa fc).2.1)
      (fun r l => C (l / 128) r + ∑ s ∈ Finset.range 256, nl (zh Q K (ksOf kb) (l / 128) r s)) := by
  have hw : ∀ h hh, Is (carryW c Mq Mk Mc sm kb hkb fq fk fc h hh) (sub (fun r l => C (l / 128) r + ∑ s ∈ Finset.range 256,
      nl (zh Q K (ksOf kb) (l / 128) r s)) 0 h) := by
    intro h hh x
    refine (pairCarry_val hsm (ldh_is c Mq fq h hh hq) (ldk_is c kb hkb Mk fk h hh hk) (carry_is c Mc fc h hh hc) x).trans ?_
    have hd : (x 1).val < 128 := (x 1).isLt
    simp only [sub, zero_add, head_div hd]
  rw [tripW_carry]
  exact is_heads c Mc Mc.view.junk (carryW c Mq Mk Mc sm kb hkb fq fk fc) _ hw

end

end Cert.KernelIdeal.Attn

end
-- ==== Proof.Attn.LoopVal.lean ====
/-
  What the attention's loop leaves in the accumulator, over the reals: every query row's sum over all the keys before it.
-/
module

public import proofs.«01_k».proof.Proof.Attn.TripVal

@[expose] public section

noncomputable section

namespace Cert.KernelIdeal.Attn

open Cert.KernelIdeal Cert.KernelIdeal.Gen
open Idealize.ShloMosaic Idealize.ShloMosaic.TcCoe

/-- The logit of query row `r` and key row `j` at head `h`. -/
def zz (Q K : ℕ → ℕ → ℝ) (h r j : ℕ) : ℝ := ∑ d ∈ Finset.range 128, Q r (128 * h + d) * K j (128 * h + d)

theorem zh_eq (Q K : ℕ → ℕ → ℝ) (p h r s : ℕ) : zh Q K p h r s = zz Q K h r (p + s) := by
  simp only [zr, sub, zz, zero_add]

/-- The weight of key `s` for a query with `b` keys before it. -/
def aw (z : ℕ → ℝ) (b s : ℕ) : ℝ := (2 : ℝ) ^ (z s - nl (z s) - ∑ j ∈ Finset.Ico (s + 1) b, nl (z j))

/-- The weighted sum of the values of keys `p` to `b - 1`. -/
def ao (z v : ℕ → ℝ) (p b : ℕ) : ℝ := ∑ s ∈ Finset.Ico p b, aw z b s * v s

/-- The carry of keys `p` to `b - 1`. -/
def ac (z : ℕ → ℝ) (p b : ℕ) : ℝ := ∑ j ∈ Finset.Ico p b, nl (z j)

theorem ac_step (z : ℕ → ℝ) {p b : ℕ} (hb : p + 256 ≤ b) :
    ac z (p + 256) b + ∑ s ∈ Finset.range 256, nl (z (p + s)) = ac z p b := by
  rw [ac, ac, ← Finset.sum_Ico_consecutive _ (show p ≤ p + 256 by omega) hb, Finset.sum_Ico_eq_sum_range _ p (p + 256),
    show p + 256 - p = 256 by omega, add_comm]

theorem ac_split (z : ℕ → ℝ) {p b s : ℕ} (hs : s < 256) (hb : p + 256 ≤ b) :
    ac z (p + 256) b + ∑ j ∈ Finset.Ico (s + 1) 256, nl (z (p + j)) = ∑ j ∈ Finset.Ico (p + s + 1) b, nl (z j) := by
  rw [ac, ← Finset.sum_Ico_consecutive _ (show p + s + 1 ≤ p + 256 by omega) hb, add_comm, Finset.sum_Ico_add (fun j => nl (z j)), add_comm (s + 1) p,
    add_comm 256 p, ← add_assoc]

theorem ao_step (z v : ℕ → ℝ) {p b : ℕ} (hb : p + 256 ≤ b) :
    ao z v (p + 256) b + ∑ s ∈ Finset.range 256, (2 : ℝ) ^ (z (p + s) - nl (z (p + s))
      - (ac z (p + 256) b + ∑ j ∈ Finset.Ico (s + 1) 256, nl (z (p + j)))) * v (p + s) = ao z v p b := by
  have e : ∑ s ∈ Finset.range 256, (2 : ℝ) ^ (z (p + s) - nl (z (p + s))
      - (ac z (p + 256) b + ∑ j ∈ Finset.Ico (s + 1) 256, nl (z (p + j)))) * v (p + s) = ∑ s ∈ Finset.Ico p (p + 256), aw z b s * v s := by
    rw [Finset.sum_Ico_eq_sum_range _ p (p + 256), show p + 256 - p = 256 by omega]
    refine Finset.sum_congr rfl fun s hs => ?_
    rw [ac_split z (Finset.mem_range.mp hs) hb, aw]
  rw [e, ao, ao, ← Finset.sum_Ico_consecutive _ (show p ≤ p + 256 by omega) hb, add_comm]

theorem ac_diag (z : ℕ → ℝ) (t r : ℕ) : ∑ j ∈ Finset.range r, nl (z (t + j)) = ac z t (t + r) := by
  rw [ac, Finset.sum_Ico_eq_sum_range, show t + r - t = r by omega]

theorem ao_diag (z v : ℕ → ℝ) (t r : ℕ) :
    ∑ s ∈ Finset.range r, (2 : ℝ) ^ (z (t + s) - nl (z (t + s)) - (0 + ∑ j ∈ Finset.Ico (s + 1) r, nl (z (t + j)))) * v (t + s)
      = ao z v t (t + r) := by
  rw [ao, Finset.sum_Ico_eq_sum_range, show t + r - t = r by omega]
  refine Finset.sum_congr rfl fun s _ => ?_
  rw [aw, zero_add, Finset.sum_Ico_add (fun j => nl (z j)), add_comm (s + 1) t, add_comm r t, ← add_assoc]

/-- The accumulator after the keys from `p` on, of a block of queries whose first has `t` keys before it. -/
def accF (Q K V : ℕ → ℕ → ℝ) (t p : ℕ) (r l : ℕ) : ℝ := ao (zz Q K (l / 128) r) (fun s => V s l) p (t + r)

/-- The carries after the keys from `p` on. -/
def carF (Q K : ℕ → ℕ → ℝ) (t p : ℕ) (h r : ℕ) : ℝ := ac (zz Q K h r) p (t + r)

theorem accF_step (Q K V : ℕ → ℕ → ℝ) {t p : ℕ} (hp : p + 256 ≤ t) (r l : ℕ) :
    accF Q K V t (p + 256) r l + ∑ s ∈ Finset.range 256,
      wt (zh Q K p (l / 128)) 256 (carF Q K t (p + 256) (l / 128) r) r s * V (p + s) l = accF Q K V t p r l := by
  simp only [wt, zh_eq, accF, carF]
  exact ao_step _ (fun s => V s l) (by omega)

theorem carF_step (Q K : ℕ → ℕ → ℝ) {t p : ℕ} (hp : p + 256 ≤ t) (h r : ℕ) :
    carF Q K t (p + 256) h r + ∑ s ∈ Finset.range 256, nl (zh Q K p h r s) = carF Q K t p h r := by
  simp only [zh_eq, carF]
  exact ac_step _ (by omega)

/-- An array holds any real numbers equal to those it is known to hold. -/
theorem Is.congr {n m : ℕ} {x : (⟨2, ![n, m]⟩ : Shape).Idx → EReal} {f g : ℕ → ℕ → ℝ} (h : Is x f) (e : ∀ r l, f r l = g r l) : Is x g :=
  (funext fun r => funext fun l => e r l : f = g) ▸ h

/-! ### The loop -/

/-- No carry is too large for the threshold, which is infinite. -/
theorem liveOf_eq (x : FVec Ideal S1x1x1 .f32) : liveOf x = 1#32 := by
  have hN : Named.named (F := Ideal) κ (φ := .f32) "pow2_underflow" 0x43172C00#32 = (⊤ : EReal) :=
    (IdealRules.named_const.statement κ "pow2_underflow" .f32 0x43172C00#32 _ rfl).2.2
  unfold liveOf
  rw [hN]
  show Scalar.extui (Ideal.cmp .ole _ ⊤) = _
  have : ∀ y : EReal, Ideal.cmp .ole y ⊤ = 1#1 := fun y => by
    simp [Ideal.cmp]
  rw [this]
  rfl

theorem sgt_live : Scalar.cmpi .sgt 1#32 0#32 = 1#1 := by decide

theorem ksOf_kbOf : ∀ n : Fin 16, ksOf (kbOf (n.val + 1)) = 256 * n.val := by decide

section

variable (c : Dev nD)
    (Mq : Memref sig .tc .vmem S256x1024 .bf16) (Mk Mv : Memref sig .tc .vmem S4096x1024 .bf16)
    (Ma Mc : Memref sig .tc .vmem S256x1024 .f32)
    (sm : FVec Ideal S128x256 .bf16)
    (fq : Bf (F := Ideal) c Mq) (fk : Bf (F := Ideal) c Mk) (fv : Bf (F := Ideal) c Mv)
    {Q K V : ℕ → ℕ → ℝ} {t : ℕ}

theorem loop_val (hsm : Is sm smr) (hq : Is (Mq.view.read (Elt Ideal) fq) Q) (hk : Is (Mk.view.read (Elt Ideal) fk) K)
    (hv : Is (Mv.view.read (Elt Ideal) fv) V) : ∀ (n : ℕ) (kb live : BitVec 32) (s : Bf (F := Ideal) c Ma × Bf (F := Ideal) c Mc),
    KbOk n kb → live = 1#32 → 256 * n ≤ t → Is (Ma.view.read (Elt Ideal) s.1) (accF Q K V t (256 * n)) →
    Is (Mc.view.read (Elt Ideal) s.2) (fun r l => carF Q K t (256 * n) (l / 128) r) →
    Is (Ma.view.read (Elt Ideal) (loop c Mq Mk Mv Ma Mc sm fq fk fv n kb live s).1) (accF Q K V t 0) := by
  intro n
  induction n with
  | zero => exact fun kb live s _ _ _ ha _ => ha
  | succ n ih =>
    intro kb live s hkb hl ht ha hc
    obtain ⟨hchk, -, hnext⟩ := kbOk_succ hkb
    have hks : ksOf kb = 256 * n := by
      obtain ⟨hn, rfl | ⟨h0, -⟩⟩ := hkb
      · exact ksOf_kbOf ⟨n, by omega⟩
      · omega
    have hm : 256 * (n + 1) = 256 * n + 256 := by omega
    have h256 : 256 * n + 256 ≤ t := by omega
    rw [hm] at ha hc
    rw [loop, dif_pos ⟨hchk, by rw [hl]; exact sgt_live⟩]
    refine ih _ _ _ hnext (liveOf_eq _) (by omega) ?_ ?_
    · have := trip_acc (A := accF Q K V t (256 * n + 256)) (C := carF Q K t (256 * n + 256)) c Mq Mk Mv Ma Mc sm kb hchk fq fk fv s.1 s.2 hsm hq hk hv ha hc
      rw [hks] at this
      exact Is.congr this fun r l => accF_step Q K V h256 r l
    · have := trip_carry (C := carF Q K t (256 * n + 256)) c Mq Mk Mv Ma Mc sm kb hchk fq fk fv s.1 s.2 hsm hq hk hc
      rw [hks] at this
      exact Is.congr this fun r l => carF_step Q K h256 (l / 128) r

end

end Cert.KernelIdeal.Attn

end
-- ==== Proof.Attn.BlockVal.lean ====
/-
  The pieces that the diagonal pair of key blocks and the pair before it store, all heads at once, and what they hold over the reals.
-/
module

public import proofs.«01_k».proof.Proof.Attn.LoopVal

@[expose] public section

noncomputable section

namespace Cert.KernelIdeal.Attn

open Cert.KernelIdeal Cert.KernelIdeal.Gen
open Idealize.ShloMosaic Idealize.ShloMosaic.TcCoe

theorem inb_quad {o h : ℕ} (ho : o + 128 ≤ 256) (hh : h < 8) : ∀ a, (![o, 128 * h] : Fin 2 → ℕ) a + S128x128.size a ≤ S256x1024.size a := by
  intro a
  match a with
  | 0 => exact ho
  | 1 => show 128 * h + 128 ≤ 1024; omega

theorem inb_key8 {p h : ℕ} (hp : p + 128 ≤ 4096) (hh : h < 8) : ∀ a, (![p, 128 * h] : Fin 2 → ℕ) a + S128x128.size a ≤ S4096x1024.size a := by
  intro a
  match a with
  | 0 => exact hp
  | 1 => show 128 * h + 128 ≤ 1024; omega

theorem inb_keyp {p h : ℕ} (hp : p + 256 ≤ 4096) (hh : h < 8) : ∀ a, (![p, 128 * h] : Fin 2 → ℕ) a + S256x128.size a ≤ S4096x1024.size a := by
  intro a
  match a with
  | 0 => exact hp
  | 1 => show 128 * h + 128 ≤ 1024; omega

/-- Two pieces for each of the eight heads. -/
def headPairs {α : Type} (f g : (h : ℕ) → h < 8 → α) : List α :=
  [g 7 (by omega), f 7 (by omega), g 6 (by omega), f 6 (by omega), g 5 (by omega), f 5 (by omega), g 4 (by omega), f 4 (by omega),
    g 3 (by omega), f 3 (by omega), g 2 (by omega), f 2 (by omega), g 1 (by omega), f 1 (by omega), g 0 (by omega), f 0 (by omega)]

theorem headPairs_mem {α : Type} {f g : (h : ℕ) → h < 8 → α} {p : α} (hp : p ∈ headPairs f g) :
    ∃ h, ∃ hh : h < 8, p = f h hh ∨ p = g h hh := by
  simp only [headPairs, List.mem_cons, List.not_mem_nil, or_false] at hp
  rcases hp with e | e | e | e | e | e | e | e | e | e | e | e | e | e | e | e
  exacts [⟨7, by omega, .inr e⟩, ⟨7, by omega, .inl e⟩, ⟨6, by omega, .inr e⟩, ⟨6, by omega, .inl e⟩, ⟨5, by omega, .inr e⟩, ⟨5, by omega, .inl e⟩,
    ⟨4, by omega, .inr e⟩, ⟨4, by omega, .inl e⟩, ⟨3, by omega, .inr e⟩, ⟨3, by omega, .inl e⟩, ⟨2, by omega, .inr e⟩, ⟨2, by omega, .inl e⟩,
    ⟨1, by omega, .inr e⟩, ⟨1, by omega, .inl e⟩, ⟨0, by omega, .inr e⟩, ⟨0, by omega, .inl e⟩]

theorem mem_headPairs {α : Type} (f g : (h : ℕ) → h < 8 → α) (h : ℕ) (hh : h < 8) : f h hh ∈ headPairs f g ∧ g h hh ∈ headPairs f g := by
  interval_cases h <;> simp [headPairs]

section

variable {F : FTy → Type} [FloatOps F] [Named F] (c : Dev nD)
    (Mq : Memref sig .tc .vmem S256x1024 .bf16) (Mk Mv : Memref sig .tc .vmem S4096x1024 .bf16)
    (Ma Mc : Memref sig .tc .vmem S256x1024 .f32)
    (sm : FVec F S128x256 .bf16)
    (fq : Bf (F := F) c Mq) (fk : Bf (F := F) c Mk) (fv : Bf (F := F) c Mv) (fa : Bf (F := F) c Ma) (fc : Bf (F := F) c Mc)
    (lo hi : ℕ) (hlo : lo + 128 ≤ 4096) (hhi : hi + 128 ≤ 4096)

/-- A head's last 128 query rows, loaded. -/
def ldq (h : ℕ) (hh : h < 8) : Vec F S128x128 .bf16 :=
  Mq.view.readAt (Elt F) (Rect.unit (s := S256x1024) ![128, 128 * h] S128x128.size (inb_quad (le_refl 256) hh)).toLoadRect fq

/-- A head's 128 key or value rows from `p` on, loaded. -/
def ld8 (M : Memref sig .tc .vmem S4096x1024 .bf16) (f : Bf (F := F) c M) (p : ℕ) (hp : p + 128 ≤ 4096) (h : ℕ) (hh : h < 8) : Vec F S128x128 .bf16 :=
  M.view.readAt (Elt F) (Rect.unit (s := S4096x1024) ![p, 128 * h] S128x128.size (inb_key8 hp hh)).toLoadRect f

/-- A head's 256 key or value rows from `p` on, loaded. -/
def ldp (M : Memref sig .tc .vmem S4096x1024 .bf16) (f : Bf (F := F) c M) (p : ℕ) (hp : p + 256 ≤ 4096) (h : ℕ) (hh : h < 8) : Vec F S256x128 .bf16 :=
  M.view.readAt (Elt F) (Rect.unit (s := S4096x1024) ![p, 128 * h] S256x128.size (inb_keyp hp hh)).toLoadRect f

/-- A head's accumulator on the diagonal, its first 128 rows. -/
def topW (h : ℕ) (hh : h < 8) : FVec F S128x128 .f32 :=
  diagTop sm (ldh c Mq fq h hh) (ldq c Mq fq h hh) (ld8 c Mk fk lo hlo h hh) (ld8 c Mk fk hi hhi h hh) (ld8 c Mv fv lo hlo h hh)

/-- A head's accumulator on the diagonal, its last 128 rows. -/
def botW (h : ℕ) (hh : h < 8) : FVec F S128x128 .f32 :=
  diagBot sm (ldh c Mq fq h hh) (ldq c Mq fq h hh) (ld8 c Mk fk lo hlo h hh) (ld8 c Mk fk hi hhi h hh) (ld8 c Mv fv lo hlo h hh)
    (ld8 c Mv fv hi hhi h hh)

/-- A head's carry after the diagonal. -/
def dcarW (h : ℕ) (hh : h < 8) : FVec F S256x128 .f32 :=
  diagCarry sm (ldh c Mq fq h hh) (ldq c Mq fq h hh) (ld8 c Mk fk lo hlo h hh) (ld8 c Mk fk hi hhi h hh)

/-- The pieces that store, for each head, the accumulator's two halves on the diagonal. -/
def diagPieces (u w : (h : ℕ) → h < 8 → FVec F S128x128 .f32) : List (View.Piece (Elt F) S256x1024 .f32) :=
  headPairs (fun h hh => ⟨Rect.unit (s := S256x1024) ![0, 128 * h] S128x128.size (inb_quad (o := 0) (by decide) hh), u h hh⟩)
    (fun h hh => ⟨Rect.unit (s := S256x1024) ![128, 128 * h] S128x128.size (inb_quad (o := 128) (by decide) hh), w h hh⟩)

/-- Head `h`'s accumulator piece of the pair of blocks before the diagonal, on the pieces stored so far. -/
def stepAcc (p : ℕ) (hp : p + 256 ≤ 4096) (LA LC : List (View.Piece (Elt F) S256x1024 .f32)) (h : ℕ) (hh : h < 8) : List (View.Piece (Elt F) S256x1024 .f32) :=
  ⟨Rect.unit (s := S256x1024) ![0, 128 * h] S256x128.size (inb_head h hh),
    pairAcc sm (ldh c Mq fq h hh) (ldp c Mk fk p hp h hh) (ldp c Mv fv p hp h hh) (ldh c Ma (Ma.view.writes (Elt F) Ma.view.junk LA) h hh)
      (ldh c Mc (Mc.view.writes (Elt F) Mc.view.junk LC) h hh)⟩ :: LA

/-- Head `h`'s carry piece of that pair. -/
def stepCar (p : ℕ) (hp : p + 256 ≤ 4096) (LC : List (View.Piece (Elt F) S256x1024 .f32)) (h : ℕ) (hh : h < 8) : List (View.Piece (Elt F) S256x1024 .f32) :=
  ⟨Rect.unit (s := S256x1024) ![0, 128 * h] S256x128.size (inb_head h hh),
    pairCarry sm (ldh c Mq fq h hh) (ldp c Mk fk p hp h hh) (ldh c Mc (Mc.view.writes (Elt F) Mc.view.junk LC) h hh)⟩ :: LC

end

/-! ### Over the reals -/

section

variable (c : Dev nD)
    (Mq : Memref sig .tc .vmem S256x1024 .bf16) (Mk Mv : Memref sig .tc .vmem S4096x1024 .bf16)
    (Ma Mc : Memref sig .tc .vmem S256x1024 .f32)
    (sm : FVec Ideal S128x256 .bf16)
    (fq : Bf (F := Ideal) c Mq) (fk : Bf (F := Ideal) c Mk) (fv : Bf (F := Ideal) c Mv) (fa : Bf (F := Ideal) c Ma) (fc : Bf (F := Ideal) c Mc)
    (lo hi : ℕ) (hlo : lo + 128 ≤ 4096) (hhi : hi + 128 ≤ 4096)
    {Q K V : ℕ → ℕ → ℝ} {t : ℕ}

theorem ldq_is (h : ℕ) (hh : h < 8) (hq : Is (Mq.view.read (Elt Ideal) fq) Q) : Is (ldq c Mq fq h hh) (fun r d => sub Q 0 h (128 + r) d) :=
  (is_load hq 128 (128 * h) (inb_quad (le_refl 256) hh)).congr fun r d => by rw [sub, zero_add]

theorem ld8_is (M : Memref sig .tc .vmem S4096x1024 .bf16) (f : Bf (F := Ideal) c M) (p : ℕ) (hp : p + 128 ≤ 4096) (h : ℕ) (hh : h < 8)
    {X : ℕ → ℕ → ℝ} (hX : Is (M.view.read (Elt Ideal) f) X) : Is (ld8 c M f p hp h hh) (sub X p h) :=
  is_load hX p (128 * h) (inb_key8 hp hh)

theorem ldp_is (M : Memref sig .tc .vmem S4096x1024 .bf16) (f : Bf (F := Ideal) c M) (p : ℕ) (hp : p + 256 ≤ 4096) (h : ℕ) (hh : h < 8)
    {X : ℕ → ℕ → ℝ} (hX : Is (M.view.read (Elt Ideal) f) X) : Is (ldp c M f p hp h hh) (sub X p h) :=
  is_load hX p (128 * h) (inb_keyp hp hh)

theorem ld8_is' (M : Memref sig .tc .vmem S4096x1024 .bf16) (f : Bf (F := Ideal) c M) (p : ℕ) (hp : p + 128 ≤ 4096) (h : ℕ) (hh : h < 8)
    {X : ℕ → ℕ → ℝ} (hX : Is (M.view.read (Elt Ideal) f) X) (ht : p = t + 128) : Is (ld8 c M f p hp h hh) (fun s d => sub X t h (128 + s) d) :=
  (ld8_is c M f p hp h hh hX).congr fun r d => by rw [sub, sub, ht, add_assoc]

/-- Every place of the block is in some head's upper or lower half. -/
theorem quad_cover (y : S256x1024.Idx) : ∃ h, ∃ hh : h < 8,
    y ∈ (Rect.unit (s := S256x1024) ![0, 128 * h] S128x128.size (inb_quad (o := 0) (by decide) hh)).set
      ∨ y ∈ (Rect.unit (s := S256x1024) ![128, 128 * h] S128x128.size (inb_quad (o := 128) (by decide) hh)).set := by
  have h1 : (y 1).val < 1024 := (y 1).isLt
  have h0 : (y 0).val < 256 := (y 0).isLt
  have h8 : (y 1).val / 128 < 8 := by omega
  refine ⟨(y 1).val / 128, h8, ?_⟩
  by_cases hr : (y 0).val < 128
  · refine .inl ((Rect.unit (s := S256x1024) ![0, 128 * ((y 1).val / 128)] S128x128.size (inb_quad (o := 0) (by decide) h8)).mem_set.mpr fun a => ?_)
    match a with
    | 0 => exact ⟨(y 0).val, hr, by show _ = 0 + 1 * _; omega⟩
    | 1 => exact ⟨(y 1).val % 128, Nat.mod_lt _ (by omega), by show (y 1).val = 128 * ((y 1).val / 128) + 1 * ((y 1).val % 128); omega⟩
  · refine .inr ((Rect.unit (s := S256x1024) ![128, 128 * ((y 1).val / 128)] S128x128.size (inb_quad (o := 128) (by decide) h8)).mem_set.mpr fun a => ?_)
    match a with
    | 0 => exact ⟨(y 0).val - 128, by show _ < 128; omega, by show (y 0).val = 128 + 1 * ((y 0).val - 128); omega⟩
    | 1 => exact ⟨(y 1).val % 128, Nat.mod_lt _ (by omega), by show (y 1).val = 128 * ((y 1).val / 128) + 1 * ((y 1).val % 128); omega⟩

theorem is_quads (M : Memref sig .tc .vmem S256x1024 .f32) (f : Bf (F := Ideal) c M) (u w : (h : ℕ) → h < 8 → FVec Ideal S128x128 .f32)
    (g : ℕ → ℕ → ℝ) (hu : ∀ h hh, Is (u h hh) (sub g 0 h)) (hw : ∀ h hh, Is (w h hh) (sub g 128 h)) :
    Is (M.view.read (Elt Ideal) (M.view.writes (Elt Ideal) f (diagPieces u w))) g := by
  intro y
  refine View.read_writes_apply_of_pieces M.view f (fun y : S256x1024.Idx => (((g (y 0).val (y 1).val : ℝ) : EReal) : Elt Ideal .f32)) _ ?_ y ?_
  · intro p hp
    obtain ⟨h, hh, rfl | rfl⟩ := headPairs_mem hp
    · exact is_piece 0 (128 * h) (inb_quad (by decide) hh) (hu h hh) g (fun r hr d hd => rfl)
    · exact is_piece 128 (128 * h) (inb_quad (by decide) hh) (hw h hh) g (fun r hr d hd => rfl)
  · obtain ⟨h, hh, hy | hy⟩ := quad_cover y
    · exact ⟨_, (mem_headPairs _ _ h hh).1, hy⟩
    · exact ⟨_, (mem_headPairs _ _ h hh).2, hy⟩

/-- The diagonal's accumulator: every query's sum over the keys from the block's first on. -/
theorem diag_acc (hsm : Is sm smr) (hq : Is (Mq.view.read (Elt Ideal) fq) Q) (hk : Is (Mk.view.read (Elt Ideal) fk) K)
    (hv : Is (Mv.view.read (Elt Ideal) fv) V) (h0 : lo = t) (h1 : hi = t + 128) :
    Is (Ma.view.read (Elt Ideal) (Ma.view.writes (Elt Ideal) Ma.view.junk (diagPieces (topW c Mq Mk Mv sm fq fk fv lo hi hlo hhi)
      (botW c Mq Mk Mv sm fq fk fv lo hi hlo hhi)))) (accF Q K V t t) := by
  subst h0
  have e : ∀ h, h < 8 → ∀ r d, d < 128 → ∑ s ∈ Finset.range r, wt (zr (sub Q 0 h) (sub K lo h)) r 0 r s * sub V lo h s d
      = accF Q K V lo lo r (128 * h + d) := by
    intro h hh r d hd
    show _ = ao (zz Q K ((128 * h + d) / 128) r) (fun s => V s (128 * h + d)) lo (lo + r)
    rw [head_div hd, ← ao_diag]
    refine Finset.sum_congr rfl fun s _ => ?_
    simp only [wt, zh_eq, sub]
  refine is_quads c Ma _ _ _ _ (fun h hh x => ?_) (fun h hh x => ?_)
  · refine (diagTop_val hsm (ldh_is c Mq fq h hh hq) (ldq_is c Mq fq h hh hq) (ld8_is c Mk fk lo hlo h hh hk) (ld8_is' c Mk fk hi hhi h hh hk h1)
      (ld8_is c Mv fv lo hlo h hh hv) x).trans ?_
    refine (congrArg _ (e h hh _ _ (x 1).isLt)).trans ?_
    simp only [sub, zero_add]
  · refine (diagBot_val hsm (ldh_is c Mq fq h hh hq) (ldq_is c Mq fq h hh hq) (ld8_is c Mk fk lo hlo h hh hk) (ld8_is' c Mk fk hi hhi h hh hk h1)
      (ld8_is c Mv fv lo hlo h hh hv) (ld8_is' c Mv fv hi hhi h hh hv h1) x).trans ?_
    refine (congrArg _ (e h hh _ _ (x 1).isLt)).trans ?_
    simp only [sub]

/-- The diagonal's carries. -/
theorem diag_carry (hsm : Is sm smr) (hq : Is (Mq.view.read (Elt Ideal) fq) Q) (hk : Is (Mk.view.read (Elt Ideal) fk) K)
    (h0 : lo = t) (h1 : hi = t + 128) :
    Is (Mc.view.read (Elt Ideal) (Mc.view.writes (Elt Ideal) Mc.view.junk (headPieces (dcarW c Mq Mk sm fq fk lo hi hlo hhi))))
      (fun r l => carF Q K t t (l / 128) r) := by
  subst h0
  refine is_heads c Mc _ _ _ (fun h hh x => ?_)
  refine (diagCarry_val hsm (ldh_is c Mq fq h hh hq) (ldq_is c Mq fq h hh hq) (ld8_is c Mk fk lo hlo h hh hk) (ld8_is' c Mk fk hi hhi h hh hk h1) x).trans ?_
  have hd : (x 1).val < 128 := (x 1).isLt
  simp only [sub, zero_add, head_div hd, carF, ← ac_diag]
  congr 1
  exact Finset.sum_congr rfl fun j _ => congrArg nl (zh_eq Q K lo h _ j)

/-- A head's columns replaced: an array holding `g` gets head `h`'s columns of `g'`. -/
theorem is_step (M : Memref sig .tc .vmem S256x1024 .f32) (L : List (View.Piece (Elt Ideal) S256x1024 .f32)) (g g' : ℕ → ℕ → ℝ) (h : ℕ) (hh : h < 8)
    (hL : Is (M.view.read (Elt Ideal) (M.view.writes (Elt Ideal) M.view.junk L)) (fun r l => if l / 128 < h then g' r l else g r l))
    (w : FVec Ideal S256x128 .f32) (hw : Is w (sub g' 0 h)) :
    Is (M.view.read (Elt Ideal) (M.view.writes (Elt Ideal) M.view.junk
      (⟨Rect.unit (s := S256x1024) ![0, 128 * h] S256x128.size (inb_head h hh), w⟩ :: L))) (fun r l => if l / 128 < h + 1 then g' r l else g r l) := by
  intro y
  have h1 : (y 1).val < 1024 := (y 1).isLt
  by_cases hy : (y 1).val / 128 = h
  · rw [View.read_writes_cons_hit_of_coords M.view M.view.junk (Rect.unit (s := S256x1024) ![0, 128 * h] S256x128.size (inb_head h hh)) w L
      (ix2 ⟨(y 0).val, (y 0).isLt⟩ ⟨(y 1).val % 128, Nat.mod_lt _ (by omega)⟩) y (fun a => by
        match a with
        | 0 => show (y 0).val = 0 + 1 * (y 0).val; omega
        | 1 => show (y 1).val = 128 * h + 1 * ((y 1).val % 128); omega), hw.at]
    have e : 128 * h + (y 1).val % 128 = (y 1).val := by omega
    simp only [sub, zero_add, e]
    have hl' : (y 1).val / 128 < h + 1 := by omega
    simp only [if_pos hl']
  · rw [View.read_writes_cons_miss_of_axis M.view M.view.junk _ L y 1 (128 * h) 128 rfl rfl rfl (by omega), hL y]
    by_cases hl : (y 1).val / 128 < h
    · have hl' : (y 1).val / 128 < h + 1 := by omega
      simp only [if_pos hl, if_pos hl']
    · have hl' : ¬(y 1).val / 128 < h + 1 := by omega
      simp only [if_neg hl, if_neg hl']

/-- One head's step of the pair of blocks before the diagonal. -/
theorem pair_step (p : ℕ) (hp : p + 256 ≤ 4096) (ht : p + 256 ≤ t) (hsm : Is sm smr) (hq : Is (Mq.view.read (Elt Ideal) fq) Q)
    (hk : Is (Mk.view.read (Elt Ideal) fk) K) (hv : Is (Mv.view.read (Elt Ideal) fv) V) (LA LC : List (View.Piece (Elt Ideal) S256x1024 .f32))
    (h : ℕ) (hh : h < 8)
    (hA : Is (Ma.view.read (Elt Ideal) (Ma.view.writes (Elt Ideal) Ma.view.junk LA))
      (fun r l => if l / 128 < h then accF Q K V t p r l else accF Q K V t (p + 256) r l))
    (hC : Is (Mc.view.read (Elt Ideal) (Mc.view.writes (Elt Ideal) Mc.view.junk LC))
      (fun r l => if l / 128 < h then carF Q K t p (l / 128) r else carF Q K t (p + 256) (l / 128) r)) :
    Is (Ma.view.read (Elt Ideal) (Ma.view.writes (Elt Ideal) Ma.view.junk (stepAcc c Mq Mk Mv Ma Mc sm fq fk fv p hp LA LC h hh)))
      (fun r l => if l / 128 < h + 1 then accF Q K V t p r l else accF Q K V t (p + 256) r l)
    ∧ Is (Mc.view.read (Elt Ideal) (Mc.view.writes (Elt Ideal) Mc.view.junk (stepCar c Mq Mk Mc sm fq fk p hp LC h hh)))
      (fun r l => if l / 128 < h + 1 then carF Q K t p (l / 128) r else carF Q K t (p + 256) (l / 128) r) := by
  have hc : Is (ldh c Mc (Mc.view.writes (Elt Ideal) Mc.view.junk LC) h hh) fun r _ => carF Q K t (p + 256) h r := by
    intro x
    refine (ldh_is32 c Mc _ h hh hC x).trans ?_
    have hd : (x 1).val < 128 := (x 1).isLt
    simp only [sub, zero_add, head_div hd, lt_irrefl, if_false]
  have ha : Is (ldh c Ma (Ma.view.writes (Elt Ideal) Ma.view.junk LA) h hh) fun r d => if d < 128 then accF Q K V t (p + 256) r (128 * h + d) else 0 := by
    intro x
    refine (ldh_is32 c Ma _ h hh hA x).trans ?_
    have hd : (x 1).val < 128 := (x 1).isLt
    simp only [sub, zero_add, head_div hd, lt_irrefl, if_false, hd, if_true]
  constructor
  · refine is_step Ma LA (accF Q K V t (p + 256)) (accF Q K V t p) h hh hA _ ?_
    intro x
    refine (pairAcc_val hsm (ldh_is c Mq fq h hh hq) (ldp_is c Mk fk p hp h hh hk) (ldp_is c Mv fv p hp h hh hv) ha hc x).trans ?_
    have hd : (x 1).val < 128 := (x 1).isLt
    have e := accF_step Q K V ht (x 0).val (128 * h + (x 1).val)
    rw [head_div hd] at e
    simp only [hd, if_true, sub, zero_add]
    rw [← e]
  · refine is_step Mc LC (fun r l => carF Q K t (p + 256) (l / 128) r) (fun r l => carF Q K t p (l / 128) r) h hh hC _ ?_
    intro x
    refine (pairCarry_val hsm (ldh_is c Mq fq h hh hq) (ldp_is c Mk fk p hp h hh hk) hc x).trans ?_
    have hd : (x 1).val < 128 := (x 1).isLt
    have e := carF_step Q K ht h (x 0).val
    simp only [sub, zero_add, head_div hd]
    rw [← e]

end

/-! ### A block's store and the points' key rows -/

/-- A store of the whole block, read back. -/
theorem read_store (M : Memref sig .tc .vmem S256x1024 .bf16) (f : M.view.ty.Contents (Elt Ideal)) (w : FVec Ideal S256x1024 .bf16) (y : S256x1024.Idx) :
    M.view.read (Elt Ideal) (M.view.writes (Elt Ideal) f
      [⟨Rect.unit (s := S256x1024) ![0, 0] S256x1024.size inb_S256x1024_S256x1024_0_0, w⟩]) y = w y :=
  View.read_writes_cons_hit_of_coords M.view f (Rect.unit (s := S256x1024) ![0, 0] S256x1024.size inb_S256x1024_S256x1024_0_0) w [] y y fun a => by
    match a with
    | 0 => show (y 0).val = 0 + 1 * (y 0).val; omega
    | 1 => show (y 1).val = 0 + 1 * (y 1).val; omega

/-- A load of the whole block reads the block. -/
theorem idx_whole (y : S256x1024.Idx) :
    (Rect.unit (s := S256x1024) ![0, 0] S256x1024.size inb_S256x1024_S256x1024_0_0).toLoadRect.idx y = y := by
  funext a
  apply Fin.ext
  match a with
  | 0 => show 0 + 1 * (y 0).val = (y 0).val; omega
  | 1 => show 0 + 1 * (y 1).val = (y 1).val; omega

/-- The rounding of the accumulator changes nothing. -/
theorem trunc_apply (x : FVec Ideal S256x1024 .f32) : k0_pay298 (F := Ideal) x = (show S256x1024.Idx → EReal from x) := rfl

theorem lo_val (i : grid0.Coords) : (k0_off1 i) 0 = 256 * (i 2).val ∧ (k0_off2 i) 0 = 256 * (i 2).val + 128
    ∧ (k0_off17 i) 0 = 256 * (i 2).val ∧ (k0_off18 i) 0 = 256 * (i 2).val + 128 := by
  have h : ∀ n : Fin 16, (Scalar.muli (Scalar.subi (Scalar.addi (Scalar.muli 2#32 (BitVec.ofNat 32 n.val)) 1#32) 1#32) 128#32).toNat = 256 * n.val
      ∧ (Scalar.addi (Scalar.muli (Scalar.subi (Scalar.addi (Scalar.muli 2#32 (BitVec.ofNat 32 n.val)) 1#32) 1#32) 128#32) 128#32).toNat = 256 * n.val + 128 := by
    decide
  exact ⟨(h (i 2)).1, (h (i 2)).2, (h (i 2)).1, (h (i 2)).2⟩

theorem pr_val (i : grid0.Coords) (hi : (i 2).val ≠ 0) : (k0_off33 i) 0 = 256 * ((i 2).val - 1) := by
  have h : ∀ n : Fin 16, n.val ≠ 0 → (Scalar.muli (Scalar.subi (Scalar.subi (Scalar.addi (Scalar.muli 2#32 (BitVec.ofNat 32 n.val)) 1#32) 2#32) 1#32) 128#32).toNat = 256 * (n.val - 1) := by
    decide
  exact h (i 2) hi

/-- The first test of the loop: no carry is too large for the threshold. -/
theorem live_eq (x : EReal) : Scalar.extui (Scalar.cmpf (F := Ideal) (φ := .f32) .ole x (Named.named (F := Ideal) κ (φ := .f32) "pow2_underflow" 0x43172C00#32)) = 1#32 := by
  have hN : Named.named (F := Ideal) κ (φ := .f32) "pow2_underflow" 0x43172C00#32 = (⊤ : EReal) :=
    (IdealRules.named_const.statement κ "pow2_underflow" .f32 0x43172C00#32 _ rfl).2.2
  rw [hN]
  show Scalar.extui (Ideal.cmp .ole x ⊤) = _
  have : Ideal.cmp .ole x ⊤ = 1#1 := by simp [Ideal.cmp]
  rw [this]
  rfl

end Cert.KernelIdeal.Attn

end
-- ==== Proof.Attn.Body0Val.lean ====
/-
  What the attention's body leaves in its output block at the first query block of a batch, over the reals.
-/
module

public import proofs.«01_k».proof.Proof.Attn.BlockVal
public import proofs.«01_k».proof.Proof.Attn.Body0

@[expose] public section

noncomputable section

namespace Cert.KernelIdeal.Attn

open Cert.KernelIdeal Cert.KernelIdeal.Gen
open Idealize.ShloMosaic Idealize.ShloMosaic.TcCoe

section

variable {F : FTy → Type} [FloatOps F] [Named F] (c : Dev nD) (i : grid0.Coords)
    (M3 : Memref sig .tc .vmem S256x1024 .bf16) (M4 M5 : Memref sig .tc .vmem S4096x1024 .bf16)
    (M17 M18 : Memref sig .tc .vmem S256x1024 .f32) (k0_h : k0_cond1 i = 1#1)
    (f3 : Bf (F := F) c M3) (f4 : Bf (F := F) c M4) (f5 : Bf (F := F) c M5)

theorem lo0_inb (k0_h : k0_cond1 i = 1#1) : (k0_off1 i) 0 + 128 ≤ 4096 := k0_off1_inb i k0_h 0

theorem hi0_inb (k0_h : k0_cond1 i = 1#1) : (k0_off2 i) 0 + 128 ≤ 4096 := k0_off2_inb i k0_h 0

theorem dia0_acc : bodyRun0.sl.H17_16 c i M3 M4 M5 k0_h f3 f4 f5
    = diagPieces (topW c M3 M4 M5 bodyRun0.sl.v25 f3 f4 f5 _ _ (lo0_inb i k0_h) (hi0_inb i k0_h))
      (botW c M3 M4 M5 bodyRun0.sl.v25 f3 f4 f5 _ _ (lo0_inb i k0_h) (hi0_inb i k0_h)) := rfl

theorem dia0_carry : bodyRun0.sl.H18_8 c i M3 M4 k0_h f3 f4
    = headPieces (dcarW c M3 M4 bodyRun0.sl.v25 f3 f4 _ _ (lo0_inb i k0_h) (hi0_inb i k0_h)) := rfl

end

theorem sum0_is : Is (bodyRun0.sl.v25 (F := Ideal)) smr := by
  refine Is.of fun r s => ?_
  pointwise [bodyRun0.sl.v25, bodyRun0.sl.v24, bodyRun0.sl.v22, bodyRun0.sl.v21, bodyRun0.sl.v20, bodyRun0.sl.cst, bodyRun0.sl.cst_19, bodyRun0.sl.v17, bodyRun0.sl.v16, bodyRun0.sl.v15]
  have e1 : IntOp.cmpi CmpIPredicate.sge (BitVec.ofNat 32 s.val) 128#32 = BitVec.ofBool (decide (128 ≤ s.val)) := by
    have := s.isLt
    show BitVec.ofBool (BitVec.sle _ _) = _
    congr 1
    rw [BitVec.sle_eq_decide, BitVec.toInt_eq_toNat_of_lt (by simp only [BitVec.toNat_ofNat]; omega),
      BitVec.toInt_eq_toNat_of_lt (by simp only [BitVec.toNat_ofNat]; omega)]
    simp only [BitVec.toNat_ofNat, Nat.mod_eq_of_lt (show s.val < 2 ^ 32 by omega), Nat.cast_le]
  have e2 : IntOp.cmpi CmpIPredicate.sgt (BitVec.ofNat 32 r.val) (BitVec.ofNat 32 s.val) = BitVec.ofBool (decide (s.val < r.val)) := by
    have := s.isLt
    have := r.isLt
    show BitVec.ofBool (BitVec.slt _ _) = _
    congr 1
    rw [BitVec.slt_eq_decide, BitVec.toInt_eq_toNat_of_lt (by simp only [BitVec.toNat_ofNat]; omega),
      BitVec.toInt_eq_toNat_of_lt (by simp only [BitVec.toNat_ofNat]; omega)]
    simp only [BitVec.toNat_ofNat, Nat.mod_eq_of_lt (show r.val < 2 ^ 32 by omega), Nat.mod_eq_of_lt (show s.val < 2 ^ 32 by omega), Nat.cast_lt]
  rw [e1, e2, smr]
  by_cases h1 : 128 ≤ s.val
  · simp [Scalar.select, h1]
  · by_cases h2 : s.val < r.val <;> simp [Scalar.select, h1, h2]

section

variable (c : Dev nD) (i : grid0.Coords)
    (M3 : Memref sig .tc .vmem S256x1024 .bf16) (M4 M5 : Memref sig .tc .vmem S4096x1024 .bf16)
    (M11 : Memref sig .tc .vmem S256x1024 .bf16)
    (M17 M18 : Memref sig .tc .vmem S256x1024 .f32) (k0_h : k0_cond1 i = 1#1)
    (f3 : Bf (F := Ideal) c M3) (f4 : Bf (F := Ideal) c M4) (f5 : Bf (F := Ideal) c M5)
    {Q K V : ℕ → ℕ → ℝ}

/-- The block: every query's sum over all the keys before it. -/
theorem out0_is (n : ℕ) (hn : KbOk n (bodyRun0.sl.v34 i)) (hni : n = (i 2).val - 1) (hi : (i 2).val = 0) (hq : Is (M3.view.read (Elt Ideal) f3) Q) (hk : Is (M4.view.read (Elt Ideal) f4) K)
    (hv : Is (M5.view.read (Elt Ideal) f5) V) :
    Is (M11.view.read (Elt Ideal) (M11.view.writes (Elt Ideal) M11.view.junk (bodyRun0.sl.H11_1 c i M3 M4 M5 M17 M18 k0_h n f3 f4 f5)))
      (accF Q K V (256 * (i 2).val) 0) := by
  have hlive : bodyRun0.sl.v65 c i M3 M4 M18 k0_h f3 f4 = 1#32 := live_eq _
  have ha : Is (M17.view.read (Elt Ideal) (M17.view.writes (Elt Ideal) M17.view.junk (bodyRun0.sl.H17_16 c i M3 M4 M5 k0_h f3 f4 f5)))
      (accF Q K V (256 * (i 2).val) (256 * n)) := by
    rw [dia0_acc, show 256 * n = 256 * (i 2).val by omega]
    exact diag_acc c M3 M4 M5 M17 _ f3 f4 f5 _ _ _ _ sum0_is hq hk hv (lo_val i).1 (lo_val i).2.1
  have hc : Is (M18.view.read (Elt Ideal) (M18.view.writes (Elt Ideal) M18.view.junk (bodyRun0.sl.H18_8 c i M3 M4 k0_h f3 f4)))
      (fun r l => carF Q K (256 * (i 2).val) (256 * n) (l / 128) r) := by
    rw [dia0_carry, show 256 * n = 256 * (i 2).val by omega]
    exact diag_carry c M3 M4 M18 _ f3 f4 _ _ _ _ sum0_is hq hk (lo_val i).1 (lo_val i).2.1
  have hl := loop_val c M3 M4 M5 M17 M18 bodyRun0.sl.v25 f3 f4 f5 sum0_is hq hk hv n (bodyRun0.sl.v34 i) _
    (M17.view.writes (Elt Ideal) M17.view.junk (bodyRun0.sl.H17_16 c i M3 M4 M5 k0_h f3 f4 f5),
      M18.view.writes (Elt Ideal) M18.view.junk (bodyRun0.sl.H18_8 c i M3 M4 k0_h f3 f4)) hn hlive (by omega) ha hc
  intro y
  refine (read_store M11 M11.view.junk (k0_pay298 (bodyRun0.sl.v67 c i M3 M4 M5 M17 M18 k0_h n f3 f4 f5)) y).trans ?_
  rw [trunc_apply]
  refine Eq.trans ?_ (hl y)
  exact congrArg (M17.view.read (Elt Ideal) _) (idx_whole y)

end

end Cert.KernelIdeal.Attn

end
-- ==== Proof.Attn.Body1Val.lean ====
/-
  What the attention's body leaves in its output block at a later query block of a batch, over the reals.
-/
module

public import proofs.«01_k».proof.Proof.Attn.BlockVal
public import proofs.«01_k».proof.Proof.Attn.Body1

@[expose] public section

noncomputable section

namespace Cert.KernelIdeal.Attn

open Cert.KernelIdeal Cert.KernelIdeal.Gen
open Idealize.ShloMosaic Idealize.ShloMosaic.TcCoe

section

variable {F : FTy → Type} [FloatOps F] [Named F] (c : Dev nD) (i : grid0.Coords)
    (M3 : Memref sig .tc .vmem S256x1024 .bf16) (M4 M5 : Memref sig .tc .vmem S4096x1024 .bf16)
    (M17 M18 : Memref sig .tc .vmem S256x1024 .f32) (k0_h : k0_cond2 i = 1#1)
    (f3 : Bf (F := F) c M3) (f4 : Bf (F := F) c M4) (f5 : Bf (F := F) c M5)

theorem lo1_inb (k0_h : k0_cond2 i = 1#1) : (k0_off17 i) 0 + 128 ≤ 4096 := k0_off17_inb i k0_h 0

theorem hi1_inb (k0_h : k0_cond2 i = 1#1) : (k0_off18 i) 0 + 128 ≤ 4096 := k0_off18_inb i k0_h 0

theorem pr1_inb (k0_h : k0_cond2 i = 1#1) : (k0_off33 i) 0 + 256 ≤ 4096 := k0_off33_inb i k0_h 0

theorem dia1_acc : bodyRun1.sl.H17_16 c i M3 M4 M5 k0_h f3 f4 f5
    = diagPieces (topW c M3 M4 M5 bodyRun1.sl.v25 f3 f4 f5 _ _ (lo1_inb i k0_h) (hi1_inb i k0_h))
      (botW c M3 M4 M5 bodyRun1.sl.v25 f3 f4 f5 _ _ (lo1_inb i k0_h) (hi1_inb i k0_h)) := rfl

theorem dia1_carry : bodyRun1.sl.H18_8 c i M3 M4 k0_h f3 f4
    = headPieces (dcarW c M3 M4 bodyRun1.sl.v25 f3 f4 _ _ (lo1_inb i k0_h) (hi1_inb i k0_h)) := rfl

theorem pair1_acc0 : bodyRun1.sl.H17_17 c i M3 M4 M5 M17 M18 k0_h f3 f4 f5
    = stepAcc c M3 M4 M5 M17 M18 bodyRun1.sl.v25 f3 f4 f5 _ (pr1_inb i k0_h) (bodyRun1.sl.H17_16 c i M3 M4 M5 k0_h f3 f4 f5)
      (bodyRun1.sl.H18_8 c i M3 M4 k0_h f3 f4) 0 (by decide) := rfl

theorem pair1_carry0 : bodyRun1.sl.H18_9 c i M3 M4 M18 k0_h f3 f4
    = stepCar c M3 M4 M18 bodyRun1.sl.v25 f3 f4 _ (pr1_inb i k0_h) (bodyRun1.sl.H18_8 c i M3 M4 k0_h f3 f4) 0 (by decide) := rfl

theorem pair1_acc1 : bodyRun1.sl.H17_18 c i M3 M4 M5 M17 M18 k0_h f3 f4 f5
    = stepAcc c M3 M4 M5 M17 M18 bodyRun1.sl.v25 f3 f4 f5 _ (pr1_inb i k0_h) (bodyRun1.sl.H17_17 c i M3 M4 M5 M17 M18 k0_h f3 f4 f5)
      (bodyRun1.sl.H18_9 c i M3 M4 M18 k0_h f3 f4) 1 (by decide) := rfl

theorem pair1_carry1 : bodyRun1.sl.H18_10 c i M3 M4 M18 k0_h f3 f4
    = stepCar c M3 M4 M18 bodyRun1.sl.v25 f3 f4 _ (pr1_inb i k0_h) (bodyRun1.sl.H18_9 c i M3 M4 M18 k0_h f3 f4) 1 (by decide) := rfl

theorem pair1_acc2 : bodyRun1.sl.H17_19 c i M3 M4 M5 M17 M18 k0_h f3 f4 f5
    = stepAcc c M3 M4 M5 M17 M18 bodyRun1.sl.v25 f3 f4 f5 _ (pr1_inb i k0_h) (bodyRun1.sl.H17_18 c i M3 M4 M5 M17 M18 k0_h f3 f4 f5)
      (bodyRun1.sl.H18_10 c i M3 M4 M18 k0_h f3 f4) 2 (by decide) := rfl

theorem pair1_carry2 : bodyRun1.sl.H18_11 c i M3 M4 M18 k0_h f3 f4
    = stepCar c M3 M4 M18 bodyRun1.sl.v25 f3 f4 _ (pr1_inb i k0_h) (bodyRun1.sl.H18_10 c i M3 M4 M18 k0_h f3 f4) 2 (by decide) := rfl

theorem pair1_acc3 : bodyRun1.sl.H17_20 c i M3 M4 M5 M17 M18 k0_h f3 f4 f5
    = stepAcc c M3 M4 M5 M17 M18 bodyRun1.sl.v25 f3 f4 f5 _ (pr1_inb i k0_h) (bodyRun1.sl.H17_19 c i M3 M4 M5 M17 M18 k0_h f3 f4 f5)
      (bodyRun1.sl.H18_11 c i M3 M4 M18 k0_h f3 f4) 3 (by decide) := rfl

theorem pair1_carry3 : bodyRun1.sl.H18_12 c i M3 M4 M18 k0_h f3 f4
    = stepCar c M3 M4 M18 bodyRun1.sl.v25 f3 f4 _ (pr1_inb i k0_h) (bodyRun1.sl.H18_11 c i M3 M4 M18 k0_h f3 f4) 3 (by decide) := rfl

theorem pair1_acc4 : bodyRun1.sl.H17_21 c i M3 M4 M5 M17 M18 k0_h f3 f4 f5
    = stepAcc c M3 M4 M5 M17 M18 bodyRun1.sl.v25 f3 f4 f5 _ (pr1_inb i k0_h) (bodyRun1.sl.H17_20 c i M3 M4 M5 M17 M18 k0_h f3 f4 f5)
      (bodyRun1.sl.H18_12 c i M3 M4 M18 k0_h f3 f4) 4 (by decide) := rfl

theorem pair1_carry4 : bodyRun1.sl.H18_13 c i M3 M4 M18 k0_h f3 f4
    = stepCar c M3 M4 M18 bodyRun1.sl.v25 f3 f4 _ (pr1_inb i k0_h) (bodyRun1.sl.H18_12 c i M3 M4 M18 k0_h f3 f4) 4 (by decide) := rfl

theorem pair1_acc5 : bodyRun1.sl.H17_22 c i M3 M4 M5 M17 M18 k0_h f3 f4 f5
    = stepAcc c M3 M4 M5 M17 M18 bodyRun1.sl.v25 f3 f4 f5 _ (pr1_inb i k0_h) (bodyRun1.sl.H17_21 c i M3 M4 M5 M17 M18 k0_h f3 f4 f5)
      (bodyRun1.sl.H18_13 c i M3 M4 M18 k0_h f3 f4) 5 (by decide) := rfl

theorem pair1_carry5 : bodyRun1.sl.H18_14 c i M3 M4 M18 k0_h f3 f4
    = stepCar c M3 M4 M18 bodyRun1.sl.v25 f3 f4 _ (pr1_inb i k0_h) (bodyRun1.sl.H18_13 c i M3 M4 M18 k0_h f3 f4) 5 (by decide) := rfl

theorem pair1_acc6 : bodyRun1.sl.H17_23 c i M3 M4 M5 M17 M18 k0_h f3 f4 f5
    = stepAcc c M3 M4 M5 M17 M18 bodyRun1.sl.v25 f3 f4 f5 _ (pr1_inb i k0_h) (bodyRun1.sl.H17_22 c i M3 M4 M5 M17 M18 k0_h f3 f4 f5)
      (bodyRun1.sl.H18_14 c i M3 M4 M18 k0_h f3 f4) 6 (by decide) := rfl

theorem pair1_carry6 : bodyRun1.sl.H18_15 c i M3 M4 M18 k0_h f3 f4
    = stepCar c M3 M4 M18 bodyRun1.sl.v25 f3 f4 _ (pr1_inb i k0_h) (bodyRun1.sl.H18_14 c i M3 M4 M18 k0_h f3 f4) 6 (by decide) := rfl

theorem pair1_acc7 : bodyRun1.sl.H17_24 c i M3 M4 M5 M17 M18 k0_h f3 f4 f5
    = stepAcc c M3 M4 M5 M17 M18 bodyRun1.sl.v25 f3 f4 f5 _ (pr1_inb i k0_h) (bodyRun1.sl.H17_23 c i M3 M4 M5 M17 M18 k0_h f3 f4 f5)
      (bodyRun1.sl.H18_15 c i M3 M4 M18 k0_h f3 f4) 7 (by decide) := rfl

theorem pair1_carry7 : bodyRun1.sl.H18_16 c i M3 M4 M18 k0_h f3 f4
    = stepCar c M3 M4 M18 bodyRun1.sl.v25 f3 f4 _ (pr1_inb i k0_h) (bodyRun1.sl.H18_15 c i M3 M4 M18 k0_h f3 f4) 7 (by decide) := rfl

end

theorem sum1_is : Is (bodyRun1.sl.v25 (F := Ideal)) smr := by
  refine Is.of fun r s => ?_
  pointwise [bodyRun1.sl.v25, bodyRun1.sl.v24, bodyRun1.sl.v22, bodyRun1.sl.v21, bodyRun1.sl.v20, bodyRun1.sl.cst, bodyRun1.sl.cst_19, bodyRun1.sl.v17, bodyRun1.sl.v16, bodyRun1.sl.v15]
  have e1 : IntOp.cmpi CmpIPredicate.sge (BitVec.ofNat 32 s.val) 128#32 = BitVec.ofBool (decide (128 ≤ s.val)) := by
    have := s.isLt
    show BitVec.ofBool (BitVec.sle _ _) = _
    congr 1
    rw [BitVec.sle_eq_decide, BitVec.toInt_eq_toNat_of_lt (by simp only [BitVec.toNat_ofNat]; omega),
      BitVec.toInt_eq_toNat_of_lt (by simp only [BitVec.toNat_ofNat]; omega)]
    simp only [BitVec.toNat_ofNat, Nat.mod_eq_of_lt (show s.val < 2 ^ 32 by omega), Nat.cast_le]
  have e2 : IntOp.cmpi CmpIPredicate.sgt (BitVec.ofNat 32 r.val) (BitVec.ofNat 32 s.val) = BitVec.ofBool (decide (s.val < r.val)) := by
    have := s.isLt
    have := r.isLt
    show BitVec.ofBool (BitVec.slt _ _) = _
    congr 1
    rw [BitVec.slt_eq_decide, BitVec.toInt_eq_toNat_of_lt (by simp only [BitVec.toNat_ofNat]; omega),
      BitVec.toInt_eq_toNat_of_lt (by simp only [BitVec.toNat_ofNat]; omega)]
    simp only [BitVec.toNat_ofNat, Nat.mod_eq_of_lt (show r.val < 2 ^ 32 by omega), Nat.mod_eq_of_lt (show s.val < 2 ^ 32 by omega), Nat.cast_lt]
  rw [e1, e2, smr]
  by_cases h1 : 128 ≤ s.val
  · simp [Scalar.select, h1]
  · by_cases h2 : s.val < r.val <;> simp [Scalar.select, h1, h2]

section

variable (c : Dev nD) (i : grid0.Coords)
    (M3 : Memref sig .tc .vmem S256x1024 .bf16) (M4 M5 : Memref sig .tc .vmem S4096x1024 .bf16)
    (M11 : Memref sig .tc .vmem S256x1024 .bf16)
    (M17 M18 : Memref sig .tc .vmem S256x1024 .f32) (k0_h : k0_cond2 i = 1#1)
    (f3 : Bf (F := Ideal) c M3) (f4 : Bf (F := Ideal) c M4) (f5 : Bf (F := Ideal) c M5)
    {Q K V : ℕ → ℕ → ℝ}

theorem pairs1_is (hi : (i 2).val ≠ 0) (hq : Is (M3.view.read (Elt Ideal) f3) Q) (hk : Is (M4.view.read (Elt Ideal) f4) K)
    (hv : Is (M5.view.read (Elt Ideal) f5) V) :
    Is (M17.view.read (Elt Ideal) (M17.view.writes (Elt Ideal) M17.view.junk (bodyRun1.sl.H17_24 c i M3 M4 M5 M17 M18 k0_h f3 f4 f5)))
      (fun r l => if l / 128 < 8 then accF Q K V (256 * (i 2).val) ((k0_off33 i) 0) r l else accF Q K V (256 * (i 2).val) ((k0_off33 i) 0 + 256) r l)
    ∧ Is (M18.view.read (Elt Ideal) (M18.view.writes (Elt Ideal) M18.view.junk (bodyRun1.sl.H18_16 c i M3 M4 M18 k0_h f3 f4)))
      (fun r l => if l / 128 < 8 then carF Q K (256 * (i 2).val) ((k0_off33 i) 0) (l / 128) r
        else carF Q K (256 * (i 2).val) ((k0_off33 i) 0 + 256) (l / 128) r) := by
  have hp : (k0_off33 i) 0 + 256 = 256 * (i 2).val := by rw [pr_val i hi]; omega
  have hA : Is (M17.view.read (Elt Ideal) (M17.view.writes (Elt Ideal) M17.view.junk (bodyRun1.sl.H17_16 c i M3 M4 M5 k0_h f3 f4 f5)))
      (fun r l => if l / 128 < 0 then accF Q K V (256 * (i 2).val) ((k0_off33 i) 0) r l else accF Q K V (256 * (i 2).val) ((k0_off33 i) 0 + 256) r l) := by
    simp only [Nat.not_lt_zero, if_false]
    rw [dia1_acc, hp]
    exact diag_acc c M3 M4 M5 M17 _ f3 f4 f5 _ _ _ _ sum1_is hq hk hv (lo_val i).2.2.1 (lo_val i).2.2.2
  have hC : Is (M18.view.read (Elt Ideal) (M18.view.writes (Elt Ideal) M18.view.junk (bodyRun1.sl.H18_8 c i M3 M4 k0_h f3 f4)))
      (fun r l => if l / 128 < 0 then carF Q K (256 * (i 2).val) ((k0_off33 i) 0) (l / 128) r
        else carF Q K (256 * (i 2).val) ((k0_off33 i) 0 + 256) (l / 128) r) := by
    simp only [Nat.not_lt_zero, if_false]
    rw [dia1_carry, hp]
    exact diag_carry c M3 M4 M18 _ f3 f4 _ _ _ _ sum1_is hq hk (lo_val i).2.2.1 (lo_val i).2.2.2
  have st := fun LA LC h hh => pair_step c M3 M4 M5 M17 M18 bodyRun1.sl.v25 f3 f4 f5 (Q := Q) (K := K) (V := V) (t := 256 * (i 2).val) ((k0_off33 i) 0) (pr1_inb i k0_h)
    (by omega) sum1_is hq hk hv LA LC h hh
  have s0 := st _ _ 0 (by decide) hA hC
  rw [← pair1_acc0, ← pair1_carry0] at s0
  have s1 := st _ _ 1 (by decide) s0.1 s0.2
  rw [← pair1_acc1, ← pair1_carry1] at s1
  have s2 := st _ _ 2 (by decide) s1.1 s1.2
  rw [← pair1_acc2, ← pair1_carry2] at s2
  have s3 := st _ _ 3 (by decide) s2.1 s2.2
  rw [← pair1_acc3, ← pair1_carry3] at s3
  have s4 := st _ _ 4 (by decide) s3.1 s3.2
  rw [← pair1_acc4, ← pair1_carry4] at s4
  have s5 := st _ _ 5 (by decide) s4.1 s4.2
  rw [← pair1_acc5, ← pair1_carry5] at s5
  have s6 := st _ _ 6 (by decide) s5.1 s5.2
  rw [← pair1_acc6, ← pair1_carry6] at s6
  have s7 := st _ _ 7 (by decide) s6.1 s6.2
  rw [← pair1_acc7, ← pair1_carry7] at s7
  exact s7

/-- The block: every query's sum over all the keys before it. -/
theorem out1_is (n : ℕ) (hn : KbOk n (bodyRun1.sl.v34 i)) (hni : n = (i 2).val - 1) (hi : (i 2).val ≠ 0) (hq : Is (M3.view.read (Elt Ideal) f3) Q) (hk : Is (M4.view.read (Elt Ideal) f4) K)
    (hv : Is (M5.view.read (Elt Ideal) f5) V) :
    Is (M11.view.read (Elt Ideal) (M11.view.writes (Elt Ideal) M11.view.junk (bodyRun1.sl.H11_1 c i M3 M4 M5 M17 M18 k0_h n f3 f4 f5)))
      (accF Q K V (256 * (i 2).val) 0) := by
  have hlive : bodyRun1.sl.v65 c i M3 M4 M18 k0_h f3 f4 = 1#32 := live_eq _
  obtain ⟨ha, hc⟩ := pairs1_is c i M3 M4 M5 M17 M18 k0_h f3 f4 f5 hi hq hk hv
  have hp : (k0_off33 i) 0 = 256 * n := by rw [pr_val i hi, hni]
  rw [hp] at ha hc
  have ha' : Is (M17.view.read (Elt Ideal) (M17.view.writes (Elt Ideal) M17.view.junk (bodyRun1.sl.H17_24 c i M3 M4 M5 M17 M18 k0_h f3 f4 f5)))
      (accF Q K V (256 * (i 2).val) (256 * n)) := fun x => (ha x).trans (by
    have h1 : (x 1).val < 1024 := (x 1).isLt
    have h8 : (x 1).val / 128 < 8 := by omega
    simp only [h8, if_true])
  have hc' : Is (M18.view.read (Elt Ideal) (M18.view.writes (Elt Ideal) M18.view.junk (bodyRun1.sl.H18_16 c i M3 M4 M18 k0_h f3 f4)))
      (fun r l => carF Q K (256 * (i 2).val) (256 * n) (l / 128) r) := fun x => (hc x).trans (by
    have h1 : (x 1).val < 1024 := (x 1).isLt
    have h8 : (x 1).val / 128 < 8 := by omega
    simp only [h8, if_true])
  have hl := loop_val c M3 M4 M5 M17 M18 bodyRun1.sl.v25 f3 f4 f5 sum1_is hq hk hv n (bodyRun1.sl.v34 i) _
    (M17.view.writes (Elt Ideal) M17.view.junk (bodyRun1.sl.H17_24 c i M3 M4 M5 M17 M18 k0_h f3 f4 f5),
      M18.view.writes (Elt Ideal) M18.view.junk (bodyRun1.sl.H18_16 c i M3 M4 M18 k0_h f3 f4)) hn hlive (by omega) ha' hc'
  intro y
  refine (read_store M11 M11.view.junk (k0_pay298 (bodyRun1.sl.v67 c i M3 M4 M5 M17 M18 k0_h n f3 f4 f5)) y).trans ?_
  rw [trunc_apply]
  refine Eq.trans ?_ (hl y)
  exact congrArg (M17.view.read (Elt Ideal) _) (idx_whole y)

end

end Cert.KernelIdeal.Attn

end
-- ==== Proof.Attn.RefVal.lean ====
/-
  The reference, read element by element where its first argument holds real numbers.
-/
module

public import proofs.«01_k».proof.Proof.Gen.ReferenceIdeal.Run
public import proofs.«01_k».proof.Proof.Attn.LoopVal

@[expose] public section

noncomputable section

namespace Cert.ReferenceIdeal.Attn

open Idealize.ShloMosaic
open Cert.KernelIdeal.Attn (Is nl log_two_pos sum_coe max_coe zz aw ao)
open Cert.ReferenceIdeal.Gen

/-- The logistic's argument: query times key, times the logarithm of two. -/
def zR (x : FVec Ideal S16384x8192 .bf16) : FVec Ideal S4x8x4096x4096 .f32 :=
  mulf (Host.dotGeneral dot_S4x4096x8x128_S4x4096x8x128_S4x8x4096x4096_3_3_1_1_02_02 none (shapeCast _ (extractStridedSlice S16384x1024 ![0, 0] (extf .f32 x bitsLt_bf16_f32) slices_S16384x8192_S16384x1024_0_0) shapeCasts_S16384x1024_S4x4096x8x128) (shapeCast _ (extractStridedSlice S16384x1024 ![0, 1024] (extf .f32 x bitsLt_bf16_f32) slices_S16384x8192_S16384x1024_0_1024) shapeCasts_S16384x1024_S4x4096x8x128)) (broadcastInDim S4x8x4096x4096 ![] bcast_S_S4x8x4096x4096 (Host.log (constant S_ .f32 0x40000000#32)))

/-- The values, one row per position and head. -/
def vR (x : FVec Ideal S16384x8192 .bf16) : FVec Ideal S4x4096x8x128 .f32 :=
  shapeCast _ (extractStridedSlice S16384x1024 ![0, 2048] (extf .f32 x bitsLt_bf16_f32) slices_S16384x8192_S16384x1024_0_2048) shapeCasts_S16384x1024_S4x4096x8x128

/-- An array of zeros. -/
def zero4 : FVec Ideal S4x8x4096x4096 .f32 := broadcastInDim S4x8x4096x4096 ![] bcast_S_S4x8x4096x4096 (constant S_ .f32 0x00000000#32)

/-- The logarithm of the logistic, element by element. -/
def logsig (x : FVec Ideal S4x8x4096x4096 .f32) : FVec Ideal S4x8x4096x4096 .f32 :=
  Host.negf (select (cmpf .une (subf (Host.negf x) zero4) (subf (Host.negf x) zero4)) (addf (Host.negf x) zero4) (addf (maximumf (Host.negf x) zero4) (Host.log1p (Host.exp (Host.negf (Host.absf (subf (Host.negf x) zero4)))))))

/-- The pairs of a key position earlier than the query position. -/
def mask4 : IVec S4x8x4096x4096 1 :=
  broadcastInDim S4x8x4096x4096 ![2, 3] bcast_S4096x4096_S4x8x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The logarithms of what each key leaves of the stick, zero where masked. -/
def left (z : FVec Ideal S4x8x4096x4096 .f32) : FVec Ideal S4x8x4096x4096 .f32 :=
  select mask4 (logsig (Host.negf z)) (broadcastInDim S4x8x4096x4096 ![] bcast_S_S4x8x4096x4096 (id (constant S_ .f32 0x00000000#32)))

/-- The sum from each key onwards. -/
def tails (y : FVec Ideal S4x8x4096x4096 .f32) : FVec Ideal S4x8x4096x4096 .f32 :=
  Host.reduceWindowAdd ![1, 1, 1, 4096] ![1, 1, 1, 1] ![0, 0, 0, 0] ![0, 0, 0, 4095] y (broadcastInDim S_ ![] bcast_S_S_ (constant S_ .f32 0x00000000#32)) reduceWindows_S4x8x4096x4096_S4x8x4096x4096_w1s1p0_0_w1s1p0_0_w1s1p0_0_w4096s1p0_4095 h_S_

/-- The attention weights. -/
def weights (z : FVec Ideal S4x8x4096x4096 .f32) : FVec Ideal S4x8x4096x4096 .f32 :=
  select mask4 (Host.exp (addf (logsig z) (subf (tails (left z)) (left z)))) (broadcastInDim S4x8x4096x4096 ![] bcast_S_S4x8x4096x4096 (id (constant S_ .f32 0x00000000#32)))

/-- The result of the values and the weights. -/
def outOf (v : FVec Ideal S4x4096x8x128 .f32) (p : FVec Ideal S4x8x4096x4096 .f32) : FVec Ideal S16384x1024 .bf16 :=
  truncf .bf16 (shapeCast _ (transpose S4x4096x8x128 [0, 3, 1, 2] (Host.dotGeneral dot_S4x4096x8x128_S4x8x4096x4096_S4x8x128x4096_1_3_3_2_02_01 none v p) transposes_S4x8x128x4096_S4x4096x8x128_0_3_1_2) shapeCasts_S4x4096x8x128_S16384x1024) bitsLt_bf16_f32

theorem res_eq (m : (ℓ : Loc nD τ sig) → Buf (Elt Ideal) ℓ) (c : Dev nD) :
    Value.res_main_v29 m c = outOf (vR (m ((c.tc : Thread nD τ).loc main_arg0))) (weights (zR (m ((c.tc : Thread nD τ).loc main_arg0)))) := rfl

theorem ofBits_two : Ideal.ofBits .f32 0x40000000#32 = ((2 : ℝ) : EReal) := by
  simp [Ideal.ofBits, Ideal.ieee]
  rw [← EReal.coe_mul]
  norm_num

theorem log_two : Ideal.log (Ideal.ofBits .f32 0x40000000#32) = ((Real.log 2 : ℝ) : EReal) := by
  rw [ofBits_two, Ideal.log_coe, if_neg (by norm_num)]

/-- The softplus of `w ln 2`. -/
theorem softplus_real (w : ℝ) : max (w * Real.log 2) 0 + Real.log (1 + Real.exp (-|w * Real.log 2|)) = Real.log 2 * nl w := by
  have h2 := log_two_pos
  have e : Real.exp (-|w * Real.log 2|) = (2 : ℝ) ^ (0 - |w|) := by
    rw [Real.rpow_def_of_pos (by norm_num), abs_mul, abs_of_pos h2]
    congr 1
    ring
  have em : max (w * Real.log 2) 0 = max w 0 * Real.log 2 := by
    rw [max_mul_of_nonneg _ _ h2.le, zero_mul]
  rw [e, em, ← Cert.KernelIdeal.Attn.nl_eq]
  field_simp

theorem nl_neg (w : ℝ) : nl (-w) = nl w - w := by
  have h2 := log_two_pos
  have hp : (0 : ℝ) < (2 : ℝ) ^ w := Real.rpow_pos_of_pos (by norm_num) w
  have e : 1 + (2 : ℝ) ^ (-w) = (1 + (2 : ℝ) ^ w) / (2 : ℝ) ^ w := by
    rw [Real.rpow_neg (by norm_num)]; field_simp; ring
  unfold nl
  rw [e, Real.log_div (by linarith) hp.ne', Real.log_rpow (by norm_num)]
  field_simp

variable {x : FVec Ideal S16384x8192 .bf16} {X : ℕ → ℕ → ℝ}

theorem zR_at (hx : Is x X) (b : Fin 4) (h : Fin 8) (t s : Fin 4096) :
    zR x (ix4 b h t s) = ((zz (fun r l => X (4096 * b.val + r) l) (fun r l => X (4096 * b.val + r) (1024 + l)) h.val t.val s.val * Real.log 2 : ℝ) : EReal) := by
  pointwise [zR]
  rw [log_two, EReal.coe_mul]
  congr 1
  unfold zz
  rw [Finset.sum_range, ← sum_coe]
  refine Finset.sum_congr rfl fun d _ => ?_
  rw [hx.at, hx.at, ← EReal.coe_mul]
  simp only [Nat.mul_comm]

theorem vR_at (hx : Is x X) (b : Fin 4) (t : Fin 4096) (h : Fin 8) (d : Fin 128) :
    vR x (ix4 b t h d) = ((X (4096 * b.val + t.val) (2048 + (128 * h.val + d.val)) : ℝ) : EReal) := by
  pointwise [vR]
  rw [hx.at]
  simp only [Nat.mul_comm]

theorem mask_at (b : Fin 4) (h : Fin 8) (t s : Fin 4096) : mask4 (ix4 b h t s) = BitVec.ofBool (decide (s.val < t.val)) := by
  pointwise [mask4]
  have ht := t.isLt
  have hs := s.isLt
  show BitVec.ofBool (BitVec.slt _ _) = _
  congr 1
  rw [BitVec.slt_eq_decide, BitVec.toInt_eq_toNat_of_lt (by simp only [BitVec.toNat_ofNat]; omega),
    BitVec.toInt_eq_toNat_of_lt (by simp only [BitVec.toNat_ofNat]; omega)]
  simp only [BitVec.toNat_ofNat, Nat.mod_eq_of_lt (show s.val < 2 ^ 32 by omega), Nat.mod_eq_of_lt (show t.val < 2 ^ 32 by omega), Nat.cast_lt]

theorem logsig_at (y : FVec Ideal S4x8x4096x4096 .f32) (i : S4x8x4096x4096.Idx) (w : ℝ) (hy : y i = ((w * Real.log 2 : ℝ) : EReal)) :
    logsig y i = ((-(Real.log 2 * nl (-w)) : ℝ) : EReal) := by
  pointwise [logsig, zero4]
  have ha : ∀ u : ℝ, FloatOps.absf (F := Ideal) (φ := .f32) ((u : ℝ) : EReal) = ((|u| : ℝ) : EReal) := fun u => by
    show ((u : ℝ) : EReal) ⊔ -((u : ℝ) : EReal) = _
    rw [← EReal.coe_neg, max_coe]
    rfl
  rw [if_neg (not_not.mpr rfl), hy, ← EReal.coe_neg, ← neg_mul, ha, ← EReal.coe_neg, Ideal.exp_coe, Ideal.log1p, ← EReal.coe_one, ← EReal.coe_add,
    Ideal.log_coe, if_neg, ← EReal.coe_zero, max_coe, ← EReal.coe_add, ← EReal.coe_neg, softplus_real]
  have := Real.exp_pos (-|-w * Real.log 2|)
  linarith

/-- What a key leaves of the stick, as a real number. -/
def lf (z : ℕ → ℝ) (t s : ℕ) : ℝ := if s < t then -(Real.log 2 * nl (z s)) else 0

theorem left_at (y : FVec Ideal S4x8x4096x4096 .f32) (z : ℕ → ℝ) (b : Fin 4) (h : Fin 8) (t s : Fin 4096)
    (hy : y (ix4 b h t s) = ((z s.val * Real.log 2 : ℝ) : EReal)) : left y (ix4 b h t s) = ((lf z t.val s.val : ℝ) : EReal) := by
  have hn : Host.negf y (ix4 b h t s) = ((-z s.val * Real.log 2 : ℝ) : EReal) := by
    pointwise
    rw [hy, ← EReal.coe_neg, neg_mul]
  have hl := logsig_at _ _ _ hn
  rw [neg_neg] at hl
  show Scalar.select (mask4 (ix4 b h t s)) (logsig (Host.negf y) (ix4 b h t s)) (Ideal.ofBits .f32 0x00000000#32) = _
  rw [mask_at, hl, lf]
  by_cases hst : s.val < t.val
  · simp [Scalar.select, hst]
  · simp [Scalar.select, hst]

/-- The left fold of an addition is a sum. -/
theorem foldl_sum {ι : Type*} (l : List ι) (g : ι → EReal) (a : EReal) : l.foldl (fun r n => r + g n) a = a + (l.map g).sum := by
  induction l generalizing a with
  | nil => simp
  | cons n l ih => rw [List.foldl_cons, ih, List.map_cons, List.sum_cons, add_assoc]

/-- The window's positions, one per key. -/
def winEquiv (N : ℕ) : Fin N ≃ (⟨4, ![1, 1, 1, N]⟩ : Shape).Idx where
  toFun k := ix4 0 0 0 k
  invFun p := p 3
  left_inv _ := rfl
  right_inv p := by
    funext a
    match a with
    | 0 => exact Subsingleton.elim (α := Fin 1) _ _
    | 1 => exact Subsingleton.elim (α := Fin 1) _ _
    | 2 => exact Subsingleton.elim (α := Fin 1) _ _
    | 3 => rfl

/-- One window position's term. -/
theorem window_term {B H T N : ℕ} (x : (⟨4, ![B, H, T, N]⟩ : Shape).Idx → EReal) (b : Fin B) (h : Fin H) (t : Fin T) (s k : Fin N) (w : Fin 4 → ℕ)
    (h0 : w 0 = b.val) (h1 : w 1 = h.val) (h2 : w 2 = t.val) (h3 : w 3 = s.val + k.val)
    {_ : Decidable (∀ a : Fin 4, (![0, 0, 0, 0] : Fin 4 → ℕ) a ≤ w a ∧ w a - (![0, 0, 0, 0] : Fin 4 → ℕ) a < (![B, H, T, N] : Fin 4 → ℕ) a)} :
    (if hin : ∀ a : Fin 4, (![0, 0, 0, 0] : Fin 4 → ℕ) a ≤ w a ∧ w a - (![0, 0, 0, 0] : Fin 4 → ℕ) a < (![B, H, T, N] : Fin 4 → ℕ) a then
        x (fun a : Fin 4 => ⟨w a - (![0, 0, 0, 0] : Fin 4 → ℕ) a, (hin a).2⟩) else 0)
      = if hk : s.val + k.val < N then x (ix4 b h t ⟨s.val + k.val, hk⟩) else 0 := by
  by_cases hk : s.val + k.val < N
  · rw [dif_pos hk, dif_pos]
    · refine congrArg x (funext fun a => Fin.ext ?_)
      match a with
      | 0 => show w 0 - 0 = b.val; omega
      | 1 => show w 1 - 0 = h.val; omega
      | 2 => show w 2 - 0 = t.val; omega
      | 3 => show w 3 - 0 = s.val + k.val; omega
    · intro a
      have hb := b.isLt
      have hh := h.isLt
      have ht := t.isLt
      match a with
      | 0 => show 0 ≤ w 0 ∧ w 0 - 0 < B; omega
      | 1 => show 0 ≤ w 1 ∧ w 1 - 0 < H; omega
      | 2 => show 0 ≤ w 2 ∧ w 2 - 0 < T; omega
      | 3 => show 0 ≤ w 3 ∧ w 3 - 0 < N; omega
  · rw [dif_neg hk, dif_neg]
    intro hin
    have h3' : w 3 - 0 < N := (hin 3).2
    omega

/-- A window along the last axis, padded at its end, sums from its place to the end. -/
theorem window_sum {B H T N M : ℕ} (hW : (⟨4, ![B, H, T, N]⟩ : Shape).ReduceWindows ![1, 1, 1, N] ![1, 1, 1, 1] ![0, 0, 0, 0] ![0, 0, 0, M] ⟨4, ![B, H, T, N]⟩)
    (x : (⟨4, ![B, H, T, N]⟩ : Shape).Idx → EReal) (b : Fin B) (h : Fin H) (t : Fin T) (s : Fin N) :
    Ideal.hostReduceWindowAdd ![1, 1, 1, N] ![1, 1, 1, 1] ![0, 0, 0, 0] ![0, 0, 0, M] hW x 0 (ix4 b h t s)
      = ∑ k : Fin N, if hk : s.val + k.val < N then x (ix4 b h t ⟨s.val + k.val, hk⟩) else 0 := by
  unfold Ideal.hostReduceWindowAdd Host.reduceWindow
  dsimp only
  rw [foldl_sum, zero_add, ← List.ofFn_eq_map, List.sum_ofFn,
    ← Equiv.sum_comp ((winEquiv N).trans (⟨4, ![1, 1, 1, N]⟩ : Shape).rowMajor)]
  refine Finset.sum_congr rfl fun k _ => ?_
  have e : (⟨4, ![1, 1, 1, N]⟩ : Shape).rowMajor.symm (((winEquiv N).trans (⟨4, ![1, 1, 1, N]⟩ : Shape).rowMajor) k) = ix4 0 0 0 k :=
    Equiv.symm_apply_apply _ _
  have q := fun a => congrArg Fin.val (congrFun e a)
  refine window_term x b h t s k (fun a => (ix4 b h t s a).val * ![1, 1, 1, 1] a
    + ((⟨4, ![1, 1, 1, N]⟩ : Shape).rowMajor.symm (((winEquiv N).trans (⟨4, ![1, 1, 1, N]⟩ : Shape).rowMajor) k) a).val) ?_ ?_ ?_ ?_
  · show b.val * 1 + _ = b.val
    rw [q 0]; show b.val * 1 + 0 = b.val; omega
  · show h.val * 1 + _ = h.val
    rw [q 1]; show h.val * 1 + 0 = h.val; omega
  · show t.val * 1 + _ = t.val
    rw [q 2]; show t.val * 1 + 0 = t.val; omega
  · show s.val * 1 + _ = s.val + k.val
    rw [q 3]; show s.val * 1 + k.val = s.val + k.val; omega

theorem tails_at (y : FVec Ideal S4x8x4096x4096 .f32) (f : ℕ → ℝ) (b : Fin 4) (h : Fin 8) (t : Fin 4096)
    (hy : ∀ s : Fin 4096, y (ix4 b h t s) = ((f s.val : ℝ) : EReal)) (s : Fin 4096) :
    tails y (ix4 b h t s) = ((∑ j ∈ Finset.Ico s.val 4096, f j : ℝ) : EReal) := by
  have h0 : broadcastInDim S_ ![] bcast_S_S_ (constant (F := Ideal) S_ .f32 0x00000000#32) (Shape.Idx.first h_S_) = (0 : EReal) := by
    show Ideal.ofBits .f32 0x00000000#32 = 0
    simp
  unfold tails Host.reduceWindowAdd
  rw [Ideal.hostReduceWindowAdd_def, h0]
  refine (window_sum _ y b h t s).trans ?_
  have e : ∀ k : Fin 4096, (if hk : s.val + k.val < 4096 then y (ix4 b h t ⟨s.val + k.val, hk⟩) else 0)
      = (((fun k : ℕ => if s.val + k < 4096 then f (s.val + k) else 0) k.val : ℝ) : EReal) := fun k => by
    by_cases hk : s.val + k.val < 4096
    · rw [dif_pos hk, hy]; simp only [if_pos hk]
    · rw [dif_neg hk]; simp only [if_neg hk, EReal.coe_zero]
  rw [Finset.sum_congr rfl fun k _ => e k, sum_coe]
  congr 1
  rw [← Finset.sum_range (fun k : ℕ => if s.val + k < 4096 then f (s.val + k) else 0), ← Finset.sum_filter, Finset.sum_Ico_eq_sum_range]
  refine Finset.sum_congr (Finset.ext fun k => ?_) fun _ _ => rfl
  rw [Finset.mem_filter, Finset.mem_range, Finset.mem_range]
  omega

/-- The reference's weight of a key, as a real number. -/
theorem weight_real (z : ℕ → ℝ) {t s : ℕ} (hs : s < t) (ht : t ≤ 4096) :
    Real.exp (-(Real.log 2 * nl (-z s)) + (∑ j ∈ Finset.Ico s 4096, lf z t j - lf z t s)) = aw z t s := by
  have e1 : ∑ j ∈ Finset.Ico s 4096, lf z t j = lf z t s + ∑ j ∈ Finset.Ico (s + 1) t, -(Real.log 2 * nl (z j)) := by
    rw [Finset.sum_eq_sum_Ico_succ_bot (by omega)]
    congr 1
    rw [← Finset.sum_Ico_consecutive _ (show s + 1 ≤ t by omega) ht,
      show ∑ j ∈ Finset.Ico t 4096, lf z t j = 0 from Finset.sum_eq_zero fun j hj => if_neg (by rw [Finset.mem_Ico] at hj; omega), add_zero]
    exact Finset.sum_congr rfl fun j hj => if_pos (by rw [Finset.mem_Ico] at hj; omega)
  rw [e1, aw, Real.rpow_def_of_pos (by norm_num), nl_neg, Finset.sum_neg_distrib, ← Finset.mul_sum]
  congr 1
  ring

theorem weights_at (y : FVec Ideal S4x8x4096x4096 .f32) (z : ℕ → ℝ) (b : Fin 4) (h : Fin 8) (t : Fin 4096)
    (hy : ∀ s : Fin 4096, y (ix4 b h t s) = ((z s.val * Real.log 2 : ℝ) : EReal)) (s : Fin 4096) :
    weights y (ix4 b h t s) = ((if s.val < t.val then aw z t.val s.val else 0 : ℝ) : EReal) := by
  have hl := fun s => left_at y z b h t s (hy s)
  show Scalar.select (mask4 (ix4 b h t s)) (Ideal.exp (logsig y (ix4 b h t s) + (tails (left y) (ix4 b h t s) - left y (ix4 b h t s)))) (Ideal.ofBits .f32 0x00000000#32) = _
  rw [mask_at, logsig_at _ _ _ (hy s), tails_at _ (lf z t.val) b h t hl s, hl s, ← EReal.coe_sub, ← EReal.coe_add, Ideal.exp_coe]
  by_cases hst : s.val < t.val
  · simp only [hst, if_true]
    rw [weight_real z hst t.isLt.le]
    rfl
  · simp [Scalar.select, hst]

/-- Stick-breaking attention of the rows of `X`: queries in columns 0 to 1023, keys in the next 1024, values in the next. -/
def attnR (X : ℕ → ℕ → ℝ) (row l : ℕ) : ℝ :=
  ao (zz (fun r l => X (4096 * (row / 4096) + r) l) (fun r l => X (4096 * (row / 4096) + r) (1024 + l)) (l / 128) (row % 4096))
    (fun s => X (4096 * (row / 4096) + s) (2048 + l)) 0 (row % 4096)

/-- The reference's first result holds the attention. -/
theorem res_is (m : (ℓ : Loc nD τ sig) → Buf (Elt Ideal) ℓ) (c : Dev nD) (hx : Is (m ((c.tc : Thread nD τ).loc main_arg0)) X) :
    Is (Value.res_main_v29 m c) (attnR X) := Is.of fun r l => by
  rw [res_eq]
  pointwise [outOf]
  have hr := r.isLt
  have hl := l.isLt
  have e : ∀ k : Fin 4096, vR (m ((c.tc : Thread nD τ).loc main_arg0)) (ix4 ⟨r.val / 4096, by omega⟩ k ⟨l.val / 128, by omega⟩ ⟨l.val % 128, by omega⟩)
        * weights (zR (m ((c.tc : Thread nD τ).loc main_arg0))) (ix4 ⟨r.val / 4096, by omega⟩ ⟨l.val / 128, by omega⟩ ⟨r.val % 4096, by omega⟩ k)
      = (((fun k : ℕ => X (4096 * (r.val / 4096) + k) (2048 + (128 * (l.val / 128) + l.val % 128))
          * (if k < r.val % 4096 then aw (zz (fun r' l => X (4096 * (r.val / 4096) + r') l) (fun r' l => X (4096 * (r.val / 4096) + r') (1024 + l)) (l.val / 128) (r.val % 4096)) (r.val % 4096) k else 0)) k.val : ℝ) : EReal) := fun k => by
    rw [vR_at hx, weights_at _ _ _ _ _ (fun s => zR_at hx _ _ _ s), ← EReal.coe_mul]
  refine (Finset.sum_congr rfl fun k _ => e k).trans ?_
  rw [sum_coe]
  congr 1
  rw [← Finset.sum_range (n := 4096) (fun k : ℕ => X (4096 * (r.val / 4096) + k) (2048 + (128 * (l.val / 128) + l.val % 128))
          * (if k < r.val % 4096 then aw (zz (fun r' l => X (4096 * (r.val / 4096) + r') l) (fun r' l => X (4096 * (r.val / 4096) + r') (1024 + l)) (l.val / 128) (r.val % 4096)) (r.val % 4096) k else 0))]
  unfold attnR ao
  rw [Nat.div_add_mod, Finset.range_eq_Ico, ← Finset.sum_Ico_consecutive _ (Nat.zero_le (r.val % 4096)) (show r.val % 4096 ≤ 4096 by omega),
    Finset.sum_eq_zero (s := Finset.Ico (r.val % 4096) 4096) fun j hj => by
      rw [if_neg (by rw [Finset.mem_Ico] at hj; omega), mul_zero], add_zero]
  refine Finset.sum_congr rfl fun k hk => ?_
  rw [if_pos (by rw [Finset.mem_Ico] at hk; omega), mul_comm]

end Cert.ReferenceIdeal.Attn

end
-- ==== Proof.Attn.OutVal.lean ====
/-
  The pieces that the attention's body stores in its six output buffers.
-/
module

public import proofs.«01_k».proof.Proof.Attn.Body0Val
public import proofs.«01_k».proof.Proof.Attn.Body1Val
public import proofs.«01_k».proof.Proof.Attn.Frame

@[expose] public section

noncomputable section

namespace Cert.KernelIdeal.Attn

open Cert.KernelIdeal Cert.KernelIdeal.Gen
open Idealize.ShloMosaic Idealize.ShloMosaic.TcCoe

section

variable {F : FTy → Type} [FloatOps F] [Named F]

theorem run0_8 (c : Dev nD) (i : grid0.Coords) (M3 : Memref sig .tc .vmem S256x1024 .bf16) (h3 : M3.IsWhole) (M4 : Memref sig .tc .vmem S4096x1024 .bf16) (h4 : M4.IsWhole) (M5 : Memref sig .tc .vmem S4096x1024 .bf16) (h5 : M5.IsWhole) (M6 : Memref sig .tc .vmem S16x2048 .f32) (h6 : M6.IsWhole) (M7 : Memref sig .tc .vmem S16x256 .f32) (h7 : M7.IsWhole) (M8 : Memref sig .tc .vmem S16x2048 .f32) (h8 : M8.IsWhole) (M9 : Memref sig .tc .vmem S32x2048 .f32) (h9 : M9.IsWhole) (M10 : Memref sig .tc .vmem S176x2048 .f32) (h10 : M10.IsWhole) (M11 : Memref sig .tc .vmem S256x1024 .bf16) (h11 : M11.IsWhole) (M12 : Memref sig .tc .vmem S16x2048 .bf16) (h12 : M12.IsWhole) (M13 : Memref sig .tc .vmem S16x256 .bf16) (h13 : M13.IsWhole) (M14 : Memref sig .tc .vmem S16x2048 .bf16) (h14 : M14.IsWhole) (M15 : Memref sig .tc .vmem S32x2048 .bf16) (h15 : M15.IsWhole) (M16 : Memref sig .tc .vmem S176x2048 .bf16) (h16 : M16.IsWhole) (M17 : Memref sig .tc .vmem S256x1024 .f32) (h17 : M17.IsWhole) (M18 : Memref sig .tc .vmem S256x1024 .f32) (h18 : M18.IsWhole)
    (k0_h1 : k0_cond1 i = 1#1) (k0_h2 : ¬k0_cond2 i = 1#1)
    (n : ℕ) (hn : KbOk n (Scalar.subi (Scalar.addi (Scalar.muli 2#32 (BitVec.ofNat 32 (i 2).val)) 1#32) 4#32))
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) :
    (bodyRun0 c i M3 h3 M4 h4 M5 h5 M6 h6 M7 h7 M8 h8 M9 h9 M10 h10 M11 h11 M12 h12 M13 h13 M14 h14 M15 h15 M16 h16 M17 h17 M18 h18 k0_h1 k0_h2 n hn f3 f4 f5 f6 f7 f8 f9 f10 f11 f12 f13 f14 f15 f16 f17 f18).1.1 = M11.view.writes (Elt F) M11.view.junk (bodyRun0.sl.H11_1 c i M3 M4 M5 M17 M18 k0_h1 n f3 f4 f5) := by
  unfold bodyRun0
  dsimp only

theorem run0_9 (c : Dev nD) (i : grid0.Coords) (M3 : Memref sig .tc .vmem S256x1024 .bf16) (h3 : M3.IsWhole) (M4 : Memref sig .tc .vmem S4096x1024 .bf16) (h4 : M4.IsWhole) (M5 : Memref sig .tc .vmem S4096x1024 .bf16) (h5 : M5.IsWhole) (M6 : Memref sig .tc .vmem S16x2048 .f32) (h6 : M6.IsWhole) (M7 : Memref sig .tc .vmem S16x256 .f32) (h7 : M7.IsWhole) (M8 : Memref sig .tc .vmem S16x2048 .f32) (h8 : M8.IsWhole) (M9 : Memref sig .tc .vmem S32x2048 .f32) (h9 : M9.IsWhole) (M10 : Memref sig .tc .vmem S176x2048 .f32) (h10 : M10.IsWhole) (M11 : Memref sig .tc .vmem S256x1024 .bf16) (h11 : M11.IsWhole) (M12 : Memref sig .tc .vmem S16x2048 .bf16) (h12 : M12.IsWhole) (M13 : Memref sig .tc .vmem S16x256 .bf16) (h13 : M13.IsWhole) (M14 : Memref sig .tc .vmem S16x2048 .bf16) (h14 : M14.IsWhole) (M15 : Memref sig .tc .vmem S32x2048 .bf16) (h15 : M15.IsWhole) (M16 : Memref sig .tc .vmem S176x2048 .bf16) (h16 : M16.IsWhole) (M17 : Memref sig .tc .vmem S256x1024 .f32) (h17 : M17.IsWhole) (M18 : Memref sig .tc .vmem S256x1024 .f32) (h18 : M18.IsWhole)
    (k0_h1 : k0_cond1 i = 1#1) (k0_h2 : ¬k0_cond2 i = 1#1)
    (n : ℕ) (hn : KbOk n (Scalar.subi (Scalar.addi (Scalar.muli 2#32 (BitVec.ofNat 32 (i 2).val)) 1#32) 4#32))
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) :
    (bodyRun0 c i M3 h3 M4 h4 M5 h5 M6 h6 M7 h7 M8 h8 M9 h9 M10 h10 M11 h11 M12 h12 M13 h13 M14 h14 M15 h15 M16 h16 M17 h17 M18 h18 k0_h1 k0_h2 n hn f3 f4 f5 f6 f7 f8 f9 f10 f11 f12 f13 f14 f15 f16 f17 f18).1.2.1 = M12.view.writes (Elt F) M12.view.junk (bodyRun0.sl.H12_1 c M6 f6) := by
  unfold bodyRun0
  dsimp only

theorem run0_10 (c : Dev nD) (i : grid0.Coords) (M3 : Memref sig .tc .vmem S256x1024 .bf16) (h3 : M3.IsWhole) (M4 : Memref sig .tc .vmem S4096x1024 .bf16) (h4 : M4.IsWhole) (M5 : Memref sig .tc .vmem S4096x1024 .bf16) (h5 : M5.IsWhole) (M6 : Memref sig .tc .vmem S16x2048 .f32) (h6 : M6.IsWhole) (M7 : Memref sig .tc .vmem S16x256 .f32) (h7 : M7.IsWhole) (M8 : Memref sig .tc .vmem S16x2048 .f32) (h8 : M8.IsWhole) (M9 : Memref sig .tc .vmem S32x2048 .f32) (h9 : M9.IsWhole) (M10 : Memref sig .tc .vmem S176x2048 .f32) (h10 : M10.IsWhole) (M11 : Memref sig .tc .vmem S256x1024 .bf16) (h11 : M11.IsWhole) (M12 : Memref sig .tc .vmem S16x2048 .bf16) (h12 : M12.IsWhole) (M13 : Memref sig .tc .vmem S16x256 .bf16) (h13 : M13.IsWhole) (M14 : Memref sig .tc .vmem S16x2048 .bf16) (h14 : M14.IsWhole) (M15 : Memref sig .tc .vmem S32x2048 .bf16) (h15 : M15.IsWhole) (M16 : Memref sig .tc .vmem S176x2048 .bf16) (h16 : M16.IsWhole) (M17 : Memref sig .tc .vmem S256x1024 .f32) (h17 : M17.IsWhole) (M18 : Memref sig .tc .vmem S256x1024 .f32) (h18 : M18.IsWhole)
    (k0_h1 : k0_cond1 i = 1#1) (k0_h2 : ¬k0_cond2 i = 1#1)
    (n : ℕ) (hn : KbOk n (Scalar.subi (Scalar.addi (Scalar.muli 2#32 (BitVec.ofNat 32 (i 2).val)) 1#32) 4#32))
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) :
    (bodyRun0 c i M3 h3 M4 h4 M5 h5 M6 h6 M7 h7 M8 h8 M9 h9 M10 h10 M11 h11 M12 h12 M13 h13 M14 h14 M15 h15 M16 h16 M17 h17 M18 h18 k0_h1 k0_h2 n hn f3 f4 f5 f6 f7 f8 f9 f10 f11 f12 f13 f14 f15 f16 f17 f18).1.2.2.1 = M13.view.writes (Elt F) M13.view.junk (bodyRun0.sl.H13_1 c M7 f7) := by
  unfold bodyRun0
  dsimp only

theorem run0_11 (c : Dev nD) (i : grid0.Coords) (M3 : Memref sig .tc .vmem S256x1024 .bf16) (h3 : M3.IsWhole) (M4 : Memref sig .tc .vmem S4096x1024 .bf16) (h4 : M4.IsWhole) (M5 : Memref sig .tc .vmem S4096x1024 .bf16) (h5 : M5.IsWhole) (M6 : Memref sig .tc .vmem S16x2048 .f32) (h6 : M6.IsWhole) (M7 : Memref sig .tc .vmem S16x256 .f32) (h7 : M7.IsWhole) (M8 : Memref sig .tc .vmem S16x2048 .f32) (h8 : M8.IsWhole) (M9 : Memref sig .tc .vmem S32x2048 .f32) (h9 : M9.IsWhole) (M10 : Memref sig .tc .vmem S176x2048 .f32) (h10 : M10.IsWhole) (M11 : Memref sig .tc .vmem S256x1024 .bf16) (h11 : M11.IsWhole) (M12 : Memref sig .tc .vmem S16x2048 .bf16) (h12 : M12.IsWhole) (M13 : Memref sig .tc .vmem S16x256 .bf16) (h13 : M13.IsWhole) (M14 : Memref sig .tc .vmem S16x2048 .bf16) (h14 : M14.IsWhole) (M15 : Memref sig .tc .vmem S32x2048 .bf16) (h15 : M15.IsWhole) (M16 : Memref sig .tc .vmem S176x2048 .bf16) (h16 : M16.IsWhole) (M17 : Memref sig .tc .vmem S256x1024 .f32) (h17 : M17.IsWhole) (M18 : Memref sig .tc .vmem S256x1024 .f32) (h18 : M18.IsWhole)
    (k0_h1 : k0_cond1 i = 1#1) (k0_h2 : ¬k0_cond2 i = 1#1)
    (n : ℕ) (hn : KbOk n (Scalar.subi (Scalar.addi (Scalar.muli 2#32 (BitVec.ofNat 32 (i 2).val)) 1#32) 4#32))
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) :
    (bodyRun0 c i M3 h3 M4 h4 M5 h5 M6 h6 M7 h7 M8 h8 M9 h9 M10 h10 M11 h11 M12 h12 M13 h13 M14 h14 M15 h15 M16 h16 M17 h17 M18 h18 k0_h1 k0_h2 n hn f3 f4 f5 f6 f7 f8 f9 f10 f11 f12 f13 f14 f15 f16 f17 f18).1.2.2.2.1 = M14.view.writes (Elt F) M14.view.junk (bodyRun0.sl.H14_1 c M8 f8) := by
  unfold bodyRun0
  dsimp only

theorem run0_12 (c : Dev nD) (i : grid0.Coords) (M3 : Memref sig .tc .vmem S256x1024 .bf16) (h3 : M3.IsWhole) (M4 : Memref sig .tc .vmem S4096x1024 .bf16) (h4 : M4.IsWhole) (M5 : Memref sig .tc .vmem S4096x1024 .bf16) (h5 : M5.IsWhole) (M6 : Memref sig .tc .vmem S16x2048 .f32) (h6 : M6.IsWhole) (M7 : Memref sig .tc .vmem S16x256 .f32) (h7 : M7.IsWhole) (M8 : Memref sig .tc .vmem S16x2048 .f32) (h8 : M8.IsWhole) (M9 : Memref sig .tc .vmem S32x2048 .f32) (h9 : M9.IsWhole) (M10 : Memref sig .tc .vmem S176x2048 .f32) (h10 : M10.IsWhole) (M11 : Memref sig .tc .vmem S256x1024 .bf16) (h11 : M11.IsWhole) (M12 : Memref sig .tc .vmem S16x2048 .bf16) (h12 : M12.IsWhole) (M13 : Memref sig .tc .vmem S16x256 .bf16) (h13 : M13.IsWhole) (M14 : Memref sig .tc .vmem S16x2048 .bf16) (h14 : M14.IsWhole) (M15 : Memref sig .tc .vmem S32x2048 .bf16) (h15 : M15.IsWhole) (M16 : Memref sig .tc .vmem S176x2048 .bf16) (h16 : M16.IsWhole) (M17 : Memref sig .tc .vmem S256x1024 .f32) (h17 : M17.IsWhole) (M18 : Memref sig .tc .vmem S256x1024 .f32) (h18 : M18.IsWhole)
    (k0_h1 : k0_cond1 i = 1#1) (k0_h2 : ¬k0_cond2 i = 1#1)
    (n : ℕ) (hn : KbOk n (Scalar.subi (Scalar.addi (Scalar.muli 2#32 (BitVec.ofNat 32 (i 2).val)) 1#32) 4#32))
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) :
    (bodyRun0 c i M3 h3 M4 h4 M5 h5 M6 h6 M7 h7 M8 h8 M9 h9 M10 h10 M11 h11 M12 h12 M13 h13 M14 h14 M15 h15 M16 h16 M17 h17 M18 h18 k0_h1 k0_h2 n hn f3 f4 f5 f6 f7 f8 f9 f10 f11 f12 f13 f14 f15 f16 f17 f18).1.2.2.2.2.1 = M15.view.writes (Elt F) M15.view.junk (bodyRun0.sl.H15_1 c M9 f9) := by
  unfold bodyRun0
  dsimp only

theorem run0_13 (c : Dev nD) (i : grid0.Coords) (M3 : Memref sig .tc .vmem S256x1024 .bf16) (h3 : M3.IsWhole) (M4 : Memref sig .tc .vmem S4096x1024 .bf16) (h4 : M4.IsWhole) (M5 : Memref sig .tc .vmem S4096x1024 .bf16) (h5 : M5.IsWhole) (M6 : Memref sig .tc .vmem S16x2048 .f32) (h6 : M6.IsWhole) (M7 : Memref sig .tc .vmem S16x256 .f32) (h7 : M7.IsWhole) (M8 : Memref sig .tc .vmem S16x2048 .f32) (h8 : M8.IsWhole) (M9 : Memref sig .tc .vmem S32x2048 .f32) (h9 : M9.IsWhole) (M10 : Memref sig .tc .vmem S176x2048 .f32) (h10 : M10.IsWhole) (M11 : Memref sig .tc .vmem S256x1024 .bf16) (h11 : M11.IsWhole) (M12 : Memref sig .tc .vmem S16x2048 .bf16) (h12 : M12.IsWhole) (M13 : Memref sig .tc .vmem S16x256 .bf16) (h13 : M13.IsWhole) (M14 : Memref sig .tc .vmem S16x2048 .bf16) (h14 : M14.IsWhole) (M15 : Memref sig .tc .vmem S32x2048 .bf16) (h15 : M15.IsWhole) (M16 : Memref sig .tc .vmem S176x2048 .bf16) (h16 : M16.IsWhole) (M17 : Memref sig .tc .vmem S256x1024 .f32) (h17 : M17.IsWhole) (M18 : Memref sig .tc .vmem S256x1024 .f32) (h18 : M18.IsWhole)
    (k0_h1 : k0_cond1 i = 1#1) (k0_h2 : ¬k0_cond2 i = 1#1)
    (n : ℕ) (hn : KbOk n (Scalar.subi (Scalar.addi (Scalar.muli 2#32 (BitVec.ofNat 32 (i 2).val)) 1#32) 4#32))
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) :
    (bodyRun0 c i M3 h3 M4 h4 M5 h5 M6 h6 M7 h7 M8 h8 M9 h9 M10 h10 M11 h11 M12 h12 M13 h13 M14 h14 M15 h15 M16 h16 M17 h17 M18 h18 k0_h1 k0_h2 n hn f3 f4 f5 f6 f7 f8 f9 f10 f11 f12 f13 f14 f15 f16 f17 f18).1.2.2.2.2.2 = M16.view.writes (Elt F) M16.view.junk (bodyRun0.sl.H16_1 c M10 f10) := by
  unfold bodyRun0
  dsimp only

theorem run1_8 (c : Dev nD) (i : grid0.Coords) (M3 : Memref sig .tc .vmem S256x1024 .bf16) (h3 : M3.IsWhole) (M4 : Memref sig .tc .vmem S4096x1024 .bf16) (h4 : M4.IsWhole) (M5 : Memref sig .tc .vmem S4096x1024 .bf16) (h5 : M5.IsWhole) (M6 : Memref sig .tc .vmem S16x2048 .f32) (h6 : M6.IsWhole) (M7 : Memref sig .tc .vmem S16x256 .f32) (h7 : M7.IsWhole) (M8 : Memref sig .tc .vmem S16x2048 .f32) (h8 : M8.IsWhole) (M9 : Memref sig .tc .vmem S32x2048 .f32) (h9 : M9.IsWhole) (M10 : Memref sig .tc .vmem S176x2048 .f32) (h10 : M10.IsWhole) (M11 : Memref sig .tc .vmem S256x1024 .bf16) (h11 : M11.IsWhole) (M12 : Memref sig .tc .vmem S16x2048 .bf16) (h12 : M12.IsWhole) (M13 : Memref sig .tc .vmem S16x256 .bf16) (h13 : M13.IsWhole) (M14 : Memref sig .tc .vmem S16x2048 .bf16) (h14 : M14.IsWhole) (M15 : Memref sig .tc .vmem S32x2048 .bf16) (h15 : M15.IsWhole) (M16 : Memref sig .tc .vmem S176x2048 .bf16) (h16 : M16.IsWhole) (M17 : Memref sig .tc .vmem S256x1024 .f32) (h17 : M17.IsWhole) (M18 : Memref sig .tc .vmem S256x1024 .f32) (h18 : M18.IsWhole)
    (k0_h1 : ¬k0_cond1 i = 1#1) (k0_h2 : k0_cond2 i = 1#1)
    (n : ℕ) (hn : KbOk n (Scalar.subi (Scalar.addi (Scalar.muli 2#32 (BitVec.ofNat 32 (i 2).val)) 1#32) 4#32))
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) :
    (bodyRun1 c i M3 h3 M4 h4 M5 h5 M6 h6 M7 h7 M8 h8 M9 h9 M10 h10 M11 h11 M12 h12 M13 h13 M14 h14 M15 h15 M16 h16 M17 h17 M18 h18 k0_h1 k0_h2 n hn f3 f4 f5 f6 f7 f8 f9 f10 f11 f12 f13 f14 f15 f16 f17 f18).1.1 = M11.view.writes (Elt F) M11.view.junk (bodyRun1.sl.H11_1 c i M3 M4 M5 M17 M18 k0_h2 n f3 f4 f5) := by
  unfold bodyRun1
  dsimp only

theorem run1_9 (c : Dev nD) (i : grid0.Coords) (M3 : Memref sig .tc .vmem S256x1024 .bf16) (h3 : M3.IsWhole) (M4 : Memref sig .tc .vmem S4096x1024 .bf16) (h4 : M4.IsWhole) (M5 : Memref sig .tc .vmem S4096x1024 .bf16) (h5 : M5.IsWhole) (M6 : Memref sig .tc .vmem S16x2048 .f32) (h6 : M6.IsWhole) (M7 : Memref sig .tc .vmem S16x256 .f32) (h7 : M7.IsWhole) (M8 : Memref sig .tc .vmem S16x2048 .f32) (h8 : M8.IsWhole) (M9 : Memref sig .tc .vmem S32x2048 .f32) (h9 : M9.IsWhole) (M10 : Memref sig .tc .vmem S176x2048 .f32) (h10 : M10.IsWhole) (M11 : Memref sig .tc .vmem S256x1024 .bf16) (h11 : M11.IsWhole) (M12 : Memref sig .tc .vmem S16x2048 .bf16) (h12 : M12.IsWhole) (M13 : Memref sig .tc .vmem S16x256 .bf16) (h13 : M13.IsWhole) (M14 : Memref sig .tc .vmem S16x2048 .bf16) (h14 : M14.IsWhole) (M15 : Memref sig .tc .vmem S32x2048 .bf16) (h15 : M15.IsWhole) (M16 : Memref sig .tc .vmem S176x2048 .bf16) (h16 : M16.IsWhole) (M17 : Memref sig .tc .vmem S256x1024 .f32) (h17 : M17.IsWhole) (M18 : Memref sig .tc .vmem S256x1024 .f32) (h18 : M18.IsWhole)
    (k0_h1 : ¬k0_cond1 i = 1#1) (k0_h2 : k0_cond2 i = 1#1)
    (n : ℕ) (hn : KbOk n (Scalar.subi (Scalar.addi (Scalar.muli 2#32 (BitVec.ofNat 32 (i 2).val)) 1#32) 4#32))
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) :
    (bodyRun1 c i M3 h3 M4 h4 M5 h5 M6 h6 M7 h7 M8 h8 M9 h9 M10 h10 M11 h11 M12 h12 M13 h13 M14 h14 M15 h15 M16 h16 M17 h17 M18 h18 k0_h1 k0_h2 n hn f3 f4 f5 f6 f7 f8 f9 f10 f11 f12 f13 f14 f15 f16 f17 f18).1.2.1 = M12.view.writes (Elt F) M12.view.junk (bodyRun1.sl.H12_1 c M6 f6) := by
  unfold bodyRun1
  dsimp only

theorem run1_10 (c : Dev nD) (i : grid0.Coords) (M3 : Memref sig .tc .vmem S256x1024 .bf16) (h3 : M3.IsWhole) (M4 : Memref sig .tc .vmem S4096x1024 .bf16) (h4 : M4.IsWhole) (M5 : Memref sig .tc .vmem S4096x1024 .bf16) (h5 : M5.IsWhole) (M6 : Memref sig .tc .vmem S16x2048 .f32) (h6 : M6.IsWhole) (M7 : Memref sig .tc .vmem S16x256 .f32) (h7 : M7.IsWhole) (M8 : Memref sig .tc .vmem S16x2048 .f32) (h8 : M8.IsWhole) (M9 : Memref sig .tc .vmem S32x2048 .f32) (h9 : M9.IsWhole) (M10 : Memref sig .tc .vmem S176x2048 .f32) (h10 : M10.IsWhole) (M11 : Memref sig .tc .vmem S256x1024 .bf16) (h11 : M11.IsWhole) (M12 : Memref sig .tc .vmem S16x2048 .bf16) (h12 : M12.IsWhole) (M13 : Memref sig .tc .vmem S16x256 .bf16) (h13 : M13.IsWhole) (M14 : Memref sig .tc .vmem S16x2048 .bf16) (h14 : M14.IsWhole) (M15 : Memref sig .tc .vmem S32x2048 .bf16) (h15 : M15.IsWhole) (M16 : Memref sig .tc .vmem S176x2048 .bf16) (h16 : M16.IsWhole) (M17 : Memref sig .tc .vmem S256x1024 .f32) (h17 : M17.IsWhole) (M18 : Memref sig .tc .vmem S256x1024 .f32) (h18 : M18.IsWhole)
    (k0_h1 : ¬k0_cond1 i = 1#1) (k0_h2 : k0_cond2 i = 1#1)
    (n : ℕ) (hn : KbOk n (Scalar.subi (Scalar.addi (Scalar.muli 2#32 (BitVec.ofNat 32 (i 2).val)) 1#32) 4#32))
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) :
    (bodyRun1 c i M3 h3 M4 h4 M5 h5 M6 h6 M7 h7 M8 h8 M9 h9 M10 h10 M11 h11 M12 h12 M13 h13 M14 h14 M15 h15 M16 h16 M17 h17 M18 h18 k0_h1 k0_h2 n hn f3 f4 f5 f6 f7 f8 f9 f10 f11 f12 f13 f14 f15 f16 f17 f18).1.2.2.1 = M13.view.writes (Elt F) M13.view.junk (bodyRun1.sl.H13_1 c M7 f7) := by
  unfold bodyRun1
  dsimp only

theorem run1_11 (c : Dev nD) (i : grid0.Coords) (M3 : Memref sig .tc .vmem S256x1024 .bf16) (h3 : M3.IsWhole) (M4 : Memref sig .tc .vmem S4096x1024 .bf16) (h4 : M4.IsWhole) (M5 : Memref sig .tc .vmem S4096x1024 .bf16) (h5 : M5.IsWhole) (M6 : Memref sig .tc .vmem S16x2048 .f32) (h6 : M6.IsWhole) (M7 : Memref sig .tc .vmem S16x256 .f32) (h7 : M7.IsWhole) (M8 : Memref sig .tc .vmem S16x2048 .f32) (h8 : M8.IsWhole) (M9 : Memref sig .tc .vmem S32x2048 .f32) (h9 : M9.IsWhole) (M10 : Memref sig .tc .vmem S176x2048 .f32) (h10 : M10.IsWhole) (M11 : Memref sig .tc .vmem S256x1024 .bf16) (h11 : M11.IsWhole) (M12 : Memref sig .tc .vmem S16x2048 .bf16) (h12 : M12.IsWhole) (M13 : Memref sig .tc .vmem S16x256 .bf16) (h13 : M13.IsWhole) (M14 : Memref sig .tc .vmem S16x2048 .bf16) (h14 : M14.IsWhole) (M15 : Memref sig .tc .vmem S32x2048 .bf16) (h15 : M15.IsWhole) (M16 : Memref sig .tc .vmem S176x2048 .bf16) (h16 : M16.IsWhole) (M17 : Memref sig .tc .vmem S256x1024 .f32) (h17 : M17.IsWhole) (M18 : Memref sig .tc .vmem S256x1024 .f32) (h18 : M18.IsWhole)
    (k0_h1 : ¬k0_cond1 i = 1#1) (k0_h2 : k0_cond2 i = 1#1)
    (n : ℕ) (hn : KbOk n (Scalar.subi (Scalar.addi (Scalar.muli 2#32 (BitVec.ofNat 32 (i 2).val)) 1#32) 4#32))
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) :
    (bodyRun1 c i M3 h3 M4 h4 M5 h5 M6 h6 M7 h7 M8 h8 M9 h9 M10 h10 M11 h11 M12 h12 M13 h13 M14 h14 M15 h15 M16 h16 M17 h17 M18 h18 k0_h1 k0_h2 n hn f3 f4 f5 f6 f7 f8 f9 f10 f11 f12 f13 f14 f15 f16 f17 f18).1.2.2.2.1 = M14.view.writes (Elt F) M14.view.junk (bodyRun1.sl.H14_1 c M8 f8) := by
  unfold bodyRun1
  dsimp only

theorem run1_12 (c : Dev nD) (i : grid0.Coords) (M3 : Memref sig .tc .vmem S256x1024 .bf16) (h3 : M3.IsWhole) (M4 : Memref sig .tc .vmem S4096x1024 .bf16) (h4 : M4.IsWhole) (M5 : Memref sig .tc .vmem S4096x1024 .bf16) (h5 : M5.IsWhole) (M6 : Memref sig .tc .vmem S16x2048 .f32) (h6 : M6.IsWhole) (M7 : Memref sig .tc .vmem S16x256 .f32) (h7 : M7.IsWhole) (M8 : Memref sig .tc .vmem S16x2048 .f32) (h8 : M8.IsWhole) (M9 : Memref sig .tc .vmem S32x2048 .f32) (h9 : M9.IsWhole) (M10 : Memref sig .tc .vmem S176x2048 .f32) (h10 : M10.IsWhole) (M11 : Memref sig .tc .vmem S256x1024 .bf16) (h11 : M11.IsWhole) (M12 : Memref sig .tc .vmem S16x2048 .bf16) (h12 : M12.IsWhole) (M13 : Memref sig .tc .vmem S16x256 .bf16) (h13 : M13.IsWhole) (M14 : Memref sig .tc .vmem S16x2048 .bf16) (h14 : M14.IsWhole) (M15 : Memref sig .tc .vmem S32x2048 .bf16) (h15 : M15.IsWhole) (M16 : Memref sig .tc .vmem S176x2048 .bf16) (h16 : M16.IsWhole) (M17 : Memref sig .tc .vmem S256x1024 .f32) (h17 : M17.IsWhole) (M18 : Memref sig .tc .vmem S256x1024 .f32) (h18 : M18.IsWhole)
    (k0_h1 : ¬k0_cond1 i = 1#1) (k0_h2 : k0_cond2 i = 1#1)
    (n : ℕ) (hn : KbOk n (Scalar.subi (Scalar.addi (Scalar.muli 2#32 (BitVec.ofNat 32 (i 2).val)) 1#32) 4#32))
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) :
    (bodyRun1 c i M3 h3 M4 h4 M5 h5 M6 h6 M7 h7 M8 h8 M9 h9 M10 h10 M11 h11 M12 h12 M13 h13 M14 h14 M15 h15 M16 h16 M17 h17 M18 h18 k0_h1 k0_h2 n hn f3 f4 f5 f6 f7 f8 f9 f10 f11 f12 f13 f14 f15 f16 f17 f18).1.2.2.2.2.1 = M15.view.writes (Elt F) M15.view.junk (bodyRun1.sl.H15_1 c M9 f9) := by
  unfold bodyRun1
  dsimp only

theorem run1_13 (c : Dev nD) (i : grid0.Coords) (M3 : Memref sig .tc .vmem S256x1024 .bf16) (h3 : M3.IsWhole) (M4 : Memref sig .tc .vmem S4096x1024 .bf16) (h4 : M4.IsWhole) (M5 : Memref sig .tc .vmem S4096x1024 .bf16) (h5 : M5.IsWhole) (M6 : Memref sig .tc .vmem S16x2048 .f32) (h6 : M6.IsWhole) (M7 : Memref sig .tc .vmem S16x256 .f32) (h7 : M7.IsWhole) (M8 : Memref sig .tc .vmem S16x2048 .f32) (h8 : M8.IsWhole) (M9 : Memref sig .tc .vmem S32x2048 .f32) (h9 : M9.IsWhole) (M10 : Memref sig .tc .vmem S176x2048 .f32) (h10 : M10.IsWhole) (M11 : Memref sig .tc .vmem S256x1024 .bf16) (h11 : M11.IsWhole) (M12 : Memref sig .tc .vmem S16x2048 .bf16) (h12 : M12.IsWhole) (M13 : Memref sig .tc .vmem S16x256 .bf16) (h13 : M13.IsWhole) (M14 : Memref sig .tc .vmem S16x2048 .bf16) (h14 : M14.IsWhole) (M15 : Memref sig .tc .vmem S32x2048 .bf16) (h15 : M15.IsWhole) (M16 : Memref sig .tc .vmem S176x2048 .bf16) (h16 : M16.IsWhole) (M17 : Memref sig .tc .vmem S256x1024 .f32) (h17 : M17.IsWhole) (M18 : Memref sig .tc .vmem S256x1024 .f32) (h18 : M18.IsWhole)
    (k0_h1 : ¬k0_cond1 i = 1#1) (k0_h2 : k0_cond2 i = 1#1)
    (n : ℕ) (hn : KbOk n (Scalar.subi (Scalar.addi (Scalar.muli 2#32 (BitVec.ofNat 32 (i 2).val)) 1#32) 4#32))
    (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) :
    (bodyRun1 c i M3 h3 M4 h4 M5 h5 M6 h6 M7 h7 M8 h8 M9 h9 M10 h10 M11 h11 M12 h12 M13 h13 M14 h14 M15 h15 M16 h16 M17 h17 M18 h18 k0_h1 k0_h2 n hn f3 f4 f5 f6 f7 f8 f9 f10 f11 f12 f13 f14 f15 f16 f17 f18).1.2.2.2.2.2 = M16.view.writes (Elt F) M16.view.junk (bodyRun1.sl.H16_1 c M10 f10) := by
  unfold bodyRun1
  dsimp only

end

end Cert.KernelIdeal.Attn

end
-- ==== Proof.Attn.Value.lean ====
/-
  The attention's result arrays after the run, over the reals.
-/
module

public import proofs.«01_k».proof.Proof.Attn.Body0Val
public import proofs.«01_k».proof.Proof.Attn.Body1Val
public import proofs.«01_k».proof.Proof.Attn.RefVal
public import proofs.«01_k».proof.Proof.Attn.OutVal
public import Idealize.ShloMosaic.Lib.Pipeline.ValueKit
public import Idealize.ShloMosaic.Lib.Pipeline.Value

@[expose] public section

noncomputable section

namespace Cert.KernelIdeal.Attn

open Cert.KernelIdeal Cert.KernelIdeal.Gen
open Idealize.ShloMosaic Idealize.ShloMosaic.TcCoe Idealize.SL.Sem
open Cert.ReferenceIdeal.Attn (attnR)

/-! ### Where the windows' blocks lie -/

theorem coord_2 : ∀ t : Fin grid0.N, (grid0.coords t 2).val = t.val % 16 := by decide +kernel

theorem idx0 : ∀ t : Fin (cfg0 (F := Ideal)).N, win0_0.index t = ![t.val, 0] := (by decide +kernel : ∀ t : Fin grid0.N, _)
theorem idx1 : ∀ t : Fin (cfg0 (F := Ideal)).N, win0_1.index t = ![t.val / 16, 1] := (by decide +kernel : ∀ t : Fin grid0.N, _)
theorem idx2 : ∀ t : Fin (cfg0 (F := Ideal)).N, win0_2.index t = ![t.val / 16, 2] := (by decide +kernel : ∀ t : Fin grid0.N, _)
theorem idx8 : ∀ t : Fin (cfg0 (F := Ideal)).N, win0_8.index t = ![t.val, 0] := (by decide +kernel : ∀ t : Fin grid0.N, _)

variable (m : (ℓ : Loc nD τ sig) → Buf (Elt Ideal) ℓ) (c : Dev nD)

theorem blk0_is {X : ℕ → ℕ → ℝ} (hx : Is (V m c main_arg0) X) (t : Fin (cfg0 (F := Ideal)).N) :
    Is (n := 256) (m := 1024) (iblk m c 0 t) (fun r l => X (256 * t.val + r) l) := fun j => by
  show V m c main_arg0 (((cfg0 (F := Ideal)).win 0).blk t |>.view.emb j) = _
  refine (hx _).trans ?_
  blk_simp [idx0]
  rw [Nat.mul_comm]

theorem blk1_is {X : ℕ → ℕ → ℝ} (hx : Is (V m c main_arg0) X) (t : Fin (cfg0 (F := Ideal)).N) :
    Is (n := 4096) (m := 1024) (iblk m c 1 t) (fun r l => X (4096 * (t.val / 16) + r) (1024 + l)) := fun j => by
  show V m c main_arg0 (((cfg0 (F := Ideal)).win 1).blk t |>.view.emb j) = _
  refine (hx _).trans ?_
  blk_simp [idx1]
  simp only [Nat.mul_comm]

theorem blk2_is {X : ℕ → ℕ → ℝ} (hx : Is (V m c main_arg0) X) (t : Fin (cfg0 (F := Ideal)).N) :
    Is (n := 4096) (m := 1024) (iblk m c 2 t) (fun r l => X (4096 * (t.val / 16) + r) (2048 + l)) := fun j => by
  show V m c main_arg0 (((cfg0 (F := Ideal)).win 2).blk t |>.view.emb j) = _
  refine (hx _).trans ?_
  blk_simp [idx2]
  simp only [Nat.mul_comm]

/-! ### What a point leaves -/

theorem attn_block {X : ℕ → ℕ → ℝ} (hx : Is (V m c main_arg0) X) (t : Fin (cfg0 (F := Ideal)).N) :
    Is (n := 256) (m := 1024) ((dats m 0 c).after 8 t)
      (accF (fun r l => X (256 * t.val + r) l) (fun r l => X (4096 * (t.val / 16) + r) (1024 + l)) (fun r l => X (4096 * (t.val / 16) + r) (2048 + l)) (256 * (t.val % 16)) 0) := by
  have hq := blk0_is m c hx t
  have hk := blk1_is m c hx t
  have hv := blk2_is m c hx t
  rw [← (hs0 t).read_unread (iblk m c 0 t)] at hq
  rw [← (hs1 t).read_unread (iblk m c 1 t)] at hk
  rw [← (hs2 t).read_unread (iblk m c 2 t)] at hv
  rw [← coord_2 t, after_8]
  unfold outs
  by_cases h : (grid0.coords t 2).val = 0
  · rw [dif_pos h]
    rw [run0_8]
    exact out0_is c (grid0.coords t) (ms0 t) (ms1 t) (ms2 t) (ms8 t) scA scC (cond1_of _ h) ((hs0 t).unread (iblk m c 0 t)) ((hs1 t).unread (iblk m c 1 t)) ((hs2 t).unread (iblk m c 2 t))
      _ (kbOk_point _) rfl h hq hk hv
  · rw [dif_neg h]
    rw [run1_8]
    exact out1_is c (grid0.coords t) (ms0 t) (ms1 t) (ms2 t) (ms8 t) scA scC (cond2_of _ h) ((hs0 t).unread (iblk m c 0 t)) ((hs1 t).unread (iblk m c 1 t)) ((hs2 t).unread (iblk m c 2 t))
      _ (kbOk_point _) rfl h hq hk hv

theorem final_8 {X : ℕ → ℕ → ℝ} (hx : Is (V m c main_arg0) X) :
    (dats m 0 c).arrAt 8 (cfg0 (F := Ideal)).N = fun i : S16384x1024.Idx => ((attnR X (i 0).val (i 1).val : ℝ) : EReal) := by
  refine (dats m 0 c).arrAt_eq_of_covers 8 _ (by decide +kernel) fun t hf y => ?_
  blk_simp [idx8]
  refine (attn_block m c hx t y).trans ?_
  have hy : (y 0).val < 256 := (y 0).isLt
  have e1 : (t.val * 256 + (y 0).val) / 4096 = t.val / 16 := by omega
  have e2 : (t.val * 256 + (y 0).val) % 4096 = 256 * (t.val % 16) + (y 0).val := by omega
  have e3 : 4096 * (t.val / 16) + (256 * (t.val % 16) + (y 0).val) = 256 * t.val + (y 0).val := by omega
  unfold attnR accF zz
  simp only [e1, e2, e3]

/-! ### The casts -/

/-- A cast of a whole block, stored whole, is the block. -/
theorem cast_read {n k : ℕ} (M : Memref sig .tc .vmem ⟨2, ![n, k]⟩ .f32) (hM : M.IsWhole) (M' : Memref sig .tc .vmem ⟨2, ![n, k]⟩ .bf16)
    (x : (⟨2, ![n, k]⟩ : Shape).Idx → Elt Ideal .f32) (f : M'.view.ty.Contents (Elt Ideal))
    (inb inb' : ∀ a, (![0, 0] : Fin 2 → ℕ) a + (⟨2, ![n, k]⟩ : Shape).size a ≤ (⟨2, ![n, k]⟩ : Shape).size a) (hb : FTy.bits .bf16 < FTy.bits .f32) (y : (⟨2, ![n, k]⟩ : Shape).Idx) :
    M'.view.read (Elt Ideal) (M'.view.writes (Elt Ideal) f
      [⟨Rect.unit (s := ⟨2, ![n, k]⟩) ![0, 0] (⟨2, ![n, k]⟩ : Shape).size inb,
        truncf (F := Ideal) (s := ⟨2, ![n, k]⟩) (φ := .f32) .bf16 (M.view.readAt (Elt Ideal) (Rect.unit (s := ⟨2, ![n, k]⟩) ![0, 0] (⟨2, ![n, k]⟩ : Shape).size inb').toLoadRect (hM.unread x)) hb⟩]) y = x y := by
  refine (View.read_writes_cons_hit_of_coords M'.view f (Rect.unit (s := ⟨2, ![n, k]⟩) ![0, 0] (⟨2, ![n, k]⟩ : Shape).size inb) _ [] y y fun a => by
    match a with
    | 0 => show (y 0).val = 0 + 1 * (y 0).val; omega
    | 1 => show (y 1).val = 0 + 1 * (y 1).val; omega).trans ?_
  show M.view.read (Elt Ideal) (hM.unread x) ((Rect.unit (s := ⟨2, ![n, k]⟩) ![0, 0] (⟨2, ![n, k]⟩ : Shape).size inb').toLoadRect.idx y) = x y
  rw [hM.read_unread]
  refine congrArg x (funext fun a => Fin.ext ?_)
  match a with
  | 0 => show 0 + 1 * (y 0).val = (y 0).val; omega
  | 1 => show 0 + 1 * (y 1).val = (y 1).val; omega

theorem cast_9 (t : Fin (cfg0 (F := Ideal)).N) (y : S16x2048.Idx) : (dats m 0 c).after 9 t y = iblk m c 3 t y := by
  rw [after_9]
  unfold outs
  by_cases h : (grid0.coords t 2).val = 0
  · rw [dif_pos h, run0_9]
    unfold bodyRun0.sl.H12_1
    exact cast_read (ms3 t) (hs3 t) (ms9 t) (iblk m c 3 t) _ _ _ _ y
  · rw [dif_neg h, run1_9]
    unfold bodyRun1.sl.H12_1
    exact cast_read (ms3 t) (hs3 t) (ms9 t) (iblk m c 3 t) _ _ _ _ y

theorem idx_9 : ∀ t : Fin (cfg0 (F := Ideal)).N, win0_3.index t = win0_9.index t := (by decide +kernel : ∀ t : Fin grid0.N, _)

theorem final_9 : (dats m 0 c).arrAt 9 (cfg0 (F := Ideal)).N = fun i : S1024x2048.Idx => (show EReal from V m c main_arg1 i) := by
  refine (dats m 0 c).arrAt_eq_of_covers 9 _ (by decide +kernel) fun t hf y => ?_
  refine (cast_9 m c t y).trans (congrArg (V m c main_arg1) (funext fun a => Fin.ext ?_))
  have e := idx_9 t
  match a with
  | 0 => show win0_3.index t 0 * 16 + 1 * (y 0).val = win0_9.index t 0 * 16 + 1 * (y 0).val; rw [e]
  | 1 => show win0_3.index t 1 * 2048 + 1 * (y 1).val = win0_9.index t 1 * 2048 + 1 * (y 1).val; rw [e]

theorem cast_10 (t : Fin (cfg0 (F := Ideal)).N) (y : S16x256.Idx) : (dats m 0 c).after 10 t y = iblk m c 4 t y := by
  rw [after_10]
  unfold outs
  by_cases h : (grid0.coords t 2).val = 0
  · rw [dif_pos h, run0_10]
    unfold bodyRun0.sl.H13_1
    exact cast_read (ms4 t) (hs4 t) (ms10 t) (iblk m c 4 t) _ _ _ _ y
  · rw [dif_neg h, run1_10]
    unfold bodyRun1.sl.H13_1
    exact cast_read (ms4 t) (hs4 t) (ms10 t) (iblk m c 4 t) _ _ _ _ y

theorem idx_10 : ∀ t : Fin (cfg0 (F := Ideal)).N, win0_4.index t = win0_10.index t := (by decide +kernel : ∀ t : Fin grid0.N, _)

theorem final_10 : (dats m 0 c).arrAt 10 (cfg0 (F := Ideal)).N = fun i : S1024x256.Idx => (show EReal from V m c main_arg2 i) := by
  refine (dats m 0 c).arrAt_eq_of_covers 10 _ (by decide +kernel) fun t hf y => ?_
  refine (cast_10 m c t y).trans (congrArg (V m c main_arg2) (funext fun a => Fin.ext ?_))
  have e := idx_10 t
  match a with
  | 0 => show win0_4.index t 0 * 16 + 1 * (y 0).val = win0_10.index t 0 * 16 + 1 * (y 0).val; rw [e]
  | 1 => show win0_4.index t 1 * 256 + 1 * (y 1).val = win0_10.index t 1 * 256 + 1 * (y 1).val; rw [e]

theorem cast_11 (t : Fin (cfg0 (F := Ideal)).N) (y : S16x2048.Idx) : (dats m 0 c).after 11 t y = iblk m c 5 t y := by
  rw [after_11]
  unfold outs
  by_cases h : (grid0.coords t 2).val = 0
  · rw [dif_pos h, run0_11]
    unfold bodyRun0.sl.H14_1
    exact cast_read (ms5 t) (hs5 t) (ms11 t) (iblk m c 5 t) _ _ _ _ y
  · rw [dif_neg h, run1_11]
    unfold bodyRun1.sl.H14_1
    exact cast_read (ms5 t) (hs5 t) (ms11 t) (iblk m c 5 t) _ _ _ _ y

theorem idx_11 : ∀ t : Fin (cfg0 (F := Ideal)).N, win0_5.index t = win0_11.index t := (by decide +kernel : ∀ t : Fin grid0.N, _)

theorem final_11 : (dats m 0 c).arrAt 11 (cfg0 (F := Ideal)).N = fun i : S1024x2048.Idx => (show EReal from V m c main_arg3 i) := by
  refine (dats m 0 c).arrAt_eq_of_covers 11 _ (by decide +kernel) fun t hf y => ?_
  refine (cast_11 m c t y).trans (congrArg (V m c main_arg3) (funext fun a => Fin.ext ?_))
  have e := idx_11 t
  match a with
  | 0 => show win0_5.index t 0 * 16 + 1 * (y 0).val = win0_11.index t 0 * 16 + 1 * (y 0).val; rw [e]
  | 1 => show win0_5.index t 1 * 2048 + 1 * (y 1).val = win0_11.index t 1 * 2048 + 1 * (y 1).val; rw [e]

theorem cast_12 (t : Fin (cfg0 (F := Ideal)).N) (y : S32x2048.Idx) : (dats m 0 c).after 12 t y = iblk m c 6 t y := by
  rw [after_12]
  unfold outs
  by_cases h : (grid0.coords t 2).val = 0
  · rw [dif_pos h, run0_12]
    unfold bodyRun0.sl.H15_1
    exact cast_read (ms6 t) (hs6 t) (ms12 t) (iblk m c 6 t) _ _ _ _ y
  · rw [dif_neg h, run1_12]
    unfold bodyRun1.sl.H15_1
    exact cast_read (ms6 t) (hs6 t) (ms12 t) (iblk m c 6 t) _ _ _ _ y

theorem idx_12 : ∀ t : Fin (cfg0 (F := Ideal)).N, win0_6.index t = win0_12.index t := (by decide +kernel : ∀ t : Fin grid0.N, _)

theorem final_12 : (dats m 0 c).arrAt 12 (cfg0 (F := Ideal)).N = fun i : S2048x2048.Idx => (show EReal from V m c main_arg4 i) := by
  refine (dats m 0 c).arrAt_eq_of_covers 12 _ (by decide +kernel) fun t hf y => ?_
  refine (cast_12 m c t y).trans (congrArg (V m c main_arg4) (funext fun a => Fin.ext ?_))
  have e := idx_12 t
  match a with
  | 0 => show win0_6.index t 0 * 32 + 1 * (y 0).val = win0_12.index t 0 * 32 + 1 * (y 0).val; rw [e]
  | 1 => show win0_6.index t 1 * 2048 + 1 * (y 1).val = win0_12.index t 1 * 2048 + 1 * (y 1).val; rw [e]

theorem cast_13 (t : Fin (cfg0 (F := Ideal)).N) (y : S176x2048.Idx) : (dats m 0 c).after 13 t y = iblk m c 7 t y := by
  rw [after_13]
  unfold outs
  by_cases h : (grid0.coords t 2).val = 0
  · rw [dif_pos h, run0_13]
    unfold bodyRun0.sl.H16_1
    exact cast_read (ms7 t) (hs7 t) (ms13 t) (iblk m c 7 t) _ _ _ _ y
  · rw [dif_neg h, run1_13]
    unfold bodyRun1.sl.H16_1
    exact cast_read (ms7 t) (hs7 t) (ms13 t) (iblk m c 7 t) _ _ _ _ y

theorem idx_13 : ∀ t : Fin (cfg0 (F := Ideal)).N, win0_7.index t = win0_13.index t := (by decide +kernel : ∀ t : Fin grid0.N, _)

theorem final_13 : (dats m 0 c).arrAt 13 (cfg0 (F := Ideal)).N = fun i : S5632x2048.Idx => (show EReal from V m c main_arg5 i) := by
  refine (dats m 0 c).arrAt_eq_of_covers 13 _ (by decide +kernel) fun t hf y => ?_
  refine (cast_13 m c t y).trans (congrArg (V m c main_arg5) (funext fun a => Fin.ext ?_))
  have e := idx_13 t
  match a with
  | 0 => show win0_7.index t 0 * 176 + 1 * (y 0).val = win0_13.index t 0 * 176 + 1 * (y 0).val; rw [e]
  | 1 => show win0_7.index t 1 * 2048 + 1 * (y 1).val = win0_13.index t 1 * 2048 + 1 * (y 1).val; rw [e]

/-! ### The run -/

/-- The run, with the six result arrays at their values. -/
theorem run_value (ρ : Dev nD → PrngReg) {X : Dev nD → ℕ → ℕ → ℝ} (hx : ∀ c : Dev nD, Is (m ((c.tc : Thread nD τ).loc main_arg0)) (X c)) :
    θ_run defs (onTc (τ := τ) (main (F := Ideal))) ⟨m, fun _ => 0, ρ⟩ (fun r => ∀ c : Dev nD,
      (r.2.mem ((c.tc : Thread nD τ).loc main_v0_0) = fun i : S16384x1024.Idx => ((attnR (X c) (i 0).val (i 1).val : ℝ) : EReal))
      ∧ (r.2.mem ((c.tc : Thread nD τ).loc main_v0_1) = fun i : S1024x2048.Idx => (show EReal from m ((c.tc : Thread nD τ).loc main_arg1) i))
      ∧ (r.2.mem ((c.tc : Thread nD τ).loc main_v0_2) = fun i : S1024x256.Idx => (show EReal from m ((c.tc : Thread nD τ).loc main_arg2) i))
      ∧ (r.2.mem ((c.tc : Thread nD τ).loc main_v0_3) = fun i : S1024x2048.Idx => (show EReal from m ((c.tc : Thread nD τ).loc main_arg3) i))
      ∧ (r.2.mem ((c.tc : Thread nD τ).loc main_v0_4) = fun i : S2048x2048.Idx => (show EReal from m ((c.tc : Thread nD τ).loc main_arg4) i))
      ∧ (r.2.mem ((c.tc : Thread nD τ).loc main_v0_5) = fun i : S5632x2048.Idx => (show EReal from m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 8).trans (final_8 m c (hx c)), ((h.1 c).1 9).trans (final_9 m c), ((h.1 c).1 10).trans (final_10 m c),
    ((h.1 c).1 11).trans (final_11 m c), ((h.1 c).1 12).trans (final_12 m c), ((h.1 c).1 13).trans (final_13 m c),
    ((h.1 c).1 0).trans (((dats m 0 c).arrAt_in 0 rfl _).trans (A_eq m c 0)), ((h.1 c).1 3).trans (((dats m 0 c).arrAt_in 3 rfl _).trans (A_eq m c 3)),
    ((h.1 c).1 4).trans (((dats m 0 c).arrAt_in 4 rfl _).trans (A_eq m c 4)), ((h.1 c).1 5).trans (((dats m 0 c).arrAt_in 5 rfl _).trans (A_eq m c 5)),
    ((h.1 c).1 6).trans (((dats m 0 c).arrAt_in 6 rfl _).trans (A_eq m c 6)), ((h.1 c).1 7).trans (((dats m 0 c).arrAt_in 7 rfl _).trans (A_eq m c 7))⟩) (run_quiescent m ρ)

end Cert.KernelIdeal.Attn

end
-- ==== Proof.lean ====
module

public import proofs.«01_k».proof.Defs
public import proofs.«01_k».proof.Proof.Ffn.Value
public import proofs.«01_k».proof.Proof.Ple.Value
public import proofs.«01_k».proof.Proof.InProj.Value
public import proofs.«01_k».proof.Proof.AttnB.Frame
public import proofs.«01_k».proof.Proof.Attn.Frame
public import proofs.«01_k».proof.Proof.Attn.Finite
public import proofs.«01_k».proof.Proof.Attn.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Value
public import proofs.«01_k».proof.Proof.Gen.Ple
public import proofs.«01_k».proof.Proof.Gen.Ple.Frame
public import proofs.«01_k».proof.Proof.Gen.PleIdeal
public import proofs.«01_k».proof.Proof.Gen.PleIdeal.Value
public import proofs.«01_k».proof.Proof.Gen.InProj
public import proofs.«01_k».proof.Proof.Gen.InProj.Frame
public import proofs.«01_k».proof.Proof.Gen.InProjIdeal
public import proofs.«01_k».proof.Proof.Gen.InProjIdeal.Value
public import proofs.«01_k».proof.Proof.Gen.FfnReferenceIdeal
public import proofs.«01_k».proof.Proof.Gen.FfnReferenceIdeal.Run
public import proofs.«01_k».proof.Proof.Gen.PleReferenceIdeal
public import proofs.«01_k».proof.Proof.Gen.PleReferenceIdeal.Run
public import proofs.«01_k».proof.Proof.Gen.InProjReferenceIdeal
public import proofs.«01_k».proof.Proof.Gen.InProjReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, its arguments end unchanged, and it has no semaphore. -/
theorem frame_ReferenceIdeal : Cert.quiescent_ReferenceIdeal (hReferenceIdeal := Cert.ReferenceIdeal.Gen.facts) := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

theorem preserves : Cert.preserves_Kernel_KernelIdeal :=
  ⟨IdealRules.named_const.statement _ _ _ _ _ rfl, IdealRules.named_const.statement _ _ _ _ _ rfl⟩

/-- From finite projections, the attention's results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.KernelIdeal.Attn.pre_facts) := by
  intro m g m' g' hp ha
  have hx : ∀ c : Dev Cert.KernelIdeal.nD, Cert.KernelIdeal.Attn.Is (m ((c.tc : Thread Cert.KernelIdeal.nD Cert.KernelIdeal.τ).loc Cert.KernelIdeal.main_arg0))
      (Cert.KernelIdeal.Attn.reals (m ((c.tc : Thread Cert.KernelIdeal.nD Cert.KernelIdeal.τ).loc Cert.KernelIdeal.main_arg0))) := fun c =>
    letI := Cert.KernelIdeal.Attn.pre_facts
    Cert.KernelIdeal.Attn.is_reals _ _ _ _ _ _ (hp c)
  refine ⟨_, _, _, _, _, _, Cert.KernelIdeal.Attn.run_value m g hx,
    (θ_run Cert.ReferenceIdeal.defs _ _).mono (fun r h c => ?_) (Cert.ReferenceIdeal.Value.run (F := Ideal) m' g')⟩
  obtain ⟨h0, h1, h2, h3, h4, h5, hr⟩ := h c
  obtain ⟨a0, a1, a2, a3, a4, a5⟩ := ha c
  exact ⟨h0.trans (funext (Cert.ReferenceIdeal.Attn.res_is m' c (a0 ▸ hx c))), h1.trans a1, h2.trans a2, h3.trans a3, h4.trans a4, h5.trans a5, hr⟩

/-- The convolution feed-forward: the kernel as written runs, its arguments end unchanged and every counter at zero. -/
theorem frame_Ffn : Cert.quiescent_Ffn (hFfn := Cert.Ffn.Gen.facts) := fun m ρ _ =>
  Cert.Ffn.Gen.frame m ρ

/-- The convolution feed-forward: the same of the idealized kernel. -/
theorem frame_FfnIdeal : Cert.quiescent_FfnIdeal (hFfnIdeal := Cert.FfnIdeal.Gen.facts) := fun m ρ _ =>
  Cert.FfnIdeal.Gen.frame m ρ

/-- The convolution feed-forward: the reference runs, its arguments end unchanged, and it has no semaphore. -/
theorem frame_FfnReferenceIdeal : Cert.quiescent_FfnReferenceIdeal (hFfnReferenceIdeal := Cert.FfnReferenceIdeal.Gen.facts) := fun m ρ _ =>
  (θ_run Cert.FfnReferenceIdeal.defs _ _).mono
    (fun r h => ⟨fun c => (h c).2, sem_eq_zero_of_no_sems (by decide) r.2⟩)
    (Cert.FfnReferenceIdeal.Value.run (F := Ideal) m ρ)

/-- The gated per-layer embedding: the kernel as written runs, its arguments end unchanged and every counter at zero. -/
theorem frame_Ple : Cert.quiescent_Ple (hPle := Cert.Ple.Gen.facts) := fun m ρ _ =>
  Cert.Ple.Gen.frame m ρ

/-- The gated per-layer embedding: the same of the idealized kernel. -/
theorem frame_PleIdeal : Cert.quiescent_PleIdeal (hPleIdeal := Cert.PleIdeal.Gen.facts) := fun m ρ _ =>
  Cert.PleIdeal.Gen.frame m ρ

/-- The gated per-layer embedding: the reference runs, its arguments end unchanged, and it has no semaphore. -/
theorem frame_PleReferenceIdeal : Cert.quiescent_PleReferenceIdeal (hPleReferenceIdeal := Cert.PleReferenceIdeal.Gen.facts) := fun m ρ _ =>
  (θ_run Cert.PleReferenceIdeal.defs _ _).mono
    (fun r h => ⟨fun c => (h c).2, sem_eq_zero_of_no_sems (by decide) r.2⟩)
    (Cert.PleReferenceIdeal.Value.run (F := Ideal) m ρ)

/-- The gated per-layer embedding's result is the reference's. -/
theorem algebraic_Ple : Cert.algebraic_PleIdeal_PleReferenceIdeal (hPleIdeal := Cert.PleIdeal.Gen.facts) (hPleReferenceIdeal := Cert.PleReferenceIdeal.Gen.facts) := by
  intro m g m' g' _ ha
  refine ⟨_, Cert.PleIdeal.Ple.run_value m g, (θ_run Cert.PleReferenceIdeal.defs _ _).mono (fun r h c => ?_) (Cert.PleReferenceIdeal.Value.run (F := Ideal) m' g')⟩
  obtain ⟨h0, hr⟩ := h c
  obtain ⟨a0, a1, a2, a3, a4⟩ := ha c
  refine ⟨h0.trans ?_, hr⟩
  rw [a0, a1, a2, a3, a4]

/-- The normalization and the input projection: the kernel as written runs, its arguments end unchanged and every counter at zero. -/
theorem frame_InProj : Cert.quiescent_InProj (hInProj := Cert.InProj.Gen.facts) := fun m ρ _ =>
  Cert.InProj.Gen.frame m ρ

/-- The normalization and the input projection: the same of the idealized kernel. -/
theorem frame_InProjIdeal : Cert.quiescent_InProjIdeal (hInProjIdeal := Cert.InProjIdeal.Gen.facts) := fun m ρ _ =>
  Cert.InProjIdeal.Gen.frame m ρ

/-- The normalization and the input projection: the reference runs, its arguments end unchanged, and it has no semaphore. -/
theorem frame_InProjReferenceIdeal : Cert.quiescent_InProjReferenceIdeal (hInProjReferenceIdeal := Cert.InProjReferenceIdeal.Gen.facts) := fun m ρ _ =>
  (θ_run Cert.InProjReferenceIdeal.defs _ _).mono
    (fun r h => ⟨fun c => (h c).2.2, sem_eq_zero_of_no_sems (by decide) r.2⟩)
    (Cert.InProjReferenceIdeal.Value.run (F := Ideal) m ρ)

/-- The input projection's results are the reference's. -/
theorem algebraic_InProj : Cert.algebraic_InProjIdeal_InProjReferenceIdeal (hInProjIdeal := Cert.InProjIdeal.Gen.facts) (hInProjReferenceIdeal := Cert.InProjReferenceIdeal.Gen.facts) := by
  intro m g m' g' _ ha
  refine ⟨_, _, Cert.InProjIdeal.InProj.run_value m g, (θ_run Cert.InProjReferenceIdeal.defs _ _).mono (fun r h c => ?_) (Cert.InProjReferenceIdeal.Value.run (F := Ideal) m' g')⟩
  obtain ⟨h0, h1, hr⟩ := h c
  obtain ⟨a0, a1, a2, a3⟩ := ha c
  refine ⟨h0.trans ?_, h1.trans ?_, hr⟩
  · rw [a0, a1, a2]
  · rw [a3]

/-- Every run of the feed-forward: its result is the reference's. -/
theorem algebraic_Ffn : Cert.algebraic_FfnIdeal_FfnReferenceIdeal (hFfnIdeal := Cert.FfnIdeal.Gen.facts) (hFfnReferenceIdeal := Cert.FfnReferenceIdeal.Gen.facts) := by
  intro m g m' g' _ ha
  refine ⟨_, Cert.FfnIdeal.Ffn.run_value m g, (θ_run Cert.FfnReferenceIdeal.defs _ _).mono (fun r h c => ?_) (Cert.FfnReferenceIdeal.Value.run (F := Ideal) m' g')⟩
  obtain ⟨h0, hr⟩ := h c
  obtain ⟨a0, a1, a2, a3, a4, a5, a6⟩ := ha c
  refine ⟨h0.trans ?_, hr⟩
  rw [Cert.FfnReferenceIdeal.Ffn.res_eq, a0, a1, a2, a3, a4, a5, a6]

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Ple.Gen.facts, Cert.PleIdeal.Gen.facts, Cert.PleReferenceIdeal.Gen.facts,
    Cert.InProj.Gen.facts, Cert.InProjIdeal.Gen.facts, Cert.InProjReferenceIdeal.Gen.facts, Cert.KernelIdeal.Attn.pre_facts,
    fun m ρ _ => Cert.Kernel.Attn.frame m ρ, fun m ρ _ => Cert.KernelIdeal.Attn.frame m ρ, fun m ρ _ => Cert.KernelIdeal.Attn.frame m ρ,
    frame_ReferenceIdeal, fun m ρ _ => frame_ReferenceIdeal m ρ trivial,
    frame_Ffn, frame_FfnIdeal, frame_FfnReferenceIdeal, frame_Ple, frame_PleIdeal, frame_PleReferenceIdeal,
    frame_InProj, frame_InProjIdeal, frame_InProjReferenceIdeal,
    preserves, algebraic, trivial, algebraic_Ffn, trivial, algebraic_Ple, IdealRules.named_const.statement _ _ _ _ _ rfl, algebraic_InProj⟩

end Cert.Proof

end
